-- ==== Defs.lean ====
def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite [hPre_finite : Cert.Pre_finite.Facts] (m : (ℓ : Loc Cert.MixerIdeal.nD Cert.MixerIdeal.τ Cert.MixerIdeal.sig) → Buf (Elt Ideal) ℓ) : Prop :=
  ∀ c : Dev Cert.MixerIdeal.nD,
    (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16))).1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16))).2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16))).2.2.1 = (fun _ => 1#1)
    ∧ (Cert.Pre_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14)) (m ((c.tc : Thread Cert.MixerIdeal.nD Cert.MixerIdeal.τ).loc Cert.MixerIdeal.main_arg15)) (m ((c.tc : Thread Cert.MixerIdeal.nD Cert.MixerIdeal.τ).loc Cert.MixerIdeal.main_arg16))).2.2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite [hPre_finite : Cert.Pre_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16))).1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16))).2.1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16))).2.2.1 = (fun _ => 1#1)
    ∧ (Cert.Pre_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14)) (m ((c.tc : Thread Cert.MixerRefIdeal.nD Cert.MixerRefIdeal.τ).loc Cert.MixerRefIdeal.main_arg15)) (m ((c.tc : Thread Cert.MixerRefIdeal.nD Cert.MixerRefIdeal.τ).loc Cert.MixerRefIdeal.main_arg16))).2.2.2 = (fun _ => 1#1)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9)
      ∧ r.2.mem ((c.tc : Thread Cert.FrontRefIdeal.nD Cert.FrontRefIdeal.τ).loc Cert.FrontRefIdeal.main_arg10) = m ((c.tc : Thread Cert.FrontRefIdeal.nD Cert.FrontRefIdeal.τ).loc Cert.FrontRefIdeal.main_arg10)
      ∧ r.2.mem ((c.tc : Thread Cert.FrontRefIdeal.nD Cert.FrontRefIdeal.τ).loc Cert.FrontRefIdeal.main_arg11) = m ((c.tc : Thread Cert.FrontRefIdeal.nD Cert.FrontRefIdeal.τ).loc Cert.FrontRefIdeal.main_arg11))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14)
      ∧ r.2.mem ((c.tc : Thread Cert.Mixer.nD Cert.Mixer.τ).loc Cert.Mixer.main_arg15) = m ((c.tc : Thread Cert.Mixer.nD Cert.Mixer.τ).loc Cert.Mixer.main_arg15)
      ∧ r.2.mem ((c.tc : Thread Cert.Mixer.nD Cert.Mixer.τ).loc Cert.Mixer.main_arg16) = m ((c.tc : Thread Cert.Mixer.nD Cert.Mixer.τ).loc Cert.Mixer.main_arg16))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def quiescent_MixerIdeal_pre_finite [hMixerIdeal : Cert.MixerIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
      ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
      ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16))
      ∧ r.2.sem = fun _ => 0)

def quiescent_MixerRefIdeal_pre_finite [hMixerRefIdeal : Cert.MixerRefIdeal.Facts] [hPre_finite : Cert.Pre_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14)
      ∧ r.2.mem ((c.tc : Thread Cert.MixerRefIdeal.nD Cert.MixerRefIdeal.τ).loc Cert.MixerRefIdeal.main_arg15) = m ((c.tc : Thread Cert.MixerRefIdeal.nD Cert.MixerRefIdeal.τ).loc Cert.MixerRefIdeal.main_arg15)
      ∧ r.2.mem ((c.tc : Thread Cert.MixerRefIdeal.nD Cert.MixerRefIdeal.τ).loc Cert.MixerRefIdeal.main_arg16) = m ((c.tc : Thread Cert.MixerRefIdeal.nD Cert.MixerRefIdeal.τ).loc Cert.MixerRefIdeal.main_arg16))
      ∧ r.2.sem = fun _ => 0)

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)
      ∧ m' ((c.tc : Thread Cert.FrontRefIdeal.nD Cert.FrontRefIdeal.τ).loc Cert.FrontRefIdeal.main_arg10) = m ((c.tc : Thread Cert.FrontIdeal.nD Cert.FrontIdeal.τ).loc Cert.FrontIdeal.main_arg10)
      ∧ m' ((c.tc : Thread Cert.FrontRefIdeal.nD Cert.FrontRefIdeal.τ).loc Cert.FrontRefIdeal.main_arg11) = m ((c.tc : Thread Cert.FrontIdeal.nD Cert.FrontIdeal.τ).loc Cert.FrontIdeal.main_arg11)) →
    ∃ (v0 : (c : Dev Cert.FrontIdeal.nD) → Buf (Elt Ideal) ((c.tc : Thread Cert.FrontIdeal.nD Cert.FrontIdeal.τ).loc Cert.FrontIdeal.main_v31_0)) (v1 : (c : Dev Cert.FrontIdeal.nD) → Buf (Elt Ideal) ((c.tc : Thread Cert.FrontIdeal.nD Cert.FrontIdeal.τ).loc Cert.FrontIdeal.main_v31_1)) (v2 : (c : Dev Cert.FrontIdeal.nD) → Buf (Elt Ideal) ((c.tc : Thread Cert.FrontIdeal.nD Cert.FrontIdeal.τ).loc Cert.FrontIdeal.main_v31_2)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v31_0) = v0 c
          ∧ r.2.mem ((c.tc : Thread Cert.FrontIdeal.nD Cert.FrontIdeal.τ).loc Cert.FrontIdeal.main_v31_1) = v1 c
          ∧ r.2.mem ((c.tc : Thread Cert.FrontIdeal.nD Cert.FrontIdeal.τ).loc Cert.FrontIdeal.main_v31_2) = v2 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v163) = v0 c
          ∧ r.2.mem ((c.tc : Thread Cert.FrontRefIdeal.nD Cert.FrontRefIdeal.τ).loc Cert.FrontRefIdeal.main_v104) = v1 c
          ∧ r.2.mem ((c.tc : Thread Cert.FrontRefIdeal.nD Cert.FrontRefIdeal.τ).loc Cert.FrontRefIdeal.main_v164) = v2 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9)
          ∧ r.2.mem ((c.tc : Thread Cert.FrontRefIdeal.nD Cert.FrontRefIdeal.τ).loc Cert.FrontRefIdeal.main_arg10) = m' ((c.tc : Thread Cert.FrontRefIdeal.nD Cert.FrontRefIdeal.τ).loc Cert.FrontRefIdeal.main_arg10)
          ∧ r.2.mem ((c.tc : Thread Cert.FrontRefIdeal.nD Cert.FrontRefIdeal.τ).loc Cert.FrontRefIdeal.main_arg11) = m' ((c.tc : Thread Cert.FrontRefIdeal.nD Cert.FrontRefIdeal.τ).loc Cert.FrontRefIdeal.main_arg11))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v48) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_Mixer_MixerIdeal : Prop :=
  True

def algebraic_MixerIdeal_MixerRefIdeal_pre_finite [hMixerIdeal : Cert.MixerIdeal.Facts] [hMixerRefIdeal : Cert.MixerRefIdeal.Facts] [hPre_finite : Cert.Pre_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)
      ∧ m' ((c.tc : Thread Cert.MixerRefIdeal.nD Cert.MixerRefIdeal.τ).loc Cert.MixerRefIdeal.main_arg15) = m ((c.tc : Thread Cert.MixerIdeal.nD Cert.MixerIdeal.τ).loc Cert.MixerIdeal.main_arg15)
      ∧ m' ((c.tc : Thread Cert.MixerRefIdeal.nD Cert.MixerRefIdeal.τ).loc Cert.MixerRefIdeal.main_arg16) = m ((c.tc : Thread Cert.MixerIdeal.nD Cert.MixerIdeal.τ).loc Cert.MixerIdeal.main_arg16)) →
    ∃ (v0 : (c : Dev Cert.MixerIdeal.nD) → Buf (Elt Ideal) ((c.tc : Thread Cert.MixerIdeal.nD Cert.MixerIdeal.τ).loc Cert.MixerIdeal.main_v160_0)) (v1 : (c : Dev Cert.MixerIdeal.nD) → Buf (Elt Ideal) ((c.tc : Thread Cert.MixerIdeal.nD Cert.MixerIdeal.τ).loc Cert.MixerIdeal.main_v160_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v160_0) = v0 c
          ∧ r.2.mem ((c.tc : Thread Cert.MixerIdeal.nD Cert.MixerIdeal.τ).loc Cert.MixerIdeal.main_v160_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14)
          ∧ r.2.mem ((c.tc : Thread Cert.MixerIdeal.nD Cert.MixerIdeal.τ).loc Cert.MixerIdeal.main_arg15) = m ((c.tc : Thread Cert.MixerIdeal.nD Cert.MixerIdeal.τ).loc Cert.MixerIdeal.main_arg15)
          ∧ r.2.mem ((c.tc : Thread Cert.MixerIdeal.nD Cert.MixerIdeal.τ).loc Cert.MixerIdeal.main_arg16) = m ((c.tc : Thread Cert.MixerIdeal.nD Cert.MixerIdeal.τ).loc Cert.MixerIdeal.main_arg16))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v213) = v0 c
          ∧ r.2.mem ((c.tc : Thread Cert.MixerRefIdeal.nD Cert.MixerRefIdeal.τ).loc Cert.MixerRefIdeal.main_v214) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14)
          ∧ r.2.mem ((c.tc : Thread Cert.MixerRefIdeal.nD Cert.MixerRefIdeal.τ).loc Cert.MixerRefIdeal.main_arg15) = m' ((c.tc : Thread Cert.MixerRefIdeal.nD Cert.MixerRefIdeal.τ).loc Cert.MixerRefIdeal.main_arg15)
          ∧ r.2.mem ((c.tc : Thread Cert.MixerRefIdeal.nD Cert.MixerRefIdeal.τ).loc Cert.MixerRefIdeal.main_arg16) = m' ((c.tc : Thread Cert.MixerRefIdeal.nD Cert.MixerRefIdeal.τ).loc Cert.MixerRefIdeal.main_arg16))

def Claim : Prop :=
  ∃ (hFront : Cert.Front.Facts) (hFrontIdeal : Cert.FrontIdeal.Facts) (hFrontRefIdeal : Cert.FrontRefIdeal.Facts) (hMlp : Cert.Mlp.Facts) (hMlpIdeal : Cert.MlpIdeal.Facts) (hMlpRefIdeal : Cert.MlpRefIdeal.Facts) (hMixer : Cert.Mixer.Facts) (hMixerIdeal : Cert.MixerIdeal.Facts) (hMixerRefIdeal : Cert.MixerRefIdeal.Facts) (hPre_finite : Cert.Pre_finite.Facts),
    quiescent_Front (hFront := hFront)
    ∧ quiescent_FrontIdeal (hFrontIdeal := hFrontIdeal)
    ∧ quiescent_FrontRefIdeal (hFrontRefIdeal := hFrontRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Mixer (hMixer := hMixer)
    ∧ quiescent_MixerIdeal (hMixerIdeal := hMixerIdeal)
    ∧ quiescent_MixerIdeal_pre_finite (hMixerIdeal := hMixerIdeal) (hPre_finite := hPre_finite)
    ∧ quiescent_MixerRefIdeal (hMixerRefIdeal := hMixerRefIdeal)
    ∧ quiescent_MixerRefIdeal_pre_finite (hMixerRefIdeal := hMixerRefIdeal) (hPre_finite := hPre_finite)
    ∧ preserves_Front_FrontIdeal
    ∧ algebraic_FrontIdeal_FrontRefIdeal (hFrontIdeal := hFrontIdeal) (hFrontRefIdeal := hFrontRefIdeal)
    ∧ preserves_Mlp_MlpIdeal
    ∧ algebraic_MlpIdeal_MlpRefIdeal (hMlpIdeal := hMlpIdeal) (hMlpRefIdeal := hMlpRefIdeal)
    ∧ preserves_Mixer_MixerIdeal
    ∧ algebraic_MixerIdeal_MixerRefIdeal_pre_finite (hMixerIdeal := hMixerIdeal) (hMixerRefIdeal := hMixerRefIdeal) (hPre_finite := hPre_finite)
-- ==== Pre_finite.lean ====
abbrev S4x4096x1024 : Shape := ⟨3, ![4, 4096, 1024]⟩
abbrev S8x6x1024 : Shape := ⟨3, ![8, 6, 1024]⟩
abbrev S1024 : Shape := ⟨1, ![1024]⟩
abbrev S1024x4608 : Shape := ⟨2, ![1024, 4608]⟩
abbrev S16x64x64 : Shape := ⟨3, ![16, 64, 64]⟩
abbrev S4x1x1024 : Shape := ⟨3, ![4, 1, 1024]⟩
abbrev S4x128x128 : Shape := ⟨3, ![4, 128, 128]⟩
abbrev S512 : Shape := ⟨1, ![512]⟩
abbrev S1024x1024 : Shape := ⟨2, ![1024, 1024]⟩
abbrev S512x1024 : Shape := ⟨2, ![512, 1024]⟩
abbrev S_ : Shape := ⟨0, ![]⟩

class Facts : Prop where
  bcast_S_S4x4096x1024 : S_.BroadcastsInDim S4x4096x1024 (![] : Fin 0 → Fin S4x4096x1024.rank)
  bcast_S_S8x6x1024 : S_.BroadcastsInDim S8x6x1024 (![] : Fin 0 → Fin S8x6x1024.rank)
  bcast_S_S1024 : S_.BroadcastsInDim S1024 (![] : Fin 0 → Fin S1024.rank)
  bcast_S_S1024x4608 : S_.BroadcastsInDim S1024x4608 (![] : Fin 0 → Fin S1024x4608.rank)

variable [Facts]

def fn {F : FTy → Type} [FloatOps F] (main_arg0 : FVec F S4x4096x1024 .f32) (main_arg1 : FVec F S4x4096x1024 .f32) (main_arg2 : FVec F S4x4096x1024 .f32) (main_arg3 : FVec F S8x6x1024 .f32) (main_arg4 : FVec F S1024 .f32) (main_arg5 : FVec F S1024x4608 .f32) (main_arg6 : FVec F S16x64x64 .f32) (main_arg7 : FVec F S1024 .f32) (main_arg8 : FVec F S16x64x64 .f32) (main_arg9 : FVec F S1024 .f32) (main_arg10 : FVec F S1024 .f32) (main_arg11 : FVec F S4x1x1024 .f32) (main_arg12 : FVec F S4x128x128 .f32) (main_arg13 : FVec F S512 .f32) (main_arg14 : FVec F S1024x1024 .f32) (main_arg15 : FVec F S512x1024 .f32) (main_arg16 : FVec F S1024x1024 .f32) : IVec S4x4096x1024 1 × IVec S8x6x1024 1 × IVec S1024 1 × IVec S1024x4608 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S8x6x1024 .f32 := Host.absf main_arg3
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S1024 .f32 := Host.absf main_arg4
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4608 .f32 := Host.absf main_arg5
  let main_cst_2 : FVec F S_ .f32 := constant S_ .f32 0x7F800000#32
  let main_v10 : FVec F S1024x4608 .f32 := broadcastInDim S1024x4608 ![] bcast_S_S1024x4608 main_cst_2
  let main_v11 : IVec S1024x4608 1 := cmpf .olt main_v9 main_v10
  (main_v2, main_v5, main_v8, main_v11)
-- ==== Front.lean ====
abbrev S4x4096x1024 : Shape := ⟨3, ![4, 4096, 1024]⟩
abbrev S8x6x1024 : Shape := ⟨3, ![8, 6, 1024]⟩
abbrev S1024 : Shape := ⟨1, ![1024]⟩
abbrev S1024x4608 : Shape := ⟨2, ![1024, 4608]⟩
abbrev S4x1024 : Shape := ⟨2, ![4, 1024]⟩
abbrev S16x64x64 : Shape := ⟨3, ![16, 64, 64]⟩
abbrev S4x1x1024 : Shape := ⟨3, ![4, 1, 1024]⟩
abbrev S1024x1024 : Shape := ⟨2, ![1024, 1024]⟩
abbrev S1x1024 : Shape := ⟨2, ![1, 1024]⟩
abbrev S4x4 : Shape := ⟨2, ![4, 4]⟩
abbrev S_ : Shape := ⟨0, ![]⟩
abbrev S4x4x64x64 : Shape := ⟨4, ![4, 4, 64, 64]⟩
abbrev S4x4x64x1x64 : Shape := ⟨5, ![4, 4, 64, 1, 64]⟩
abbrev S4x1x4x1 : Shape := ⟨4, ![4, 1, 4, 1]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S1x512x1024 : Shape := ⟨3, ![1, 512, 1024]⟩
abbrev S1x8x1024 : Shape := ⟨3, ![1, 8, 1024]⟩
abbrev S1x6x1024 : Shape := ⟨3, ![1, 6, 1024]⟩
abbrev S1x1x1024 : Shape := ⟨3, ![1, 1, 1024]⟩
abbrev S528x1024 : Shape := ⟨2, ![528, 1024]⟩
abbrev S512x1024 : Shape := ⟨2, ![512, 1024]⟩
abbrev S6x1024 : Shape := ⟨2, ![6, 1024]⟩
abbrev S8x1024 : Shape := ⟨2, ![8, 1024]⟩
abbrev S528 : Shape := ⟨1, ![528]⟩
abbrev S528x1 : Shape := ⟨2, ![528, 1]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x256 : Shape := ⟨2, ![1, 256]⟩

abbrev nBuf : Space → Nat
  | .hbm => 47
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S1024, .f32⟩
  | .hbm, ⟨3, _⟩ => ⟨S1024x4608, .f32⟩
  | .hbm, ⟨4, _⟩ => ⟨S4x1024, .f32⟩
  | .hbm, ⟨5, _⟩ => ⟨S1024, .f32⟩
  | .hbm, ⟨6, _⟩ => ⟨S16x64x64, .f32⟩
  | .hbm, ⟨7, _⟩ => ⟨S1024, .f32⟩
  | .hbm, ⟨8, _⟩ => ⟨S16x64x64, .f32⟩
  | .hbm, ⟨9, _⟩ => ⟨S1024, .f32⟩
  | .hbm, ⟨10, _⟩ => ⟨S1024, .f32⟩
  | .hbm, ⟨11, _⟩ => ⟨S4x1x1024, .f32⟩
  | .hbm, ⟨12, _⟩ => ⟨S1024x4608, .bf16⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S4x4x64x64, .f32⟩
  | .hbm, ⟨24, _⟩ => ⟨S4x4x64x1x64, .f32⟩
  | .hbm, ⟨25, _⟩ => ⟨S4x1x4x1, .f32⟩
  | .hbm, ⟨26, _⟩ => ⟨S1x4x1x4x1, .f32⟩
  | .hbm, ⟨27, _⟩ => ⟨S4x4x64x4x64, .f32⟩
  | .hbm, ⟨28, _⟩ => ⟨S4x4x64x4x64, .f32⟩
  | .hbm, ⟨29, _⟩ => ⟨S4x4x64x4x64, .f32⟩
  | .hbm, ⟨30, _⟩ => ⟨S4x256x256, .f32⟩
  | .hbm, ⟨31, _⟩ => ⟨S4x4x64x64, .f32⟩
  | .hbm, ⟨32, _⟩ => ⟨S4x4x64x1x64, .f32⟩
  | .hbm, ⟨33, _⟩ => ⟨S4x1x4x1, .f32⟩
  | .hbm, ⟨34, _⟩ => ⟨S1x4x1x4x1, .f32⟩
  | .hbm, ⟨35, _⟩ => ⟨S4x4x64x4x64, .f32⟩
  | .hbm, ⟨36, _⟩ => ⟨S4x4x64x4x64, .f32⟩
  | .hbm, ⟨37, _⟩ => ⟨S4x4x64x4x64, .f32⟩
  | .hbm, ⟨38, _⟩ => ⟨S4x256x256, .f32⟩
  | .hbm, ⟨39, _⟩ => ⟨S4x256x512, .f32⟩
  | .hbm, ⟨40, _⟩ => ⟨S4x256x512, .bf16⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S4x4096x1024, .f32⟩
  | .hbm, ⟨45, _⟩ => ⟨S4x4096x1024, .f32⟩
  | .hbm, ⟨46, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S4x1024, .f32⟩
  | .local _ .vmem, ⟨11, _⟩ => ⟨S1x1024, .f32⟩
  | .local _ .vmem, ⟨12, _⟩ => ⟨S4x256x512, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x1x1024, .f32⟩
  | .local _ .vmem, ⟨23, _⟩ => ⟨S1x1x1024, .f32⟩
  | .local _ .vmem, ⟨24, _⟩ => ⟨S528x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_84 : BitVec 32 := 0#32
  let c64_i32 : BitVec 32 := 64#32
  let v250 : BitVec 32 := Scalar.addi c0_i32_84 c64_i32
  let c1_i32 : BitVec 32 := 1#32
  ⟨c0_i32_84, v250, c1_i32⟩
def k0_mult1 (k0_t1 : Fin k0_t1_loop.trips) : BitVec 32 :=
  let c0_i32_84 : BitVec 32 := 0#32
  let c1_i32 : BitVec 32 := 1#32
  let arg22 : BitVec 32 := Scf.iv c0_i32_84 c1_i32 k0_t1
  let c8_i32_91 : BitVec 32 := 8#32
  let v258 : BitVec 32 := Scalar.muli arg22 c8_i32_91
  v258
def k0_off1 (k0_t1 : Fin k0_t1_loop.trips) : Fin 2 → Nat :=
  let c0_i32_84 : BitVec 32 := 0#32
  let c1_i32 : BitVec 32 := 1#32
  let arg22 : BitVec 32 := Scf.iv c0_i32_84 c1_i32 k0_t1
  let c8_i32_91 : BitVec 32 := 8#32
  let v258 : BitVec 32 := Scalar.muli arg22 c8_i32_91
  let v259 : BitVec 32 := v258
  let v260 : Index := Scalar.indexCast v259
  let c0_92 : Index := 0#32
  ![v260.toNat, 0]
def k0_off2 (k0_t1 : Fin k0_t1_loop.trips) : Fin 3 → Nat :=
  let c0_104 : Index := 0#32
  let c0_i32_84 : BitVec 32 := 0#32
  let c1_i32 : BitVec 32 := 1#32
  let arg22 : BitVec 32 := Scf.iv c0_i32_84 c1_i32 k0_t1
  let c8_i32_91 : BitVec 32 := 8#32
  let v258 : BitVec 32 := Scalar.muli arg22 c8_i32_91
  let v259 : BitVec 32 := v258
  let v298 : Index := Scalar.indexCast v259
  let c0_105 : Index := 0#32
  ![0, v298.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FrontRefIdeal.lean ====
abbrev S4x4096x1024 : Shape := ⟨3, ![4, 4096, 1024]⟩
abbrev S8x6x1024 : Shape := ⟨3, ![8, 6, 1024]⟩
abbrev S1024 : Shape := ⟨1, ![1024]⟩
abbrev S1024x4608 : Shape := ⟨2, ![1024, 4608]⟩
abbrev S4x1024 : Shape := ⟨2, ![4, 1024]⟩
abbrev S16x64x64 : Shape := ⟨3, ![16, 64, 64]⟩
abbrev S4x1x1024 : Shape := ⟨3, ![4, 1, 1024]⟩
abbrev S4x6x1024 : Shape := ⟨3, ![4, 6, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x1024 : Shape := ⟨2, ![1024, 1024]⟩
abbrev S4x4099x1024 : Shape := ⟨3, ![4, 4099, 1024]⟩
abbrev S1x1024 : Shape := ⟨2, ![1, 1024]⟩
abbrev S4x4096x16x64 : Shape := ⟨4, ![4, 4096, 16, 64]⟩
abbrev S16x64x4x4096 : Shape := ⟨4, ![16, 64, 4, 4096]⟩
abbrev S4096x4x1024 : Shape := ⟨3, ![4096, 4, 1024]⟩
abbrev S1x4x1024 : Shape := ⟨3, ![1, 4, 1024]⟩

abbrev nBuf : Space → Nat
  | .hbm => 232
  | .vmem => 0
  | .smem => 0
  | _ => 0

abbrev hbmTy0_0 (i : Nat) : BufTy := match i % 128 with
  | 0 => ⟨S4x4096x1024, .f32⟩
  | 1 => ⟨S8x6x1024, .f32⟩
  | 2 => ⟨S1024, .f32⟩
  | 3 => ⟨S1024x4608, .f32⟩
  | 4 => ⟨S4x1024, .f32⟩
  | 5 => ⟨S1024, .f32⟩
  | 6 => ⟨S16x64x64, .f32⟩
  | 7 => ⟨S1024, .f32⟩
  | 8 => ⟨S16x64x64, .f32⟩
  | 9 => ⟨S1024, .f32⟩
  | 10 => ⟨S1024, .f32⟩
  | 11 => ⟨S4x1x1024, .f32⟩
  | 12 => ⟨S4x6x1024, .f32⟩
  | 13 => ⟨S4x1x1024, .f32⟩
  | 14 => ⟨S4x1024, .f32⟩
  | 15 => ⟨S4x1x1024, .f32⟩
  | 16 => ⟨S4x1024, .f32⟩
  | 17 => ⟨S4x4096x1024, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x1024, .f32⟩
  | 29 => ⟨S4x4096x1024, .f32⟩
  | 30 => ⟨S1x1x1024, .f32⟩
  | 31 => ⟨S4x4096x1024, .f32⟩
  | 32 => ⟨S4x4096x1024, .f32⟩
  | 33 => ⟨S4x1x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x1x1024, .f32⟩
  | 40 => ⟨S4x4096x1024, .f32⟩
  | 41 => ⟨S4x4096x1024, .f32⟩
  | 42 => ⟨S1024x1024, .f32⟩
  | 43 => ⟨S4x4096x1024, .f32⟩
  | 44 => ⟨S_, .i32⟩
  | 45 => ⟨S_, .f32⟩
  | 46 => ⟨S4x4099x1024, .f32⟩
  | 47 => ⟨S4x4096x1024, .f32⟩
  | 48 => ⟨S1x1024, .f32⟩
  | 49 => ⟨S1024, .f32⟩
  | 50 => ⟨S1x1x1024, .f32⟩
  | 51 => ⟨S4x4096x1024, .f32⟩
  | 52 => ⟨S4x4096x1024, .f32⟩
  | 53 => ⟨S4x4096x1024, .f32⟩
  | 54 => ⟨S1x1024, .f32⟩
  | 55 => ⟨S1024, .f32⟩
  | 56 => ⟨S1x1x1024, .f32⟩
  | 57 => ⟨S4x4096x1024, .f32⟩
  | 58 => ⟨S4x4096x1024, .f32⟩
  | 59 => ⟨S4x4096x1024, .f32⟩
  | 60 => ⟨S4x4096x1024, .f32⟩
  | 61 => ⟨S1x1024, .f32⟩
  | 62 => ⟨S1024, .f32⟩
  | 63 => ⟨S1x1x1024, .f32⟩
  | 64 => ⟨S4x4096x1024, .f32⟩
  | 65 => ⟨S4x4096x1024, .f32⟩
  | 66 => ⟨S4x4096x1024, .f32⟩
  | 67 => ⟨S4x4096x1024, .f32⟩
  | 68 => ⟨S1x1024, .f32⟩
  | 69 => ⟨S1024, .f32⟩
  | 70 => ⟨S1x1x1024, .f32⟩
  | 71 => ⟨S4x4096x1024, .f32⟩
  | 72 => ⟨S4x4096x1024, .f32⟩
  | 73 => ⟨S4x4096x1024, .f32⟩
  | 74 => ⟨S1x1x1024, .f32⟩
  | 75 => ⟨S4x4096x1024, .f32⟩
  | 76 => ⟨S4x4096x1024, .f32⟩
  | 77 => ⟨S4x4096x16x64, .f32⟩
  | 78 => ⟨S16x64x4x4096, .f32⟩
  | 79 => ⟨S4x4096x16x64, .f32⟩
  | 80 => ⟨S4x4096x1024, .f32⟩
  | 81 => ⟨S1x1x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S_, .f32⟩
  | 87 => ⟨S4x4096x1024, .f32⟩
  | 88 => ⟨S4x4096x1024, .f32⟩
  | 89 => ⟨S_, .f32⟩
  | 90 => ⟨S4x4096x1024, .f32⟩
  | 91 => ⟨S4x4096x1024, .f32⟩
  | 92 => ⟨S16x64x4x4096, .f32⟩
  | 93 => ⟨S4x4096x16x64, .f32⟩
  | 94 => ⟨S4x4096x1024, .f32⟩
  | 95 => ⟨S1x1x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S_, .f32⟩
  | 101 => ⟨S4x4096x1024, .f32⟩
  | 102 => ⟨S4x4096x1024, .f32⟩
  | 103 => ⟨S_, .f32⟩
  | 104 => ⟨S4x4096x1024, .f32⟩
  | 105 => ⟨S4x4096x1024, .f32⟩
  | 106 => ⟨S_, .f32⟩
  | 107 => ⟨S4x4096x1024, .f32⟩
  | 108 => ⟨S4x4096x1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S1024, .f32⟩
  | 115 => ⟨S1024, .i1⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1024, .f32⟩
  | 123 => ⟨S1024, .f32⟩
  | 124 => ⟨S1x1x1024, .f32⟩
  | 125 => ⟨S4x4096x1024, .f32⟩
  | 126 => ⟨S4x4096x1024, .f32⟩
  | 127 => ⟨S4x4096x1024, .f32⟩
  | _ => ⟨S4x4096x1024, .f32⟩

abbrev hbmTy0_1 (i : Nat) : BufTy := match i % 128 with
  | 0 => ⟨S_, .f32⟩
  | 1 => ⟨S4x4096x1024, .f32⟩
  | 2 => ⟨S4x4096x1024, .f32⟩
  | 3 => ⟨S4x4096x1024, .f32⟩
  | 4 => ⟨S4x4096x1024, .f32⟩
  | 5 => ⟨S4x4096x1024, .f32⟩
  | 6 => ⟨S4x4096x1024, .f32⟩
  | 7 => ⟨S4x4096x1024, .f32⟩
  | 8 => ⟨S4x1024, .f32⟩
  | 9 => ⟨S4096x4x1024, .f32⟩
  | 10 => ⟨S4096x4x1024, .f32⟩
  | 11 => ⟨S_, .f32⟩
  | 12 => ⟨S4096x4x1024, .f32⟩
  | 13 => ⟨S_, .i32⟩
  | 14 => ⟨S4096x4x1024, .f32⟩
  | 15 => ⟨S4096x4x1024, .f32⟩
  | 16 => ⟨S_, .i32⟩
  | 17 => ⟨S4x1024, .f32⟩
  | 18 => ⟨S4096x4x1024, .f32⟩
  | 19 => ⟨S_, .i32⟩
  | 20 => ⟨S_, .i1⟩
  | 21 => ⟨S_, .i32⟩
  | 22 => ⟨S_, .i32⟩
  | 23 => ⟨S1x4x1024, .f32⟩
  | 24 => ⟨S4x1024, .f32⟩
  | 25 => ⟨S_, .i32⟩
  | 26 => ⟨S_, .i32⟩
  | 27 => ⟨S1x4x1024, .f32⟩
  | 28 => ⟨S4x1024, .f32⟩
  | 29 => ⟨S4x1024, .f32⟩
  | 30 => ⟨S4x1024, .f32⟩
  | 31 => ⟨S1x4x1024, .f32⟩
  | 32 => ⟨S_, .i32⟩
  | 33 => ⟨S_, .i32⟩
  | 34 => ⟨S4096x4x1024, .f32⟩
  | 35 => ⟨S_, .i32⟩
  | 36 => ⟨S_, .i32⟩
  | 37 => ⟨S4x4096x1024, .f32⟩
  | 38 => ⟨S4x6x1024, .f32⟩
  | 39 => ⟨S4x1x1024, .f32⟩
  | 40 => ⟨S4x1024, .f32⟩
  | 41 => ⟨S4x1x1024, .f32⟩
  | 42 => ⟨S4x1024, .f32⟩
  | 43 => ⟨S4x4096x1024, .f32⟩
  | 44 => ⟨S_, .f32⟩
  | 45 => ⟨S4x4096, .f32⟩
  | 46 => ⟨S4x4096x1, .f32⟩
  | 47 => ⟨S_, .f32⟩
  | 48 => ⟨S4x4096x1, .f32⟩
  | 49 => ⟨S4x4096x1, .f32⟩
  | 50 => ⟨S_, .f32⟩
  | 51 => ⟨S4x4096x1, .f32⟩
  | 52 => ⟨S4x4096x1, .f32⟩
  | 53 => ⟨S4x4096x1, .f32⟩
  | 54 => ⟨S4x4096x1024, .f32⟩
  | 55 => ⟨S4x4096x1024, .f32⟩
  | 56 => ⟨S1x1x1024, .f32⟩
  | 57 => ⟨S4x4096x1024, .f32⟩
  | 58 => ⟨S4x4096x1024, .f32⟩
  | 59 => ⟨S4x1x1024, .f32⟩
  | 60 => ⟨S_, .f32⟩
  | 61 => ⟨S4x1x1024, .f32⟩
  | 62 => ⟨S4x1x1024, .f32⟩
  | 63 => ⟨S4x4096x1024, .f32⟩
  | 64 => ⟨S4x4096x1024, .f32⟩
  | 65 => ⟨S4x1x1024, .f32⟩
  | 66 => ⟨S4x4096x1024, .f32⟩
  | 67 => ⟨S4x4096x1024, .f32⟩
  | 68 => ⟨S1024x1024, .f32⟩
  | 69 => ⟨S4x4096x1024, .f32⟩
  | 70 => ⟨S_, .i32⟩
  | 71 => ⟨S_, .f32⟩
  | 72 => ⟨S4x4099x1024, .f32⟩
  | 73 => ⟨S4x4096x1024, .f32⟩
  | 74 => ⟨S1x1024, .f32⟩
  | 75 => ⟨S1024, .f32⟩
  | 76 => ⟨S1x1x1024, .f32⟩
  | 77 => ⟨S4x4096x1024, .f32⟩
  | 78 => ⟨S4x4096x1024, .f32⟩
  | 79 => ⟨S4x4096x1024, .f32⟩
  | 80 => ⟨S1x1024, .f32⟩
  | 81 => ⟨S1024, .f32⟩
  | 82 => ⟨S1x1x1024, .f32⟩
  | 83 => ⟨S4x4096x1024, .f32⟩
  | 84 => ⟨S4x4096x1024, .f32⟩
  | 85 => ⟨S4x4096x1024, .f32⟩
  | 86 => ⟨S4x4096x1024, .f32⟩
  | 87 => ⟨S1x1024, .f32⟩
  | 88 => ⟨S1024, .f32⟩
  | 89 => ⟨S1x1x1024, .f32⟩
  | 90 => ⟨S4x4096x1024, .f32⟩
  | 91 => ⟨S4x4096x1024, .f32⟩
  | 92 => ⟨S4x4096x1024, .f32⟩
  | 93 => ⟨S4x4096x1024, .f32⟩
  | 94 => ⟨S1x1024, .f32⟩
  | 95 => ⟨S1024, .f32⟩
  | 96 => ⟨S1x1x1024, .f32⟩
  | 97 => ⟨S4x4096x1024, .f32⟩
  | 98 => ⟨S4x4096x1024, .f32⟩
  | 99 => ⟨S4x4096x1024, .f32⟩
  | 100 => ⟨S1x1x1024, .f32⟩
  | 101 => ⟨S4x4096x1024, .f32⟩
  | 102 => ⟨S4x4096x1024, .f32⟩
  | 103 => ⟨S4x1x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_3 : Ref sig .tc := ⟨.hbm, 86, rfl⟩
abbrev main_v68 : Ref sig .tc := ⟨.hbm, 87, rfl⟩
abbrev main_v69 : Ref sig .tc := ⟨.hbm, 88, rfl⟩
abbrev main_cst_4 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_5 : Ref sig .tc := ⟨.hbm, 100, rfl⟩
abbrev main_v80 : Ref sig .tc := ⟨.hbm, 101, rfl⟩
abbrev main_v81 : Ref sig .tc := ⟨.hbm, 102, rfl⟩
abbrev main_cst_6 : Ref sig .tc := ⟨.hbm, 103, rfl⟩
abbrev main_v82 : Ref sig .tc := ⟨.hbm, 104, rfl⟩
abbrev main_v83 : Ref sig .tc := ⟨.hbm, 105, rfl⟩
abbrev main_cst_7 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_call1_cst : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_v5 : Ref sig .tc := ⟨.hbm, 116, rfl⟩
abbrev main_call1_v6 : Ref sig .tc := ⟨.hbm, 117, rfl⟩
abbrev main_call1_v7 : Ref sig .tc := ⟨.hbm, 118, rfl⟩
abbrev main_call1_v8 : Ref sig .tc := ⟨.hbm, 119, rfl⟩
abbrev main_call1_v9 : Ref sig .tc := ⟨.hbm, 120, rfl⟩
abbrev main_call1_v10 : Ref sig .tc := ⟨.hbm, 121, rfl⟩
abbrev main_call1_v11 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_8 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_9 : Ref sig .tc := ⟨.hbm, 139, rfl⟩
abbrev main_v102 : Ref sig .tc := ⟨.hbm, 140, rfl⟩
abbrev main_c_10 : Ref sig .tc := ⟨.hbm, 141, rfl⟩
abbrev main_v103_0 : Ref sig .tc := ⟨.hbm, 142, rfl⟩
abbrev main_v103_1 : Ref sig .tc := ⟨.hbm, 143, rfl⟩
abbrev main_v103_2 : Ref sig .tc := ⟨.hbm, 144, rfl⟩
abbrev main_v103_3 : Ref sig .tc := ⟨.hbm, 145, rfl⟩
abbrev main_v103_4 : Ref sig .tc := ⟨.hbm, 146, rfl⟩
abbrev main_while0c_c_20 : Ref sig .tc := ⟨.hbm, 147, rfl⟩
abbrev main_while0c_v165 : Ref sig .tc := ⟨.hbm, 148, rfl⟩
abbrev main_while0b_call2_c : Ref sig .tc := ⟨.hbm, 149, rfl⟩
abbrev main_while0b_call2_c_0 : Ref sig .tc := ⟨.hbm, 150, rfl⟩
abbrev main_while0b_call2_v0 : Ref sig .tc := ⟨.hbm, 151, rfl⟩
abbrev main_while0b_v165 : Ref sig .tc := ⟨.hbm, 152, rfl⟩
abbrev main_while0b_call3_c : Ref sig .tc := ⟨.hbm, 153, rfl⟩
abbrev main_while0b_call3_c_0 : Ref sig .tc := ⟨.hbm, 154, rfl⟩
abbrev main_while0b_call3_v0 : Ref sig .tc := ⟨.hbm, 155, rfl⟩
abbrev main_while0b_v166 : Ref sig .tc := ⟨.hbm, 156, rfl⟩
abbrev main_while0b_v167 : Ref sig .tc := ⟨.hbm, 157, rfl⟩
abbrev main_while0b_v168 : Ref sig .tc := ⟨.hbm, 158, rfl⟩
abbrev main_while0b_call4_v0 : Ref sig .tc := ⟨.hbm, 159, rfl⟩
abbrev main_while0b_call4_c : Ref sig .tc := ⟨.hbm, 160, rfl⟩
abbrev main_while0b_call4_c_0 : Ref sig .tc := ⟨.hbm, 161, rfl⟩
abbrev main_while0b_v169 : Ref sig .tc := ⟨.hbm, 162, rfl⟩
abbrev main_while0b_c_20 : Ref sig .tc := ⟨.hbm, 163, rfl⟩
abbrev main_while0b_v170 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_11 : Ref sig .tc := ⟨.hbm, 172, rfl⟩
abbrev main_v111 : Ref sig .tc := ⟨.hbm, 173, rfl⟩
abbrev main_v112 : Ref sig .tc := ⟨.hbm, 174, rfl⟩
abbrev main_cst_12 : Ref sig .tc := ⟨.hbm, 175, rfl⟩
abbrev main_v113 : Ref sig .tc := ⟨.hbm, 176, rfl⟩
abbrev main_v114 : Ref sig .tc := ⟨.hbm, 177, rfl⟩
abbrev main_cst_13 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_14 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_c_15 : Ref sig .tc := ⟨.hbm, 198, rfl⟩
abbrev main_call5_v0 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩

abbrev nD : Nat := 1
abbrev τ : Topo := Topo.v7x

variable {F : FTy → Type} [FloatOps F]

abbrev main_while0_count : Scf.Loop 32 := ⟨0#32, 4096#32, 1#32⟩
-- ==== Mlp.lean ====
abbrev S4x4096x1024 : Shape := ⟨3, ![4, 4096, 1024]⟩
abbrev S8x6x1024 : Shape := ⟨3, ![8, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1024x1024 : Shape := ⟨2, ![1024, 1024]⟩
abbrev S6x1024 : Shape := ⟨2, ![6, 1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S1024x4096, .bf16⟩
  | .hbm, ⟨8, _⟩ => ⟨S4096x1024, .bf16⟩
  | .hbm, ⟨9, _⟩ => ⟨S1x1024, .f32⟩
  | .hbm, ⟨10, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1024, .bf16⟩
  | .local _ .vmem, ⟨13, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MlpRefIdeal.lean ====
abbrev S4x4096x1024 : Shape := ⟨3, ![4, 4096, 1024]⟩
abbrev S8x6x1024 : Shape := ⟨3, ![8, 6, 1024]⟩
abbrev S1024 : Shape := ⟨1, ![1024]⟩
abbrev S1024x4096 : Shape := ⟨2, ![1024, 4096]⟩
abbrev S4096x1024 : Shape := ⟨2, ![4096, 1024]⟩
abbrev S4x6x1024 : Shape := ⟨3, ![4, 6, 1024]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4x6x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S4x1x1024, .f32⟩
  | .hbm, ⟨11, _⟩ => ⟨S4x1024, .f32⟩
  | .hbm, ⟨12, _⟩ => ⟨S4x1x1024, .f32⟩
  | .hbm, ⟨13, _⟩ => ⟨S4x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x4096, .f32⟩
  | .hbm, ⟨40, _⟩ => ⟨S_, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S1x1x1024, .f32⟩
  | .hbm, ⟨62, _⟩ => ⟨S4x4096x1024, .f32⟩
  | .hbm, ⟨63, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Mixer.lean ====
abbrev S4x4096x1024 : Shape := ⟨3, ![4, 4096, 1024]⟩
abbrev S8x6x1024 : Shape := ⟨3, ![8, 6, 1024]⟩
abbrev S1024 : Shape := ⟨1, ![1024]⟩
abbrev S1024x4608 : Shape := ⟨2, ![1024, 4608]⟩
abbrev S16x64x64 : Shape := ⟨3, ![16, 64, 64]⟩
abbrev S4x1x1024 : Shape := ⟨3, ![4, 1, 1024]⟩
abbrev S4x128x128 : Shape := ⟨3, ![4, 128, 128]⟩
abbrev S512 : Shape := ⟨1, ![512]⟩
abbrev S1024x1024 : Shape := ⟨2, ![1024, 1024]⟩
abbrev S512x1024 : Shape := ⟨2, ![512, 1024]⟩
abbrev S1024x3584 : Shape := ⟨2, ![1024, 3584]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S512x128 : Shape := ⟨2, ![512, 128]⟩
abbrev S1x512x512 : Shape := ⟨3, ![1, 512, 512]⟩
abbrev S4x512x512 : Shape := ⟨3, ![4, 512, 512]⟩
abbrev S1x1024 : Shape := ⟨2, ![1, 1024]⟩
abbrev S4x4 : Shape := ⟨2, ![4, 4]⟩
abbrev S4x4x64x64 : Shape := ⟨4, ![4, 4, 64, 64]⟩
abbrev S4x4x64x1x64 : Shape := ⟨5, ![4, 4, 64, 1, 64]⟩
abbrev S4x1x4x1 : Shape := ⟨4, ![4, 1, 4, 1]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S1x512x1024 : Shape := ⟨3, ![1, 512, 1024]⟩
abbrev S1x6x1024 : Shape := ⟨3, ![1, 6, 1024]⟩
abbrev S1x1x1024 : Shape := ⟨3, ![1, 1, 1024]⟩
abbrev S512x256 : Shape := ⟨2, ![512, 256]⟩
abbrev S1x256x512 : Shape := ⟨3, ![1, 256, 512]⟩
abbrev S256x512 : Shape := ⟨2, ![256, 512]⟩
abbrev S1x256 : Shape := ⟨2, ![1, 256]⟩
abbrev S8x1024 : Shape := ⟨2, ![8, 1024]⟩
abbrev S1x8x1024 : Shape := ⟨3, ![1, 8, 1024]⟩
abbrev S6x1024 : Shape := ⟨2, ![6, 1024]⟩
abbrev S1024x512 : Shape := ⟨2, ![1024, 512]⟩
abbrev S1x128x128 : Shape := ⟨3, ![1, 128, 128]⟩
abbrev S128x128 : Shape := ⟨2, ![128, 128]⟩
abbrev S1024x2048 : Shape := ⟨2, ![1024, 2048]⟩
abbrev S512x2048 : Shape := ⟨2, ![512, 2048]⟩

abbrev nBuf : Space → Nat
  | .hbm => 254
  | .vmem => 30
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S8x6x1024, .f32⟩
  | 4 => ⟨S1024, .f32⟩
  | 5 => ⟨S1024x4608, .f32⟩
  | 6 => ⟨S16x64x64, .f32⟩
  | 7 => ⟨S1024, .f32⟩
  | 8 => ⟨S16x64x64, .f32⟩
  | 9 => ⟨S1024, .f32⟩
  | 10 => ⟨S1024, .f32⟩
  | 11 => ⟨S4x1x1024, .f32⟩
  | 12 => ⟨S4x128x128, .f32⟩
  | 13 => ⟨S512, .f32⟩
  | 14 => ⟨S1024x1024, .f32⟩
  | 15 => ⟨S512x1024, .f32⟩
  | 16 => ⟨S1024x1024, .f32⟩
  | 17 => ⟨S1024x4608, .bf16⟩
  | 18 => ⟨S1024x3584, .bf16⟩
  | 19 => ⟨S512, .i32⟩
  | 20 => ⟨S_, .i32⟩
  | 21 => ⟨S512, .i32⟩
  | 22 => ⟨S512, .i32⟩
  | 23 => ⟨S_, .i32⟩
  | 24 => ⟨S512, .i32⟩
  | 25 => ⟨S512, .i32⟩
  | 26 => ⟨S512x1, .i32⟩
  | 27 => ⟨S1x512, .i32⟩
  | 28 => ⟨S512x512, .i32⟩
  | 29 => ⟨S512x512, .i32⟩
  | 30 => ⟨S512x512, .i1⟩
  | 31 => ⟨S_, .i32⟩
  | 32 => ⟨S512, .i32⟩
  | 33 => ⟨S512, .i32⟩
  | 34 => ⟨S_, .i32⟩
  | 35 => ⟨S_, .i32⟩
  | 36 => ⟨S_, .i32⟩
  | 37 => ⟨S512, .i32⟩
  | 38 => ⟨S512, .i32⟩
  | 39 => ⟨S_, .i32⟩
  | 40 => ⟨S512, .i32⟩
  | 41 => ⟨S512, .i32⟩
  | 42 => ⟨S_, .i32⟩
  | 43 => ⟨S512, .i32⟩
  | 44 => ⟨S512, .i32⟩
  | 45 => ⟨S_, .i32⟩
  | 46 => ⟨S512, .i32⟩
  | 47 => ⟨S512, .i32⟩
  | 48 => ⟨S_, .i32⟩
  | 49 => ⟨S_, .i32⟩
  | 50 => ⟨S_, .i32⟩
  | 51 => ⟨S512, .i32⟩
  | 52 => ⟨S512, .i32⟩
  | 53 => ⟨S_, .i32⟩
  | 54 => ⟨S512, .i32⟩
  | 55 => ⟨S512, .i32⟩
  | 56 => ⟨S1x512, .i32⟩
  | 57 => ⟨S512x1, .i32⟩
  | 58 => ⟨S512x512, .i32⟩
  | 59 => ⟨S512x512, .i32⟩
  | 60 => ⟨S512x512, .i1⟩
  | 61 => ⟨S512x512, .i1⟩
  | 62 => ⟨S1x512, .i32⟩
  | 63 => ⟨S512x1, .i32⟩
  | 64 => ⟨S512x512, .i32⟩
  | 65 => ⟨S512x512, .i32⟩
  | 66 => ⟨S512x512, .i1⟩
  | 67 => ⟨S512x512, .i1⟩
  | 68 => ⟨S512x512, .f32⟩
  | 69 => ⟨S512, .i32⟩
  | 70 => ⟨S512, .f32⟩
  | 71 => ⟨S_, .f32⟩
  | 72 => ⟨S512, .f32⟩
  | 73 => ⟨S512, .f32⟩
  | 74 => ⟨S512x1, .f32⟩
  | 75 => ⟨S512x128, .f32⟩
  | 76 => ⟨S_, .i32⟩
  | 77 => ⟨S512, .i32⟩
  | 78 => ⟨S512, .i32⟩
  | 79 => ⟨S_, .i32⟩
  | 80 => ⟨S_, .i32⟩
  | 81 => ⟨S_, .i32⟩
  | 82 => ⟨S512, .i32⟩
  | 83 => ⟨S512, .i32⟩
  | 84 => ⟨S_, .i32⟩
  | 85 => ⟨S512, .i32⟩
  | 86 => ⟨S512, .i32⟩
  | 87 => ⟨S_, .i32⟩
  | 88 => ⟨S512, .i32⟩
  | 89 => ⟨S512, .i32⟩
  | 90 => ⟨S_, .i32⟩
  | 91 => ⟨S512, .i32⟩
  | 92 => ⟨S512, .i32⟩
  | 93 => ⟨S_, .i32⟩
  | 94 => ⟨S_, .i32⟩
  | 95 => ⟨S_, .i32⟩
  | 96 => ⟨S512, .i32⟩
  | 97 => ⟨S512, .i32⟩
  | 98 => ⟨S_, .i32⟩
  | 99 => ⟨S512, .i32⟩
  | 100 => ⟨S512, .i32⟩
  | 101 => ⟨S1x512, .i32⟩
  | 102 => ⟨S512x1, .i32⟩
  | 103 => ⟨S512x512, .i32⟩
  | 104 => ⟨S512x512, .i32⟩
  | 105 => ⟨S512x512, .i1⟩
  | 106 => ⟨S512x512, .i1⟩
  | 107 => ⟨S1x512, .i32⟩
  | 108 => ⟨S512x1, .i32⟩
  | 109 => ⟨S512x512, .i32⟩
  | 110 => ⟨S512x512, .i32⟩
  | 111 => ⟨S512x512, .i1⟩
  | 112 => ⟨S512x512, .i1⟩
  | 113 => ⟨S512x512, .f32⟩
  | 114 => ⟨S512, .i32⟩
  | 115 => ⟨S512, .f32⟩
  | 116 => ⟨S_, .f32⟩
  | 117 => ⟨S512, .f32⟩
  | 118 => ⟨S512, .f32⟩
  | 119 => ⟨S512x1, .f32⟩
  | 120 => ⟨S512x128, .f32⟩
  | 121 => ⟨S_, .i32⟩
  | 122 => ⟨S512, .i32⟩
  | 123 => ⟨S512, .i32⟩
  | 124 => ⟨S_, .i32⟩
  | 125 => ⟨S_, .i32⟩
  | 126 => ⟨S_, .i32⟩
  | 127 => ⟨S512, .i32⟩
  | _ => ⟨S4x4096x1024, .f32⟩

abbrev hbmTy0_1 (i : Nat) : BufTy := match i % 128 with
  | 0 => ⟨S512, .i32⟩
  | 1 => ⟨S_, .i32⟩
  | 2 => ⟨S512, .i32⟩
  | 3 => ⟨S512, .i32⟩
  | 4 => ⟨S_, .i32⟩
  | 5 => ⟨S512, .i32⟩
  | 6 => ⟨S512, .i32⟩
  | 7 => ⟨S_, .i32⟩
  | 8 => ⟨S512, .i32⟩
  | 9 => ⟨S512, .i32⟩
  | 10 => ⟨S_, .i32⟩
  | 11 => ⟨S_, .i32⟩
  | 12 => ⟨S_, .i32⟩
  | 13 => ⟨S512, .i32⟩
  | 14 => ⟨S512, .i32⟩
  | 15 => ⟨S_, .i32⟩
  | 16 => ⟨S512, .i32⟩
  | 17 => ⟨S512, .i32⟩
  | 18 => ⟨S1x512, .i32⟩
  | 19 => ⟨S512x1, .i32⟩
  | 20 => ⟨S512x512, .i32⟩
  | 21 => ⟨S512x512, .i32⟩
  | 22 => ⟨S512x512, .i1⟩
  | 23 => ⟨S512x512, .i1⟩
  | 24 => ⟨S1x512, .i32⟩
  | 25 => ⟨S512x1, .i32⟩
  | 26 => ⟨S512x512, .i32⟩
  | 27 => ⟨S512x512, .i32⟩
  | 28 => ⟨S512x512, .i1⟩
  | 29 => ⟨S512x512, .i1⟩
  | 30 => ⟨S512x512, .f32⟩
  | 31 => ⟨S512, .i32⟩
  | 32 => ⟨S512, .f32⟩
  | 33 => ⟨S_, .f32⟩
  | 34 => ⟨S512, .f32⟩
  | 35 => ⟨S512, .f32⟩
  | 36 => ⟨S512x1, .f32⟩
  | 37 => ⟨S512x128, .f32⟩
  | 38 => ⟨S_, .i32⟩
  | 39 => ⟨S512, .i32⟩
  | 40 => ⟨S512, .i32⟩
  | 41 => ⟨S_, .i32⟩
  | 42 => ⟨S_, .i32⟩
  | 43 => ⟨S_, .i32⟩
  | 44 => ⟨S512, .i32⟩
  | 45 => ⟨S512, .i32⟩
  | 46 => ⟨S_, .i32⟩
  | 47 => ⟨S512, .i32⟩
  | 48 => ⟨S512, .i32⟩
  | 49 => ⟨S_, .i32⟩
  | 50 => ⟨S512, .i32⟩
  | 51 => ⟨S512, .i32⟩
  | 52 => ⟨S_, .i32⟩
  | 53 => ⟨S512, .i32⟩
  | 54 => ⟨S512, .i32⟩
  | 55 => ⟨S_, .i32⟩
  | 56 => ⟨S_, .i32⟩
  | 57 => ⟨S_, .i32⟩
  | 58 => ⟨S512, .i32⟩
  | 59 => ⟨S512, .i32⟩
  | 60 => ⟨S_, .i32⟩
  | 61 => ⟨S512, .i32⟩
  | 62 => ⟨S512, .i32⟩
  | 63 => ⟨S1x512, .i32⟩
  | 64 => ⟨S512x1, .i32⟩
  | 65 => ⟨S512x512, .i32⟩
  | 66 => ⟨S512x512, .i32⟩
  | 67 => ⟨S512x512, .i1⟩
  | 68 => ⟨S512x512, .i1⟩
  | 69 => ⟨S1x512, .i32⟩
  | 70 => ⟨S512x1, .i32⟩
  | 71 => ⟨S512x512, .i32⟩
  | 72 => ⟨S512x512, .i32⟩
  | 73 => ⟨S512x512, .i1⟩
  | 74 => ⟨S512x512, .i1⟩
  | 75 => ⟨S512x512, .f32⟩
  | 76 => ⟨S512, .i32⟩
  | 77 => ⟨S512, .f32⟩
  | 78 => ⟨S_, .f32⟩
  | 79 => ⟨S512, .f32⟩
  | 80 => ⟨S512, .f32⟩
  | 81 => ⟨S512x1, .f32⟩
  | 82 => ⟨S512x128, .f32⟩
  | 83 => ⟨S1x512x512, .f32⟩
  | 84 => ⟨S1x512x512, .f32⟩
  | 85 => ⟨S1x512x512, .f32⟩
  | 86 => ⟨S1x512x512, .f32⟩
  | 87 => ⟨S4x512x512, .f32⟩
  | 88 => ⟨S4x512x512, .bf16⟩
  | 89 => ⟨S512x512, .f32⟩
  | 90 => ⟨S1x1024, .f32⟩
  | 91 => ⟨S4x4, .i32⟩
  | 92 => ⟨S4x4, .i32⟩
  | 93 => ⟨S_, .i32⟩
  | 94 => ⟨S4x4, .i32⟩
  | 95 => ⟨S4x4, .i32⟩
  | 96 => ⟨S4x4, .i1⟩
  | 97 => ⟨S4x4, .f32⟩
  | 98 => ⟨S4x4x64x64, .f32⟩
  | 99 => ⟨S4x4x64x1x64, .f32⟩
  | 100 => ⟨S4x1x4x1, .f32⟩
  | 101 => ⟨S1x4x1x4x1, .f32⟩
  | 102 => ⟨S4x4x64x4x64, .f32⟩
  | 103 => ⟨S4x4x64x4x64, .f32⟩
  | 104 => ⟨S4x4x64x4x64, .f32⟩
  | 105 => ⟨S4x256x256, .f32⟩
  | 106 => ⟨S4x4x64x64, .f32⟩
  | 107 => ⟨S4x4x64x1x64, .f32⟩
  | 108 => ⟨S4x1x4x1, .f32⟩
  | 109 => ⟨S1x4x1x4x1, .f32⟩
  | 110 => ⟨S4x4x64x4x64, .f32⟩
  | 111 => ⟨S4x4x64x4x64, .f32⟩
  | 112 => ⟨S4x4x64x4x64, .f32⟩
  | 113 => ⟨S4x256x256, .f32⟩
  | 114 => ⟨S4x256x512, .f32⟩
  | 115 => ⟨S4x256x512, .bf16⟩
  | 116 => ⟨S1x1024, .f32⟩
  | 117 => ⟨S1x1024, .f32⟩
  | 118 => ⟨S1x1024, .f32⟩
  | 119 => ⟨S4x128x128, .bf16⟩
  | 120 => ⟨S1x512, .f32⟩
  | 121 => ⟨S1024x1024, .bf16⟩
  | 122 => ⟨S512x1024, .bf16⟩
  | 123 => ⟨S1024x1024, .bf16⟩
  | 124 => ⟨S4x4096x1024, .f32⟩
  | 125 => ⟨S4x1x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3584, .bf16⟩
  | .local _ .vmem, ⟨10, _⟩ => ⟨S4x256x512, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S4x512x512, .bf16⟩
  | .local _ .vmem, ⟨17, _⟩ => ⟨S512x512, .f32⟩
  | .local _ .vmem, ⟨18, _⟩ => ⟨S4x128x128, .bf16⟩
  | .local _ .vmem, ⟨19, _⟩ => ⟨S1x512, .f32⟩
  | .local _ .vmem, ⟨20, _⟩ => ⟨S1024x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x512x1024, .f32⟩
  | .local _ .vmem, ⟨24, _⟩ => ⟨S1x512x1024, .f32⟩
  | .local _ .vmem, ⟨25, _⟩ => ⟨S1x1x1024, .f32⟩
  | .local _ .vmem, ⟨26, _⟩ => ⟨S1x1x1024, .f32⟩
  | .local _ .vmem, ⟨27, _⟩ => ⟨S512x1024, .f32⟩
  | .local _ .vmem, ⟨28, _⟩ => ⟨S512x1024, .f32⟩
  | .local _ .vmem, ⟨29, _⟩ => ⟨S1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_c_5 : Ref sig .tc := ⟨.hbm, 45, rfl⟩
abbrev main_v17 : Ref sig .tc := ⟨.hbm, 46, rfl⟩
abbrev main_v18 : Ref sig .tc := ⟨.hbm, 47, rfl⟩
abbrev main_c_6 : Ref sig .tc := ⟨.hbm, 48, rfl⟩
abbrev main_c_7 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_8 : Ref sig .tc := ⟨.hbm, 76, rfl⟩
abbrev main_v39 : Ref sig .tc := ⟨.hbm, 77, rfl⟩
abbrev main_v40 : Ref sig .tc := ⟨.hbm, 78, rfl⟩
abbrev main_c_9 : Ref sig .tc := ⟨.hbm, 79, rfl⟩
abbrev main_c_10 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v41 : Ref sig .tc := ⟨.hbm, 86, rfl⟩
abbrev main_c_11 : Ref sig .tc := ⟨.hbm, 87, rfl⟩
abbrev main_v42 : Ref sig .tc := ⟨.hbm, 88, rfl⟩
abbrev main_v43 : Ref sig .tc := ⟨.hbm, 89, rfl⟩
abbrev main_c_12 : Ref sig .tc := ⟨.hbm, 90, rfl⟩
abbrev main_v44 : Ref sig .tc := ⟨.hbm, 91, rfl⟩
abbrev main_v45 : Ref sig .tc := ⟨.hbm, 92, rfl⟩
abbrev main_c_13 : Ref sig .tc := ⟨.hbm, 93, rfl⟩
abbrev main_c_14 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_15 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_16 : Ref sig .tc := ⟨.hbm, 121, rfl⟩
abbrev main_v66 : Ref sig .tc := ⟨.hbm, 122, rfl⟩
abbrev main_v67 : Ref sig .tc := ⟨.hbm, 123, rfl⟩
abbrev main_c_17 : Ref sig .tc := ⟨.hbm, 124, rfl⟩
abbrev main_c_18 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v68 : Ref sig .tc := ⟨.hbm, 131, rfl⟩
abbrev main_c_19 : Ref sig .tc := ⟨.hbm, 132, rfl⟩
abbrev main_v69 : Ref sig .tc := ⟨.hbm, 133, rfl⟩
abbrev main_v70 : Ref sig .tc := ⟨.hbm, 134, rfl⟩
abbrev main_c_20 : Ref sig .tc := ⟨.hbm, 135, rfl⟩
abbrev main_v71 : Ref sig .tc := ⟨.hbm, 136, rfl⟩
abbrev main_v72 : Ref sig .tc := ⟨.hbm, 137, rfl⟩
abbrev main_c_21 : Ref sig .tc := ⟨.hbm, 138, rfl⟩
abbrev main_c_22 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_23 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_c_24 : Ref sig .tc := ⟨.hbm, 166, rfl⟩
abbrev main_v93 : Ref sig .tc := ⟨.hbm, 167, rfl⟩
abbrev main_v94 : Ref sig .tc := ⟨.hbm, 168, rfl⟩
abbrev main_c_25 : Ref sig .tc := ⟨.hbm, 169, rfl⟩
abbrev main_c_26 : Ref sig .tc := ⟨.hbm, 170, rfl⟩
abbrev main_call6_v0 : Ref sig .tc := ⟨.hbm, 171, rfl⟩
abbrev main_call6_v1 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_v95 : Ref sig .tc := ⟨.hbm, 176, rfl⟩
abbrev main_c_27 : Ref sig .tc := ⟨.hbm, 177, rfl⟩
abbrev main_v96 : Ref sig .tc := ⟨.hbm, 178, rfl⟩
abbrev main_v97 : Ref sig .tc := ⟨.hbm, 179, rfl⟩
abbrev main_c_28 : Ref sig .tc := ⟨.hbm, 180, rfl⟩
abbrev main_v98 : Ref sig .tc := ⟨.hbm, 181, rfl⟩
abbrev main_v99 : Ref sig .tc := ⟨.hbm, 182, rfl⟩
abbrev main_c_29 : Ref sig .tc := ⟨.hbm, 183, rfl⟩
abbrev main_c_30 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_cst_31 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_c_32 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160_0 : Ref sig .tc := ⟨.hbm, 252, rfl⟩
abbrev main_v160_1 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_51 : BitVec 32 := 0#32
  let c64_i32 : BitVec 32 := 64#32
  let v171 : BitVec 32 := Scalar.addi c0_i32_51 c64_i32
  let c1_i32 : BitVec 32 := 1#32
  ⟨c0_i32_51, v171, c1_i32⟩
def k0_mult1 (k0_t1 : Fin k0_t1_loop.trips) : BitVec 32 :=
  let c63_i32 : BitVec 32 := 63#32
  let c0_i32_51 : BitVec 32 := 0#32
  let c1_i32 : BitVec 32 := 1#32
  let arg25 : BitVec 32 := Scf.iv c0_i32_51 c1_i32 k0_t1
  let v337 : BitVec 32 := Scalar.subi c63_i32 arg25
  let c8_i32 : BitVec 32 := 8#32
  let v338 : BitVec 32 := Scalar.muli v337 c8_i32
  v338
def k0_off1 (k0_t1 : Fin k0_t1_loop.trips) : Fin 2 → Nat :=
  let c63_i32 : BitVec 32 := 63#32
  let c0_i32_51 : BitVec 32 := 0#32
  let c1_i32 : BitVec 32 := 1#32
  let arg25 : BitVec 32 := Scf.iv c0_i32_51 c1_i32 k0_t1
  let v337 : BitVec 32 := Scalar.subi c63_i32 arg25
  let c8_i32 : BitVec 32 := 8#32
  let v338 : BitVec 32 := Scalar.muli v337 c8_i32
  let v339 : BitVec 32 := v338
  let v340 : Index := Scalar.indexCast v339
  let c0_151 : Index := 0#32
  ![v340.toNat, 0]
def k0_off2 (k0_t1 : Fin k0_t1_loop.trips) : Fin 3 → Nat :=
  let c0_162 : Index := 0#32
  let c63_i32 : BitVec 32 := 63#32
  let c0_i32_51 : BitVec 32 := 0#32
  let c1_i32 : BitVec 32 := 1#32
  let arg25 : BitVec 32 := Scf.iv c0_i32_51 c1_i32 k0_t1
  let v337 : BitVec 32 := Scalar.subi c63_i32 arg25
  let c8_i32 : BitVec 32 := 8#32
  let v338 : BitVec 32 := Scalar.muli v337 c8_i32
  let v339 : BitVec 32 := v338
  let v378 : Index := Scalar.indexCast v339
  let c0_163 : Index := 0#32
  ![0, v378.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S4x512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== MixerRefIdeal.lean ====
abbrev S4x4096x1024 : Shape := ⟨3, ![4, 4096, 1024]⟩
abbrev S8x6x1024 : Shape := ⟨3, ![8, 6, 1024]⟩
abbrev S1024 : Shape := ⟨1, ![1024]⟩
abbrev S1024x4608 : Shape := ⟨2, ![1024, 4608]⟩
abbrev S16x64x64 : Shape := ⟨3, ![16, 64, 64]⟩
abbrev S4x1x1024 : Shape := ⟨3, ![4, 1, 1024]⟩
abbrev S4x128x128 : Shape := ⟨3, ![4, 128, 128]⟩
abbrev S512 : Shape := ⟨1, ![512]⟩
abbrev S1024x1024 : Shape := ⟨2, ![1024, 1024]⟩
abbrev S512x1024 : Shape := ⟨2, ![512, 1024]⟩
abbrev S4x4096x16x64 : Shape := ⟨4, ![4, 4096, 16, 64]⟩
abbrev S16x64x4x4096 : Shape := ⟨4, ![16, 64, 4, 4096]⟩
abbrev S1x1x1024 : Shape := ⟨3, ![1, 1, 1024]⟩
abbrev S_ : Shape := ⟨0, ![]⟩
abbrev S4x1024 : Shape := ⟨2, ![4, 1024]⟩
abbrev S4096x4x1024 : Shape := ⟨3, ![4096, 4, 1024]⟩
abbrev S1x4x1024 : Shape := ⟨3, ![1, 4, 1024]⟩
abbrev S4x6x1024 : Shape := ⟨3, ![4, 6, 1024]⟩
abbrev S4x4096 : Shape := ⟨2, ![4, 4096]⟩
abbrev S4x4096x1 : Shape := ⟨3, ![4, 4096, 1]⟩
abbrev S4x4096x4608 : Shape := ⟨3, ![4, 4096, 4608]⟩
abbrev S4x4096x512 : Shape := ⟨3, ![4, 4096, 512]⟩
abbrev S4x64x64x512 : Shape := ⟨4, ![4, 64, 64, 512]⟩
abbrev S4x64x64x128 : Shape := ⟨4, ![4, 64, 64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S1x1x64x1 : Shape := ⟨4, ![1, 1, 64, 1]⟩
abbrev S1x1x1x512 : Shape := ⟨4, ![1, 1, 1, 512]⟩
abbrev S4x4096x2048 : Shape := ⟨3, ![4, 4096, 2048]⟩

abbrev nBuf : Space → Nat
  | .hbm => 359
  | .vmem => 0
  | .smem => 0
  | _ => 0

abbrev hbmTy0_0 (i : Nat) : BufTy := match i % 128 with
  | 0 => ⟨S4x4096x1024, .f32⟩
  | 1 => ⟨S4x4096x1024, .f32⟩
  | 2 => ⟨S4x4096x1024, .f32⟩
  | 3 => ⟨S8x6x1024, .f32⟩
  | 4 => ⟨S1024, .f32⟩
  | 5 => ⟨S1024x4608, .f32⟩
  | 6 => ⟨S16x64x64, .f32⟩
  | 7 => ⟨S1024, .f32⟩
  | 8 => ⟨S16x64x64, .f32⟩
  | 9 => ⟨S1024, .f32⟩
  | 10 => ⟨S1024, .f32⟩
  | 11 => ⟨S4x1x1024, .f32⟩
  | 12 => ⟨S4x128x128, .f32⟩
  | 13 => ⟨S512, .f32⟩
  | 14 => ⟨S1024x1024, .f32⟩
  | 15 => ⟨S512x1024, .f32⟩
  | 16 => ⟨S1024x1024, .f32⟩
  | 17 => ⟨S4x4096x16x64, .f32⟩
  | 18 => ⟨S16x64x4x4096, .f32⟩
  | 19 => ⟨S4x4096x16x64, .f32⟩
  | 20 => ⟨S4x4096x1024, .f32⟩
  | 21 => ⟨S1x1x1024, .f32⟩
  | 22 => ⟨S4x4096x1024, .f32⟩
  | 23 => ⟨S4x4096x1024, .f32⟩
  | 24 => ⟨S4x4096x1024, .f32⟩
  | 25 => ⟨S4x4096x1024, .f32⟩
  | 26 => ⟨S_, .f32⟩
  | 27 => ⟨S4x4096x1024, .f32⟩
  | 28 => ⟨S4x4096x1024, .f32⟩
  | 29 => ⟨S_, .f32⟩
  | 30 => ⟨S4x4096x1024, .f32⟩
  | 31 => ⟨S4x4096x1024, .f32⟩
  | 32 => ⟨S16x64x4x4096, .f32⟩
  | 33 => ⟨S4x4096x16x64, .f32⟩
  | 34 => ⟨S4x4096x1024, .f32⟩
  | 35 => ⟨S1x1x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S_, .f32⟩
  | 41 => ⟨S4x4096x1024, .f32⟩
  | 42 => ⟨S4x4096x1024, .f32⟩
  | 43 => ⟨S_, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S1024, .f32⟩
  | 55 => ⟨S1024, .i1⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1x1x1024, .f32⟩
  | 65 => ⟨S4x4096x1024, .f32⟩
  | 66 => ⟨S4x4096x1024, .f32⟩
  | 67 => ⟨S4x4096x1024, .f32⟩
  | 68 => ⟨S_, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S4x1024, .f32⟩
  | 77 => ⟨S4x4096x1024, .f32⟩
  | 78 => ⟨S4x4096x1024, .f32⟩
  | 79 => ⟨S4096x4x1024, .f32⟩
  | 80 => ⟨S4096x4x1024, .f32⟩
  | 81 => ⟨S_, .f32⟩
  | 82 => ⟨S4096x4x1024, .f32⟩
  | 83 => ⟨S_, .i32⟩
  | 84 => ⟨S4096x4x1024, .f32⟩
  | 85 => ⟨S4096x4x1024, .f32⟩
  | 86 => ⟨S_, .i32⟩
  | 87 => ⟨S4x1024, .f32⟩
  | 88 => ⟨S4096x4x1024, .f32⟩
  | 89 => ⟨S_, .i32⟩
  | 90 => ⟨S_, .i1⟩
  | 91 => ⟨S_, .i32⟩
  | 92 => ⟨S_, .i32⟩
  | 93 => ⟨S1x4x1024, .f32⟩
  | 94 => ⟨S4x1024, .f32⟩
  | 95 => ⟨S_, .i32⟩
  | 96 => ⟨S_, .i32⟩
  | 97 => ⟨S1x4x1024, .f32⟩
  | 98 => ⟨S4x1024, .f32⟩
  | 99 => ⟨S4x1024, .f32⟩
  | 100 => ⟨S4x1024, .f32⟩
  | 101 => ⟨S1x4x1024, .f32⟩
  | 102 => ⟨S_, .i32⟩
  | 103 => ⟨S_, .i32⟩
  | 104 => ⟨S4096x4x1024, .f32⟩
  | 105 => ⟨S_, .i32⟩
  | 106 => ⟨S_, .i32⟩
  | 107 => ⟨S4x4096x1024, .f32⟩
  | 108 => ⟨S4x4096x1024, .f32⟩
  | 109 => ⟨S4x6x1024, .f32⟩
  | 110 => ⟨S4x1x1024, .f32⟩
  | 111 => ⟨S4x1024, .f32⟩
  | 112 => ⟨S4x1x1024, .f32⟩
  | 113 => ⟨S4x1024, .f32⟩
  | 114 => ⟨S4x4096x1024, .f32⟩
  | 115 => ⟨S_, .f32⟩
  | 116 => ⟨S4x4096, .f32⟩
  | 117 => ⟨S4x4096x1, .f32⟩
  | 118 => ⟨S_, .f32⟩
  | 119 => ⟨S4x4096x1, .f32⟩
  | 120 => ⟨S4x4096x1, .f32⟩
  | 121 => ⟨S_, .f32⟩
  | 122 => ⟨S4x4096x1, .f32⟩
  | 123 => ⟨S4x4096x1, .f32⟩
  | 124 => ⟨S4x4096x1, .f32⟩
  | 125 => ⟨S4x4096x1024, .f32⟩
  | 126 => ⟨S4x4096x1024, .f32⟩
  | 127 => ⟨S1x1x1024, .f32⟩
  | _ => ⟨S4x4096x1024, .f32⟩

abbrev hbmTy0_1 (i : Nat) : BufTy := match i % 128 with
  | 0 => ⟨S4x4096x1024, .f32⟩
  | 1 => ⟨S4x4096x1024, .f32⟩
  | 2 => ⟨S4x1x1024, .f32⟩
  | 3 => ⟨S_, .f32⟩
  | 4 => ⟨S4x1x1024, .f32⟩
  | 5 => ⟨S4x1x1024, .f32⟩
  | 6 => ⟨S4x4096x1024, .f32⟩
  | 7 => ⟨S4x4096x1024, .f32⟩
  | 8 => ⟨S4x1x1024, .f32⟩
  | 9 => ⟨S4x4096x1024, .f32⟩
  | 10 => ⟨S4x4096x1024, .f32⟩
  | 11 => ⟨S4x4096x4608, .f32⟩
  | 12 => ⟨S4x4096x512, .f32⟩
  | 13 => ⟨S4x64x64x512, .f32⟩
  | 14 => ⟨S4x64x64x128, .f32⟩
  | 15 => ⟨S1x128x128, .f32⟩
  | 16 => ⟨S128x128, .f32⟩
  | 17 => ⟨S64, .i32⟩
  | 18 => ⟨S_, .i32⟩
  | 19 => ⟨S64, .i32⟩
  | 20 => ⟨S64, .i32⟩
  | 21 => ⟨S_, .i32⟩
  | 22 => ⟨S_, .i32⟩
  | 23 => ⟨S_, .i32⟩
  | 24 => ⟨S64, .i32⟩
  | 25 => ⟨S64, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S_, .i32⟩
  | 36 => ⟨S_, .i32⟩
  | 37 => ⟨S_, .i32⟩
  | 38 => ⟨S64, .i32⟩
  | 39 => ⟨S64, .i32⟩
  | 40 => ⟨S_, .i32⟩
  | 41 => ⟨S64, .i32⟩
  | 42 => ⟨S64, .i32⟩
  | 43 => ⟨S_, .f32⟩
  | 44 => ⟨S_, .f32⟩
  | 45 => ⟨S4x64x64x128, .f32⟩
  | 46 => ⟨S64, .i32⟩
  | 47 => ⟨S64, .f32⟩
  | 48 => ⟨S64x1, .f32⟩
  | 49 => ⟨S1x1x64x1, .f32⟩
  | 50 => ⟨S4x64x64x128, .f32⟩
  | 51 => ⟨S4x64x64x128, .f32⟩
  | 52 => ⟨S4x64x64x128, .f32⟩
  | 53 => ⟨S4x64x64x128, .f32⟩
  | 54 => ⟨S4x64x64x128, .f32⟩
  | 55 => ⟨S1x128x128, .f32⟩
  | 56 => ⟨S128x128, .f32⟩
  | 57 => ⟨S64, .i32⟩
  | 58 => ⟨S_, .i32⟩
  | 59 => ⟨S64, .i32⟩
  | 60 => ⟨S64, .i32⟩
  | 61 => ⟨S_, .i32⟩
  | 62 => ⟨S_, .i32⟩
  | 63 => ⟨S_, .i32⟩
  | 64 => ⟨S64, .i32⟩
  | 65 => ⟨S64, .i32⟩
  | 66 => ⟨S_, .i32⟩
  | 67 => ⟨S64, .i32⟩
  | 68 => ⟨S64, .i32⟩
  | 69 => ⟨S_, .i32⟩
  | 70 => ⟨S64, .i32⟩
  | 71 => ⟨S64, .i32⟩
  | 72 => ⟨S_, .i32⟩
  | 73 => ⟨S64, .i32⟩
  | 74 => ⟨S64, .i32⟩
  | 75 => ⟨S_, .i32⟩
  | 76 => ⟨S_, .i32⟩
  | 77 => ⟨S_, .i32⟩
  | 78 => ⟨S64, .i32⟩
  | 79 => ⟨S64, .i32⟩
  | 80 => ⟨S_, .i32⟩
  | 81 => ⟨S64, .i32⟩
  | 82 => ⟨S64, .i32⟩
  | 83 => ⟨S_, .f32⟩
  | 84 => ⟨S_, .f32⟩
  | 85 => ⟨S4x64x64x128, .f32⟩
  | 86 => ⟨S64, .i32⟩
  | 87 => ⟨S64, .f32⟩
  | 88 => ⟨S64x1, .f32⟩
  | 89 => ⟨S1x1x64x1, .f32⟩
  | 90 => ⟨S4x64x64x128, .f32⟩
  | 91 => ⟨S4x64x64x128, .f32⟩
  | 92 => ⟨S4x64x64x128, .f32⟩
  | 93 => ⟨S4x64x64x128, .f32⟩
  | 94 => ⟨S4x64x64x128, .f32⟩
  | 95 => ⟨S1x128x128, .f32⟩
  | 96 => ⟨S128x128, .f32⟩
  | 97 => ⟨S64, .i32⟩
  | 98 => ⟨S_, .i32⟩
  | 99 => ⟨S64, .i32⟩
  | 100 => ⟨S64, .i32⟩
  | 101 => ⟨S_, .i32⟩
  | 102 => ⟨S_, .i32⟩
  | 103 => ⟨S_, .i32⟩
  | 104 => ⟨S64, .i32⟩
  | 105 => ⟨S64, .i32⟩
  | 106 => ⟨S_, .i32⟩
  | 107 => ⟨S64, .i32⟩
  | 108 => ⟨S64, .i32⟩
  | 109 => ⟨S_, .i32⟩
  | 110 => ⟨S64, .i32⟩
  | 111 => ⟨S64, .i32⟩
  | 112 => ⟨S_, .i32⟩
  | 113 => ⟨S64, .i32⟩
  | 114 => ⟨S64, .i32⟩
  | 115 => ⟨S_, .i32⟩
  | 116 => ⟨S_, .i32⟩
  | 117 => ⟨S_, .i32⟩
  | 118 => ⟨S64, .i32⟩
  | 119 => ⟨S64, .i32⟩
  | 120 => ⟨S_, .i32⟩
  | 121 => ⟨S64, .i32⟩
  | 122 => ⟨S64, .i32⟩
  | 123 => ⟨S_, .f32⟩
  | 124 => ⟨S_, .f32⟩
  | 125 => ⟨S4x64x64x128, .f32⟩
  | 126 => ⟨S64, .i32⟩
  | 127 => ⟨S64, .f32⟩
  | _ => ⟨S4x4096x1024, .f32⟩

abbrev hbmTy0_2 (i : Nat) : BufTy := match i % 128 with
  | 0 => ⟨S64x1, .f32⟩
  | 1 => ⟨S1x1x64x1, .f32⟩
  | 2 => ⟨S4x64x64x128, .f32⟩
  | 3 => ⟨S4x64x64x128, .f32⟩
  | 4 => ⟨S4x64x64x128, .f32⟩
  | 5 => ⟨S4x64x64x128, .f32⟩
  | 6 => ⟨S4x64x64x128, .f32⟩
  | 7 => ⟨S1x128x128, .f32⟩
  | 8 => ⟨S128x128, .f32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S_, .i32⟩
  | 28 => ⟨S_, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S_, .f32⟩
  | 36 => ⟨S_, .f32⟩
  | 37 => ⟨S4x64x64x128, .f32⟩
  | 38 => ⟨S64, .i32⟩
  | 39 => ⟨S64, .f32⟩
  | 40 => ⟨S64x1, .f32⟩
  | 41 => ⟨S1x1x64x1, .f32⟩
  | 42 => ⟨S4x64x64x128, .f32⟩
  | 43 => ⟨S4x64x64x128, .f32⟩
  | 44 => ⟨S4x64x64x128, .f32⟩
  | 45 => ⟨S4x64x64x128, .f32⟩
  | 46 => ⟨S4x64x64x512, .f32⟩
  | 47 => ⟨S1x1x1x512, .f32⟩
  | 48 => ⟨S4x64x64x512, .f32⟩
  | 49 => ⟨S4x64x64x512, .f32⟩
  | 50 => ⟨S4x4096x512, .f32⟩
  | 51 => ⟨S4x4096x1024, .f32⟩
  | 52 => ⟨S4x4096x1024, .f32⟩
  | 53 => ⟨S4x4096x2048, .f32⟩
  | 54 => ⟨S4x4096x1024, .f32⟩
  | 55 => ⟨S4x4096x1024, .f32⟩
  | 56 => ⟨S_, .f32⟩
  | 57 => ⟨S4x4096x1024, .f32⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S4x4096x1024, .f32⟩
  | 64 => ⟨S_, .f32⟩
  | 65 => ⟨S4x4096x1024, .f32⟩
  | 66 => ⟨S4x4096x1024, .f32⟩
  | 67 => ⟨S_, .f32⟩
  | 68 => ⟨S4x4096x1024, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S_, .f32⟩
  | 78 => ⟨S4x4096x1024, .f32⟩
  | 79 => ⟨S4x4096x1024, .f32⟩
  | 80 => ⟨S_, .f32⟩
  | 81 => ⟨S4x4096x1024, .f32⟩
  | 82 => ⟨S4x4096x1024, .f32⟩
  | 83 => ⟨S4x4096x1024, .f32⟩
  | 84 => ⟨S4x4096x1024, .f32⟩
  | 85 => ⟨S4x4096x1024, .f32⟩
  | 86 => ⟨S4x4096x1024, .f32⟩
  | 87 => ⟨S_, .f32⟩
  | 88 => ⟨S4x4096x1024, .f32⟩
  | 89 => ⟨S4x4096x1024, .f32⟩
  | 90 => ⟨S_, .f32⟩
  | 91 => ⟨S4x4096x1024, .f32⟩
  | 92 => ⟨S4x4096x1024, .f32⟩
  | 93 => ⟨S4x4096x1024, .f32⟩
  | 94 => ⟨S4x4096x1024, .f32⟩
  | 95 => ⟨S4x4096x1024, .f32⟩
  | 96 => ⟨S4x1x1024, .f32⟩
  | 97 => ⟨S4x1024, .f32⟩
  | 98 => ⟨S4x1x1024, .f32⟩
  | 99 => ⟨S4x4096x1024, .f32⟩
  | 100 => ⟨S4x4096x1024, .f32⟩
  | 101 => ⟨S4x4096x1024, .f32⟩
  | 102 => ⟨S4x1x1024, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_4 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_5 : Ref sig .tc := ⟨.hbm, 81, rfl⟩
abbrev main_v45 : Ref sig .tc := ⟨.hbm, 82, rfl⟩
abbrev main_c : Ref sig .tc := ⟨.hbm, 83, rfl⟩
abbrev main_v46_0 : Ref sig .tc := ⟨.hbm, 84, rfl⟩
abbrev main_v46_1 : Ref sig .tc := ⟨.hbm, 85, rfl⟩
abbrev main_v46_2 : Ref sig .tc := ⟨.hbm, 86, rfl⟩
abbrev main_v46_3 : Ref sig .tc := ⟨.hbm, 87, rfl⟩
abbrev main_v46_4 : Ref sig .tc := ⟨.hbm, 88, rfl⟩
abbrev main_while0c_c_54 : Ref sig .tc := ⟨.hbm, 89, rfl⟩
abbrev main_while0c_v215 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_v0 : Ref sig .tc := ⟨.hbm, 93, rfl⟩
abbrev main_while0b_v215 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_v0 : Ref sig .tc := ⟨.hbm, 97, rfl⟩
abbrev main_while0b_v216 : Ref sig .tc := ⟨.hbm, 98, rfl⟩
abbrev main_while0b_v217 : Ref sig .tc := ⟨.hbm, 99, rfl⟩
abbrev main_while0b_v218 : Ref sig .tc := ⟨.hbm, 100, rfl⟩
abbrev main_while0b_call5_v0 : Ref sig .tc := ⟨.hbm, 101, rfl⟩
abbrev main_while0b_call5_c : Ref sig .tc := ⟨.hbm, 102, rfl⟩
abbrev main_while0b_call5_c_0 : Ref sig .tc := ⟨.hbm, 103, rfl⟩
abbrev main_while0b_v219 : Ref sig .tc := ⟨.hbm, 104, rfl⟩
abbrev main_while0b_c_54 : Ref sig .tc := ⟨.hbm, 105, rfl⟩
abbrev main_while0b_v220 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_cst_6 : Ref sig .tc := ⟨.hbm, 115, rfl⟩
abbrev main_v55 : Ref sig .tc := ⟨.hbm, 116, rfl⟩
abbrev main_v56 : Ref sig .tc := ⟨.hbm, 117, rfl⟩
abbrev main_cst_7 : Ref sig .tc := ⟨.hbm, 118, rfl⟩
abbrev main_v57 : Ref sig .tc := ⟨.hbm, 119, rfl⟩
abbrev main_v58 : Ref sig .tc := ⟨.hbm, 120, rfl⟩
abbrev main_cst_8 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_9 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_c_10 : Ref sig .tc := ⟨.hbm, 146, rfl⟩
abbrev main_v82 : Ref sig .tc := ⟨.hbm, 147, rfl⟩
abbrev main_v83 : Ref sig .tc := ⟨.hbm, 148, rfl⟩
abbrev main_c_11 : Ref sig .tc := ⟨.hbm, 149, rfl⟩
abbrev main_c_12 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_call7_v3 : Ref sig .tc := ⟨.hbm, 154, rfl⟩
abbrev main_call7_v4 : Ref sig .tc := ⟨.hbm, 155, rfl⟩
abbrev main_v84 : Ref sig .tc := ⟨.hbm, 156, rfl⟩
abbrev main_c_13 : Ref sig .tc := ⟨.hbm, 157, rfl⟩
abbrev main_v85 : Ref sig .tc := ⟨.hbm, 158, rfl⟩
abbrev main_v86 : Ref sig .tc := ⟨.hbm, 159, rfl⟩
abbrev main_c_14 : Ref sig .tc := ⟨.hbm, 160, rfl⟩
abbrev main_v87 : Ref sig .tc := ⟨.hbm, 161, rfl⟩
abbrev main_v88 : Ref sig .tc := ⟨.hbm, 162, rfl⟩
abbrev main_c_15 : Ref sig .tc := ⟨.hbm, 163, rfl⟩
abbrev main_c_16 : Ref sig .tc := ⟨.hbm, 164, rfl⟩
abbrev main_call8_v0 : Ref sig .tc := ⟨.hbm, 165, rfl⟩
abbrev main_call8_v1 : Ref sig .tc := ⟨.hbm, 166, rfl⟩
abbrev main_call8_v2 : Ref sig .tc := ⟨.hbm, 167, rfl⟩
abbrev main_call8_v3 : Ref sig .tc := ⟨.hbm, 168, rfl⟩
abbrev main_call8_v4 : Ref sig .tc := ⟨.hbm, 169, rfl⟩
abbrev main_v89 : Ref sig .tc := ⟨.hbm, 170, rfl⟩
abbrev main_cst_17 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_c_18 : Ref sig .tc := ⟨.hbm, 186, rfl⟩
abbrev main_v104 : Ref sig .tc := ⟨.hbm, 187, rfl⟩
abbrev main_v105 : Ref sig .tc := ⟨.hbm, 188, rfl⟩
abbrev main_c_19 : Ref sig .tc := ⟨.hbm, 189, rfl⟩
abbrev main_c_20 : Ref sig .tc := ⟨.hbm, 190, rfl⟩
abbrev main_call9_v0 : Ref sig .tc := ⟨.hbm, 191, rfl⟩
abbrev main_call9_v1 : Ref sig .tc := ⟨.hbm, 192, rfl⟩
abbrev main_call9_v2 : Ref sig .tc := ⟨.hbm, 193, rfl⟩
abbrev main_call9_v3 : Ref sig .tc := ⟨.hbm, 194, rfl⟩
abbrev main_call9_v4 : Ref sig .tc := ⟨.hbm, 195, rfl⟩
abbrev main_v106 : Ref sig .tc := ⟨.hbm, 196, rfl⟩
abbrev main_c_21 : Ref sig .tc := ⟨.hbm, 197, rfl⟩
abbrev main_v107 : Ref sig .tc := ⟨.hbm, 198, rfl⟩
abbrev main_v108 : Ref sig .tc := ⟨.hbm, 199, rfl⟩
abbrev main_c_22 : Ref sig .tc := ⟨.hbm, 200, rfl⟩
abbrev main_v109 : Ref sig .tc := ⟨.hbm, 201, rfl⟩
abbrev main_v110 : Ref sig .tc := ⟨.hbm, 202, rfl⟩
abbrev main_c_23 : Ref sig .tc := ⟨.hbm, 203, rfl⟩
abbrev main_c_24 : Ref sig .tc := ⟨.hbm, 204, rfl⟩
abbrev main_call10_v0 : Ref sig .tc := ⟨.hbm, 205, rfl⟩
abbrev main_call10_v1 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_v111 : Ref sig .tc := ⟨.hbm, 210, rfl⟩
abbrev main_cst_25 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_c_26 : Ref sig .tc := ⟨.hbm, 226, rfl⟩
abbrev main_v126 : Ref sig .tc := ⟨.hbm, 227, rfl⟩
abbrev main_v127 : Ref sig .tc := ⟨.hbm, 228, rfl⟩
abbrev main_c_27 : Ref sig .tc := ⟨.hbm, 229, rfl⟩
abbrev main_c_28 : Ref sig .tc := ⟨.hbm, 230, rfl⟩
abbrev main_call11_v0 : Ref sig .tc := ⟨.hbm, 231, rfl⟩
abbrev main_call11_v1 : Ref sig .tc := ⟨.hbm, 232, rfl⟩
abbrev main_call11_v2 : Ref sig .tc := ⟨.hbm, 233, rfl⟩
abbrev main_call11_v3 : Ref sig .tc := ⟨.hbm, 234, rfl⟩
abbrev main_call11_v4 : Ref sig .tc := ⟨.hbm, 235, rfl⟩
abbrev main_v128 : Ref sig .tc := ⟨.hbm, 236, rfl⟩
abbrev main_c_29 : Ref sig .tc := ⟨.hbm, 237, rfl⟩
abbrev main_v129 : Ref sig .tc := ⟨.hbm, 238, rfl⟩
abbrev main_v130 : Ref sig .tc := ⟨.hbm, 239, rfl⟩
abbrev main_c_30 : Ref sig .tc := ⟨.hbm, 240, rfl⟩
abbrev main_v131 : Ref sig .tc := ⟨.hbm, 241, rfl⟩
abbrev main_v132 : Ref sig .tc := ⟨.hbm, 242, rfl⟩
abbrev main_c_31 : Ref sig .tc := ⟨.hbm, 243, rfl⟩
abbrev main_c_32 : Ref sig .tc := ⟨.hbm, 244, rfl⟩
abbrev main_call12_v0 : Ref sig .tc := ⟨.hbm, 245, rfl⟩
abbrev main_call12_v1 : Ref sig .tc := ⟨.hbm, 246, rfl⟩
abbrev main_call12_v2 : Ref sig .tc := ⟨.hbm, 247, rfl⟩
abbrev main_call12_v3 : Ref sig .tc := ⟨.hbm, 248, rfl⟩
abbrev main_call12_v4 : Ref sig .tc := ⟨.hbm, 249, rfl⟩
abbrev main_v133 : Ref sig .tc := ⟨.hbm, 250, rfl⟩
abbrev main_cst_33 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_c_34 : Ref sig .tc := ⟨.hbm, 266, rfl⟩
abbrev main_v148 : Ref sig .tc := ⟨.hbm, 267, rfl⟩
abbrev main_v149 : Ref sig .tc := ⟨.hbm, 268, rfl⟩
abbrev main_c_35 : Ref sig .tc := ⟨.hbm, 269, rfl⟩
abbrev main_c_36 : Ref sig .tc := ⟨.hbm, 270, rfl⟩
abbrev main_call13_v0 : Ref sig .tc := ⟨.hbm, 271, rfl⟩
abbrev main_call13_v1 : Ref sig .tc := ⟨.hbm, 272, rfl⟩
abbrev main_call13_v2 : Ref sig .tc := ⟨.hbm, 273, rfl⟩
abbrev main_call13_v3 : Ref sig .tc := ⟨.hbm, 274, rfl⟩
abbrev main_call13_v4 : Ref sig .tc := ⟨.hbm, 275, rfl⟩
abbrev main_v150 : Ref sig .tc := ⟨.hbm, 276, rfl⟩
abbrev main_c_37 : Ref sig .tc := ⟨.hbm, 277, rfl⟩
abbrev main_v151 : Ref sig .tc := ⟨.hbm, 278, rfl⟩
abbrev main_v152 : Ref sig .tc := ⟨.hbm, 279, rfl⟩
abbrev main_c_38 : Ref sig .tc := ⟨.hbm, 280, rfl⟩
abbrev main_v153 : Ref sig .tc := ⟨.hbm, 281, rfl⟩
abbrev main_v154 : Ref sig .tc := ⟨.hbm, 282, rfl⟩
abbrev main_c_39 : Ref sig .tc := ⟨.hbm, 283, rfl⟩
abbrev main_c_40 : Ref sig .tc := ⟨.hbm, 284, rfl⟩
abbrev main_call14_v0 : Ref sig .tc := ⟨.hbm, 285, rfl⟩
abbrev main_call14_v1 : Ref sig .tc := ⟨.hbm, 286, rfl⟩
abbrev main_call14_v2 : Ref sig .tc := ⟨.hbm, 287, rfl⟩
abbrev main_call14_v3 : Ref sig .tc := ⟨.hbm, 288, rfl⟩
abbrev main_call14_v4 : Ref sig .tc := ⟨.hbm, 289, rfl⟩
abbrev main_v155 : Ref sig .tc := ⟨.hbm, 290, rfl⟩
abbrev main_cst_41 : Ref sig .tc := ⟨.hbm, 291, rfl⟩
abbrev main_v156 : Ref sig .tc := ⟨.hbm, 292, rfl⟩
abbrev main_v157 : Ref sig .tc := ⟨.hbm, 293, rfl⟩
abbrev main_v158 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_v162 : Ref sig .tc := ⟨.hbm, 298, rfl⟩
abbrev main_v163 : Ref sig .tc := ⟨.hbm, 299, rfl⟩
abbrev main_v164 : Ref sig .tc := ⟨.hbm, 300, rfl⟩
abbrev main_v165 : Ref sig .tc := ⟨.hbm, 301, rfl⟩
abbrev main_v166 : Ref sig .tc := ⟨.hbm, 302, rfl⟩
abbrev main_v167 : Ref sig .tc := ⟨.hbm, 303, rfl⟩
abbrev main_v168 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩
abbrev main_v172 : Ref sig .tc := ⟨.hbm, 308, rfl⟩
abbrev main_v173 : Ref sig .tc := ⟨.hbm, 309, rfl⟩
abbrev main_v174 : Ref sig .tc := ⟨.hbm, 310, rfl⟩
abbrev main_v175 : Ref sig .tc := ⟨.hbm, 311, rfl⟩
abbrev main_cst_42 : Ref sig .tc := ⟨.hbm, 312, rfl⟩
abbrev main_v176 : Ref sig .tc := ⟨.hbm, 313, rfl⟩
abbrev main_v177 : Ref sig .tc := ⟨.hbm, 314, rfl⟩
abbrev main_v178 : Ref sig .tc := ⟨.hbm, 315, rfl⟩
abbrev main_cst_43 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_cst_44 : Ref sig .tc := ⟨.hbm, 320, rfl⟩
abbrev main_v182 : Ref sig .tc := ⟨.hbm, 321, rfl⟩
abbrev main_v183 : Ref sig .tc := ⟨.hbm, 322, rfl⟩
abbrev main_cst_45 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_cst_46 : Ref sig .tc := ⟨.hbm, 333, rfl⟩
abbrev main_v193 : Ref sig .tc := ⟨.hbm, 334, rfl⟩
abbrev main_v194 : Ref sig .tc := ⟨.hbm, 335, rfl⟩
abbrev main_cst_47 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_cst_48 : Ref sig .tc := ⟨.hbm, 343, rfl⟩
abbrev main_v201 : Ref sig .tc := ⟨.hbm, 344, rfl⟩
abbrev main_v202 : Ref sig .tc := ⟨.hbm, 345, rfl⟩
abbrev main_cst_49 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩

abbrev nD : Nat := 1
abbrev τ : Topo := Topo.v7x

variable {F : FTy → Type} [FloatOps F]

abbrev main_while0_count : Scf.Loop 32 := ⟨0#32, 4096#32, 1#32⟩
-- ==== Proof.FrontRuns.lean ====
module

public import proofs.«01_k».proof.Proof.Gen.FrontIdeal.Frame
public import proofs.«01_k».proof.Proof.Gen.FrontIdeal.Loops
public import Idealize.ShloMosaic.Lib.Pipeline.Value
public import Idealize.ShloMosaic.Lib.Claim

/-! The body of the front kernel, run once at any grid point, and from it the run of the whole call.
The scratch row `arg21` carries the recurrence's state from a tile to the next of the same sequence: at the
first tile of a sequence (case A, `t % 8 = 0`) the body stores the given initial state there first, at the others
(case B) it reads what the tile before left. -/

@[expose] public section

set_option maxRecDepth 16384

noncomputable section

namespace Cert.FrontIdeal.Hand

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, from the grid coordinates. -/
abbrev first (i : grid0.Coords) : Prop :=
  (Scalar.cmpi .ne (Scalar.extui (Scalar.cmpi .eq (BitVec.ofNat 32 (i 1).val) 0#32)) 0#32) = 1#1

/-- The branch is taken at the first tile of each sequence. -/
theorem first_iff : ∀ t : Fin cfg0.N, first (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val % 8 = 0)

/-! ## The run at any memrefs -/

section
variable (c : Dev nD) (i : grid0.Coords)
variable (arg2 : Memref sig .tc .vmem S1x512x1024 .f32) (harg2 : arg2.IsWhole)
variable (arg3 : Memref sig .tc .vmem S1x8x1024 .f32) (harg3 : arg3.IsWhole)
variable (arg4 : Memref sig .tc .vmem S1x8x1024 .f32) (harg4 : arg4.IsWhole)
variable (arg5 : Memref sig .tc .vmem S1x6x1024 .f32) (harg5 : arg5.IsWhole)
variable (arg6 : Memref sig .tc .vmem S1x1024 .f32) (harg6 : arg6.IsWhole)
variable (arg7 : Memref sig .tc .vmem S1024x1024 .bf16) (harg7 : arg7.IsWhole)
variable (arg8 : Memref sig .tc .vmem S4x1024 .f32) (harg8 : arg8.IsWhole)
variable (arg9 : Memref sig .tc .vmem S1x1024 .f32) (harg9 : arg9.IsWhole)
variable (arg10 : Memref sig .tc .vmem S4x256x512 .bf16) (harg10 : arg10.IsWhole)
variable (arg11 : Memref sig .tc .vmem S1x1024 .f32) (harg11 : arg11.IsWhole)
variable (arg12 : Memref sig .tc .vmem S1x1024 .f32) (harg12 : arg12.IsWhole)
variable (arg13 : Memref sig .tc .vmem S1x1024 .f32) (harg13 : arg13.IsWhole)
variable (arg14 : Memref sig .tc .vmem S1x1x1024 .f32) (harg14 : arg14.IsWhole)
variable (arg15 : Memref sig .tc .vmem S1x512x1024 .f32) (harg15 : arg15.IsWhole)
variable (arg16 : Memref sig .tc .vmem S1x512x1024 .f32) (harg16 : arg16.IsWhole)
variable (arg17 : Memref sig .tc .vmem S1x1x1024 .f32) (harg17 : arg17.IsWhole)
variable (arg18 : Memref sig .tc .vmem S528x1024 .f32) (harg18 : arg18.IsWhole)
variable (arg19 : Memref sig .tc .vmem S512x1024 .f32) (harg19 : arg19.IsWhole)
variable (arg20 : Memref sig .tc .vmem S512x1024 .f32) (harg20 : arg20.IsWhole)
variable (arg21 : Memref sig .tc .vmem S1x1024 .f32) (harg21 : arg21.IsWhole)
variable (x0 : Vec F S1x512x1024 .f32)
variable (x1 : Vec F S1x8x1024 .f32)
variable (x2 : Vec F S1x8x1024 .f32)
variable (x3 : Vec F S1x6x1024 .f32)
variable (x4 : Vec F S1x1024 .f32)
variable (x5 : Vec F S1024x1024 .bf16)
variable (x6 : Vec F S4x1024 .f32)
variable (x7 : Vec F S1x1024 .f32)
variable (x8 : Vec F S4x256x512 .bf16)
variable (x9 : Vec F S1x1024 .f32)
variable (x10 : Vec F S1x1024 .f32)
variable (x11 : Vec F S1x1024 .f32)
variable (x12 : Vec F S1x1x1024 .f32)

/-- The thirteen staged inputs at their contents. -/
abbrev Ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12)

/-- What the body leaves beside the inputs: the three outputs' and the carried row's buffers with their stores written,
the gate buffers and the window of modulated rows at anything. -/
abbrev Left (L13 : List (View.Piece (Elt F) S1x512x1024 .f32)) (L14 : List (View.Piece (Elt F) S1x512x1024 .f32))
    (L15 : List (View.Piece (Elt F) S1x1x1024 .f32)) (LS : List (View.Piece (Elt F) S1x1024 .f32)) : sProp 𝕄 :=
  iprop((∃ f, arg15.view.loc (c : Thread nD τ) ↦[arg15.view.set]{fullShare} arg15.view.writes (Elt F) f L13)
    ∗ (∃ f, arg16.view.loc (c : Thread nD τ) ↦[arg16.view.set]{fullShare} arg16.view.writes (Elt F) f L14)
    ∗ (∃ f, arg17.view.loc (c : Thread nD τ) ↦[arg17.view.set]{fullShare} arg17.view.writes (Elt F) f L15)
    ∗ (∃ d, owns (c : Thread nD τ) arg18 fullShare d) ∗ (∃ d, owns (c : Thread nD τ) arg19 fullShare d)
    ∗ (∃ d, owns (c : Thread nD τ) arg20 fullShare d)
    ∗ (∃ f, arg21.view.loc (c : Thread nD τ) ↦[arg21.view.set]{fullShare} arg21.view.writes (Elt F) f LS))

-- (the run's term is large: the definition's last pass over it needs more than the usual budget)
set_option maxHeartbeats 1000000 in
/-- The body at the first tile of a sequence, the carried row at anything: the lists of stores each output and the carried row end with, and that the body
runs to a continuation that is handed them. -/
noncomputable def runA (hc : first i) :
    Σ' (L13 : List (View.Piece (Elt F) S1x512x1024 .f32)), Σ' (L14 : List (View.Piece (Elt F) S1x512x1024 .f32)), Σ' (L15 : List (View.Piece (Elt F) S1x1x1024 .f32)), { LS : List (View.Piece (Elt F) S1x1024 .f32) //
      ∀ (E : Set ℕ) (K : PUnit → sProp 𝕄),
        iprop(Ins c arg2 arg3 arg4 arg5 arg6 arg7 arg8 arg9 arg10 arg11 arg12 arg13 arg14 x0 x1 x2 x3 x4 x5 x6 x7 x8 x9 x10 x11 x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(Ins c arg2 arg3 arg4 arg5 arg6 arg7 arg8 arg9 arg10 arg11 arg12 arg13 arg14 x0 x1 x2 x3 x4 x5 x6 x7 x8 x9 x10 x11 x12 ∗ Left c arg15 arg16 arg17 arg18 arg19 arg20 arg21 L13 L14 L15 LS) -∗ K ⟨⟩))
          ⊢ wp frame (wpE (defs₀ (F := F)) Variants.none c none) E (cc0_front_t512 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0_front_t512_eq_skeleton]; unfold cc0_front_t512_skel
    simp only [k0_part2_eq_skeleton, k0_part3_eq_skeleton, k0_part4_eq_skeleton, k0_part5_eq_skeleton, k0_part6_eq_skeleton, k0_part7_eq_skeleton]
    unfold Ins Left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc)
    sl_step
    iapply Hk
    isplitl [H0 H1 H2 H3 H4 H5 H6 H7 H8 H9 H10 H11 H12]
    · isplitl [H0]; · iexists _; isplitr; (· ipureintro; exact harg2.read_unread _); iexact H0
      isplitl [H1]; · iexists _; isplitr; (· ipureintro; exact harg3.read_unread _); iexact H1
      isplitl [H2]; · iexists _; isplitr; (· ipureintro; exact harg4.read_unread _); iexact H2
      isplitl [H3]; · iexists _; isplitr; (· ipureintro; exact harg5.read_unread _); iexact H3
      isplitl [H4]; · iexists _; isplitr; (· ipureintro; exact harg6.read_unread _); iexact H4
      isplitl [H5]; · iexists _; isplitr; (· ipureintro; exact harg7.read_unread _); iexact H5
      isplitl [H6]; · iexists _; isplitr; (· ipureintro; exact harg8.read_unread _); iexact H6
      isplitl [H7]; · iexists _; isplitr; (· ipureintro; exact harg9.read_unread _); iexact H7
      isplitl [H8]; · iexists _; isplitr; (· ipureintro; exact harg10.read_unread _); iexact H8
      isplitl [H9]; · iexists _; isplitr; (· ipureintro; exact harg11.read_unread _); iexact H9
      isplitl [H10]; · iexists _; isplitr; (· ipureintro; exact harg12.read_unread _); iexact H10
      isplitl [H11]; · iexists _; isplitr; (· ipureintro; exact harg13.read_unread _); iexact H11
      iexists _; isplitr; (· ipureintro; exact harg14.read_unread _); iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

-- (the run's term is large: the definition's last pass over it needs more than the usual budget)
set_option maxHeartbeats 1000000 in
/-- The body at a later tile, the carried row at what the tile before left (`xs`): the lists of stores each output and the carried row end with, and that the body
runs to a continuation that is handed them. -/
noncomputable def runB (hc : ¬first i) (xs : Vec F S1x1024 .f32) :
    Σ' (L13 : List (View.Piece (Elt F) S1x512x1024 .f32)), Σ' (L14 : List (View.Piece (Elt F) S1x512x1024 .f32)), Σ' (L15 : List (View.Piece (Elt F) S1x1x1024 .f32)), { LS : List (View.Piece (Elt F) S1x1024 .f32) //
      ∀ (E : Set ℕ) (K : PUnit → sProp 𝕄),
        iprop(Ins c arg2 arg3 arg4 arg5 arg6 arg7 arg8 arg9 arg10 arg11 arg12 arg13 arg14 x0 x1 x2 x3 x4 x5 x6 x7 x8 x9 x10 x11 x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs
            ∗ (iprop(Ins c arg2 arg3 arg4 arg5 arg6 arg7 arg8 arg9 arg10 arg11 arg12 arg13 arg14 x0 x1 x2 x3 x4 x5 x6 x7 x8 x9 x10 x11 x12 ∗ Left c arg15 arg16 arg17 arg18 arg19 arg20 arg21 L13 L14 L15 LS) -∗ K ⟨⟩))
          ⊢ wp frame (wpE (defs₀ (F := F)) Variants.none c none) E (cc0_front_t512 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc0_front_t512_eq_skeleton]; unfold cc0_front_t512_skel
    simp only [k0_part2_eq_skeleton, k0_part3_eq_skeleton, k0_part4_eq_skeleton, k0_part5_eq_skeleton, k0_part6_eq_skeleton, k0_part7_eq_skeleton]
    unfold Ins Left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg21.eq_unread hfs3
    sl_exec (disch := first | sl_exact hc)
    sl_step
    iapply Hk
    isplitl [H0 H1 H2 H3 H4 H5 H6 H7 H8 H9 H10 H11 H12]
    · isplitl [H0]; · iexists _; isplitr; (· ipureintro; exact harg2.read_unread _); iexact H0
      isplitl [H1]; · iexists _; isplitr; (· ipureintro; exact harg3.read_unread _); iexact H1
      isplitl [H2]; · iexists _; isplitr; (· ipureintro; exact harg4.read_unread _); iexact H2
      isplitl [H3]; · iexists _; isplitr; (· ipureintro; exact harg5.read_unread _); iexact H3
      isplitl [H4]; · iexists _; isplitr; (· ipureintro; exact harg6.read_unread _); iexact H4
      isplitl [H5]; · iexists _; isplitr; (· ipureintro; exact harg7.read_unread _); iexact H5
      isplitl [H6]; · iexists _; isplitr; (· ipureintro; exact harg8.read_unread _); iexact H6
      isplitl [H7]; · iexists _; isplitr; (· ipureintro; exact harg9.read_unread _); iexact H7
      isplitl [H8]; · iexists _; isplitr; (· ipureintro; exact harg10.read_unread _); iexact H8
      isplitl [H9]; · iexists _; isplitr; (· ipureintro; exact harg11.read_unread _); iexact H9
      isplitl [H10]; · iexists _; isplitr; (· ipureintro; exact harg12.read_unread _); iexact H10
      isplitl [H11]; · iexists _; isplitr; (· ipureintro; exact harg13.read_unread _); iexact H11
      iexists _; isplitr; (· ipureintro; exact harg14.read_unread _); iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end

end Cert.FrontIdeal.Hand

end
-- ==== Proof.FrontBody.lean ====
module

public import proofs.«01_k».proof.Proof.FrontRuns

/-! What the front call leaves point by point (`outsAt0`), the proof data of its pipeline, the body's obligation
and the run of the whole call, with the frame claim from it. -/

@[expose] public section

set_option maxRecDepth 16384

noncomputable section

namespace Cert.FrontIdeal.Hand

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at the memrefs of a point -/

/-- The staging memrefs of the three outputs, through which their contents are stated. -/
abbrev VO13 : View sig .tc .vmem S1x512x1024 .f32 := (Memref.whole cc0_stg13_0 : Memref sig .tc .vmem S1x512x1024 .f32).view
abbrev VO14 : View sig .tc .vmem S1x512x1024 .f32 := (Memref.whole cc0_stg14_0 : Memref sig .tc .vmem S1x512x1024 .f32).view
abbrev VO15 : View sig .tc .vmem S1x1x1024 .f32 := (Memref.whole cc0_stg15_0 : Memref sig .tc .vmem S1x1x1024 .f32).view
/-- The four scratch buffers; the last is the carried row. -/
abbrev sc0 : Memref sig .tc .vmem S528x1024 .f32 := Memref.whole cc0_scratch0
abbrev sc1 : Memref sig .tc .vmem S512x1024 .f32 := Memref.whole cc0_scratch1
abbrev sc2 : Memref sig .tc .vmem S512x1024 .f32 := Memref.whole cc0_scratch2
abbrev sc3 : Memref sig .tc .vmem S1x1024 .f32 := Memref.whole cc0_scratch3

/-- Each window's staging memref at point `t`, as the pipeline passes it. -/
abbrev ms0 (t : Fin cfg0.N) : Memref sig .tc .vmem S1x512x1024 .f32 := win0_0.stage (cfg0.slots t 0)
abbrev ms1 (t : Fin cfg0.N) : Memref sig .tc .vmem S1x8x1024 .f32 := win0_1.stage (cfg0.slots t 1)
abbrev ms2 (t : Fin cfg0.N) : Memref sig .tc .vmem S1x8x1024 .f32 := win0_2.stage (cfg0.slots t 2)
abbrev ms3 (t : Fin cfg0.N) : Memref sig .tc .vmem S1x6x1024 .f32 := win0_3.stage (cfg0.slots t 3)
abbrev ms4 (t : Fin cfg0.N) : Memref sig .tc .vmem S1x1024 .f32 := win0_4.stage (cfg0.slots t 4)
abbrev ms5 (t : Fin cfg0.N) : Memref sig .tc .vmem S1024x1024 .bf16 := win0_5.stage (cfg0.slots t 5)
abbrev ms6 (t : Fin cfg0.N) : Memref sig .tc .vmem S4x1024 .f32 := win0_6.stage (cfg0.slots t 6)
abbrev ms7 (t : Fin cfg0.N) : Memref sig .tc .vmem S1x1024 .f32 := win0_7.stage (cfg0.slots t 7)
abbrev ms8 (t : Fin cfg0.N) : Memref sig .tc .vmem S4x256x512 .bf16 := win0_8.stage (cfg0.slots t 8)
abbrev ms9 (t : Fin cfg0.N) : Memref sig .tc .vmem S1x1024 .f32 := win0_9.stage (cfg0.slots t 9)
abbrev ms10 (t : Fin cfg0.N) : Memref sig .tc .vmem S1x1024 .f32 := win0_10.stage (cfg0.slots t 10)
abbrev ms11 (t : Fin cfg0.N) : Memref sig .tc .vmem S1x1024 .f32 := win0_11.stage (cfg0.slots t 11)
abbrev ms12 (t : Fin cfg0.N) : Memref sig .tc .vmem S1x1x1024 .f32 := win0_12.stage (cfg0.slots t 12)
abbrev ms13 (t : Fin cfg0.N) : Memref sig .tc .vmem S1x512x1024 .f32 := win0_13.stage (cfg0.slots t 13)
abbrev ms14 (t : Fin cfg0.N) : Memref sig .tc .vmem S1x512x1024 .f32 := win0_14.stage (cfg0.slots t 14)
abbrev ms15 (t : Fin cfg0.N) : Memref sig .tc .vmem S1x1x1024 .f32 := win0_15.stage (cfg0.slots t 15)

/-- The body's run at point `t`, the first tile of a sequence. -/
abbrev KA (c : Dev nD) (t : Fin cfg0.N) (h0 : t.val % 8 = 0) :=
  runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15))
    sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((first_iff t).mpr h0)

/-- The body's run at point `t`, a later tile, over the row the tile before left. -/
abbrev KB (c : Dev nD) (t : Fin cfg0.N) (h0 : ¬t.val % 8 = 0) (xs : Vec F S1x1024 .f32) :=
  runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15))
    sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (fun h => h0 ((first_iff t).mp h)) xs

/-- The inputs' staging memrefs at their blocks. -/
abbrev InsAt (c : Dev nD) (t : Fin cfg0.N) : sProp 𝕄 := Ins c (ms0 t) (ms1 t) (ms2 t) (ms3 t) (ms4 t) (ms5 t) (ms6 t) (ms7 t) (ms8 t) (ms9 t) (ms10 t) (ms11 t) (ms12 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- What the three outputs and the carried row hold when their stores are the given lists. -/
def got (L13 : List (View.Piece (Elt F) S1x512x1024 .f32)) (L14 : List (View.Piece (Elt F) S1x512x1024 .f32)) (L15 : List (View.Piece (Elt F) S1x1x1024 .f32)) (LS : List (View.Piece (Elt F) S1x1024 .f32)) : Vec F S1x512x1024 .f32 × Vec F S1x512x1024 .f32 × Vec F S1x1x1024 .f32 × Vec F S1x1024 .f32 :=
  (VO13.read (Elt F) (VO13.writes (Elt F) VO13.junk L13), VO14.read (Elt F) (VO14.writes (Elt F) VO14.junk L14),
    VO15.read (Elt F) (VO15.writes (Elt F) VO15.junk L15), sc3.view.read (Elt F) (sc3.view.writes (Elt F) sc3.view.junk LS))

/-- The stores cover the three outputs' blocks and the carried row. -/
structure Covers (L13 : List (View.Piece (Elt F) S1x512x1024 .f32)) (L14 : List (View.Piece (Elt F) S1x512x1024 .f32)) (L15 : List (View.Piece (Elt F) S1x1x1024 .f32)) (LS : List (View.Piece (Elt F) S1x1024 .f32)) : Prop where
  c13 : ∀ y : S1x512x1024.Idx, ∃ pc ∈ L13, y ∈ pc.1.set
  c14 : ∀ y : S1x512x1024.Idx, ∃ pc ∈ L14, y ∈ pc.1.set
  c15 : ∀ y : S1x1x1024.Idx, ∃ pc ∈ L15, y ∈ pc.1.set
  cs : ∀ y : S1x1024.Idx, ∃ pc ∈ LS, y ∈ pc.1.set

theorem coversA (c : Dev nD) (t : Fin cfg0.N) (h0 : t.val % 8 = 0) :
    Covers (KA m c t h0).1 (KA m c t h0).2.1 (KA m c t h0).2.2.1 (KA m c t h0).2.2.2.1 where
  c13 := View.cover_of_tiledL _ S1x512x1024.size (by sl_kernel_rfl)
  c14 := View.cover_of_tiledL _ S1x8x1024.size (by sl_kernel_rfl)
  c15 := View.cover_of_tiledL _ S1x1x1024.size (by sl_kernel_rfl)
  cs := View.cover_of_tiledL _ S1x1024.size (by sl_kernel_rfl)

theorem coversB (c : Dev nD) (t : Fin cfg0.N) (h0 : ¬t.val % 8 = 0) (xs : Vec F S1x1024 .f32) :
    Covers (KB m c t h0 xs).1 (KB m c t h0 xs).2.1 (KB m c t h0 xs).2.2.1 (KB m c t h0 xs).2.2.2.1 where
  c13 := View.cover_of_tiledL _ S1x512x1024.size (by sl_kernel_rfl)
  c14 := View.cover_of_tiledL _ S1x8x1024.size (by sl_kernel_rfl)
  c15 := View.cover_of_tiledL _ S1x1x1024.size (by sl_kernel_rfl)
  cs := View.cover_of_tiledL _ S1x1024.size (by sl_kernel_rfl)

/-- What a first tile leaves. -/
def outA (c : Dev nD) (t : Fin cfg0.N) (h0 : t.val % 8 = 0) : Vec F S1x512x1024 .f32 × Vec F S1x512x1024 .f32 × Vec F S1x1x1024 .f32 × Vec F S1x1024 .f32 :=
  got (KA m c t h0).1 (KA m c t h0).2.1 (KA m c t h0).2.2.1 (KA m c t h0).2.2.2.1

/-- What a later tile leaves over the carried row `xs`. -/
def outB (c : Dev nD) (t : Fin cfg0.N) (h0 : ¬t.val % 8 = 0) (xs : Vec F S1x1024 .f32) : Vec F S1x512x1024 .f32 × Vec F S1x512x1024 .f32 × Vec F S1x1x1024 .f32 × Vec F S1x1024 .f32 :=
  got (KB m c t h0 xs).1 (KB m c t h0 xs).2.1 (KB m c t h0 xs).2.2.1 (KB m c t h0 xs).2.2.2.1

/-! ## Point by point -/

/-- What the outputs and the carried row hold after point `n`. -/
def outsAt0 (c : Dev nD) : (n : ℕ) → n < cfg0.N → Vec F S1x512x1024 .f32 × Vec F S1x512x1024 .f32 × Vec F S1x1x1024 .f32 × Vec F S1x1024 .f32
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn)).2.2.2

theorem outsAt0_A (c : Dev nD) (t : Fin cfg0.N) (h0 : t.val % 8 = 0) : outsAt0 m c t.val t.isLt = outA m c t h0 := by
  obtain ⟨n, hn⟩ := t
  cases n with
  | zero => rfl
  | succ n => exact dif_pos h0

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)).2.2.2 := by
  obtain ⟨n, hn⟩ := t
  cases n with
  | zero => exact absurd (Nat.zero_mod _) h0
  | succ n => exact dif_neg h0

/-- The scratch at anything but the carried row, which is as `R` says, and the generator register at some state. -/
abbrev Scr (c : Dev nD) (R : sProp 𝕄) : sProp 𝕄 :=
  iprop(iprop((∃ d, owns (c : Thread nD τ) sc0 fullShare d) ∗ (∃ d, owns (c : Thread nD τ) sc1 fullShare d) ∗ (∃ d, owns (c : Thread nD τ) sc2 fullShare d) ∗ R) ∗ (∃ r, prngReg c r))

theorem scr_any (c : Dev nD) :
    (Pipeline.ΦA spec0 c : sProp 𝕄) = Scr c iprop(∃ d, owns (c : Thread nD τ) sc3 fullShare d) := by
  unfold Pipeline.ΦA; rw [scopedRest0_eq]; simp only [Scr, sc0, sc1, sc2, sc3, owns_whole]; try rfl

/-- The invariant before position `n`: every scratch buffer at anything before the first point, afterwards the
carried row at what the point before left. -/
def PhiS (c : Dev nD) : (n : ℕ) → n ≤ cfg0.N → sProp 𝕄
  | 0, _ => Pipeline.ΦA spec0 c
  | n + 1, hn => Scr c (owns (c : Thread nD τ) sc3 fullShare ((outsAt0 m c n hn).2.2.2))

theorem PhiS_pos (c : Dev nD) (n : ℕ) (h : n ≤ cfg0.N) (hz : n ≠ 0) :
    PhiS m c n h = Scr c (owns (c : Thread nD τ) sc3 fullShare ((outsAt0 m c (n - 1) (by omega)).2.2.2)) := by
  cases n with
  | zero => exact absurd rfl hz
  | succ n => rfl

/-- At any position the contents of the carried row may be forgotten. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_pos m c (n + 1) h (Nat.succ_ne_zero n), scr_any]
    unfold Scr
    iintro ⟨⟨H0, H1, H2, H3⟩, Hg⟩
    isplitl [H0 H1 H2 H3]
    · isplitl [H0]; · iexact H0
      isplitl [H1]; · iexact H1
      isplitl [H2]; · iexact H2
      iexists _; iexact H3
    iexact Hg

/-! ## The pipeline's proof data -/

/-- The arrays as the region finds them; after the body each input's buffer at its block and the outputs' at
`outsAt0`; the invariant `PhiS`; nothing owed; the shares of an array staged by several windows dealt among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after13 (c : Dev nD) (t : Fin cfg0.N) : (dats m 0 c).after 13 t = (outsAt0 m c t.val t.isLt).1 := by dsimp only [dats]
theorem after14 (c : Dev nD) (t : Fin cfg0.N) : (dats m 0 c).after 14 t = (outsAt0 m c t.val t.isLt).2.1 := by dsimp only [dats]
theorem after15 (c : Dev nD) (t : Fin cfg0.N) : (dats m 0 c).after 15 t = (outsAt0 m c t.val t.isLt).2.2.1 := by dsimp only [dats]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t))

/-- Each input's staging buffer holds its block, so what the body is called with is what its run asks for. -/
theorem bodyPre_ins (c : Dev nD) (t : Fin cfg0.N) :
    bodyPre m c t ⊢ iprop(PhiS m c t.val (Nat.le_of_lt t.isLt) ∗ (dats m 0 c).owesAt () t.castSucc ∗ InsAt m c t
      ∗ (∃ d, owns (c : Thread nD τ) (ms13 t) fullShare d) ∗ (∃ d, owns (c : Thread nD τ) (ms14 t) fullShare d)
      ∗ (∃ d, owns (c : Thread nD τ) (ms15 t) fullShare d)) := by
  unfold bodyPre InsAt Ins
  rw [PhiS_castSucc m c t]
  simp only [before0_0_of m (dats m 0 c) (A_eq m c 0) (fun t => by dsimp only [dats]) t,
    before0_1_of m (dats m 0 c) (A_eq m c 1) (fun t => by dsimp only [dats]) t,
    before0_2_of m (dats m 0 c) (A_eq m c 2) (fun t => by dsimp only [dats]) t,
    before0_3_of m (dats m 0 c) (A_eq m c 3) (fun t => by dsimp only [dats]) t,
    before0_4_of m (dats m 0 c) (A_eq m c 4) (fun t => by dsimp only [dats]) t,
    before0_5_of m (dats m 0 c) (A_eq m c 5) (fun t => by dsimp only [dats]) t,
    before0_6_of m (dats m 0 c) (A_eq m c 6) (fun t => by dsimp only [dats]) t,
    before0_7_of m (dats m 0 c) (A_eq m c 7) (fun t => by dsimp only [dats]) t,
    before0_8_of m (dats m 0 c) (A_eq m c 8) (fun t => by dsimp only [dats]) t,
    before0_9_of m (dats m 0 c) (A_eq m c 9) (fun t => by dsimp only [dats]) t,
    before0_10_of m (dats m 0 c) (A_eq m c 10) (fun t => by dsimp only [dats]) t,
    before0_11_of m (dats m 0 c) (A_eq m c 11) (fun t => by dsimp only [dats]) t,
    before0_12_of m (dats m 0 c) (A_eq m c 12) (fun t => by dsimp only [dats]) t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  isplitl [HΦ]; · iexact HΦ
  isplitl [Ho]; · iexact Ho
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexists _; iexact H13
  isplitl [H14]; · iexists _; iexact H14
  iexists _; iexact H15

/-- What the body's run leaves is what it returns, when its stores cover the outputs and `outsAt0` is read off them. -/
theorem bodyPost_of (c : Dev nD) (t : Fin cfg0.N) (L13 : List (View.Piece (Elt F) S1x512x1024 .f32)) (L14 : List (View.Piece (Elt F) S1x512x1024 .f32)) (L15 : List (View.Piece (Elt F) S1x1x1024 .f32)) (LS : List (View.Piece (Elt F) S1x1024 .f32))
    (hc : Covers L13 L14 L15 LS) (ho : outsAt0 m c t.val t.isLt = got L13 L14 L15 LS) :
    iprop(iprop(InsAt m c t ∗ Left c (ms13 t) (ms14 t) (ms15 t) sc0 sc1 sc2 sc3 L13 L14 L15 LS)
      ∗ (dats m 0 c).owesAt () t.castSucc ∗ (∃ r, prngReg c r)) ⊢ bodyPost m c t := by
  unfold bodyPost InsAt Ins Left
  rw [show (dats m 0 c).owesAt () t.succ = (dats m 0 c).owesAt () t.castSucc from rfl,
    show (dats m 0 c).Φ t.succ = PhiS m c (t.val + 1) t.isLt from rfl, PhiS_pos m c _ _ (Nat.succ_ne_zero _)]
  simp only [Nat.add_sub_cancel]
  have hs : outsAt0 m c (t.val.succ - 1) t.isLt = got L13 L14 L15 LS := ho
  rw [after13, after14, after15, ho]
  unfold Scr got; dsimp only [dats]
  iintro ⟨⟨⟨H0, H1, H2, H3, H4, H5, H6, H7, H8, H9, H10, H11, H12⟩, ⟨%e13, H13⟩, ⟨%e14, H14⟩, ⟨%e15, H15⟩, HS0, HS1, HS2, ⟨%es, HS3⟩⟩, Ho, Hg⟩
  isplitl [HS0 HS1 HS2 HS3 Hg]
  · isplitl [HS0 HS1 HS2 HS3]
    · isplitl [HS0]; · iexact HS0
      isplitl [HS1]; · iexact HS1
      isplitl [HS2]; · iexact HS2
      unfold owns; iexists _; isplitr
      swap; · iexact HS3
      ipureintro; exact (View.read_writes_of_cover sc3.view es sc3.view sc3.view.junk LS hc.cs : _ = (got L13 L14 L15 LS).2.2.2).trans (congrArg (fun p => p.2.2.2) hs).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ hc.c13
  isplitl [H14]
  · unfold owns; iexists _; isplitr
    swap; · iexact H14
    ipureintro; exact View.read_writes_of_cover _ _ _ _ _ hc.c14
  unfold owns; iexists _; isplitr
  swap; · iexact H15
  ipureintro; exact View.read_writes_of_cover _ _ _ _ _ hc.c15

/-- At any position every scratch buffer is owned at some contents. -/
theorem PhiS_scr (c : Dev nD) (n : ℕ) (h : n ≤ cfg0.N) : PhiS m c n h ⊢
    iprop(((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ ∃ r, prngReg c r) := by
  have e := PhiS_any m c n h
  rw [scr_any] at e
  unfold Scr at e
  exact e

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  refine (bodyPre_ins m c t).trans ?_
  unfold bodyAt0
  by_cases h0 : t.val % 8 = 0
  · iintro ⟨HΦ, Ho, Hi, H13, H14, H15⟩
    ihave HΦ := (PhiS_scr m c t.val (Nat.le_of_lt t.isLt)) $$ HΦ
    icases HΦ with ⟨⟨HS0, HS1, HS2, HS3⟩, Hg⟩
    iapply ((KA m c t h0).2.2.2.2 Set.univ _)
    isplitl [Hi]; · iexact Hi
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    iintro Hl
    iapply (bodyPost_of m c t _ _ _ _ (coversA m c t h0) (outsAt0_A m c t h0))
    isplitl [Hl]; · iexact Hl
    isplitl [Ho]; · iexact Ho
    iexact Hg
  · rw [PhiS_pos m c t.val _ (fun hz => h0 (by rw [hz]))]
    unfold Scr
    iintro ⟨⟨⟨HS0, HS1, HS2, HS3⟩, Hg⟩, Ho, Hi, H13, H14, H15⟩
    iapply ((KB m c t h0 _).2.2.2.2 Set.univ _)
    isplitl [Hi]; · iexact Hi
    isplitl [H13]; · iexact H13
    isplitl [H14]; · iexact H14
    isplitl [H15]; · iexact H15
    isplitl [HS0]; · iexact HS0
    isplitl [HS1]; · iexact HS1
    isplitl [HS2]; · iexact HS2
    isplitl [HS3]; · iexact HS3
    iintro Hl
    iapply (bodyPost_of m c t _ _ _ _ (coversB m c t h0 _) (outsAt0_B m c t h0))
    isplitl [Hl]; · iexact Hl
    isplitl [Ho]; · iexact Ho
    iexact Hg

theorem defs₀_row (t : Fin cfg0.N) :
    defs₀ (F := F) .tc cfg0.body (cfg0.bodyArgs t (cfg0.slots t)) = bodyAt0 t := by
  unfold defs₀; rw [Defs.onTc_tc]

/-- The library's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
/-- The whole call ends with every array of the pipeline as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11))
      ∧ r.2.sem = fun _ => 0) :=
  θ_run_and (frame_of m ρ (dats m) (A_eq m) (run_main m ρ))
    ((θ_run defs _ _).mono (fun _ h => h.2) (run_main_quiescent m ρ))

end Cert.FrontIdeal.Hand

end
-- ==== Proof.Rows.lean ====
module

public import Idealize.ShloMosaic.Lib.Pointwise

/-! The layer's row formulas over the extended reals, shared by both calls: the normalised and
modulated row, the squared rectified hidden units, and the last normalisation. -/

@[expose] public section
noncomputable section
namespace Cert.Rows
open Idealize.ShloMosaic

/-- The reciprocal root of a row's mean square, the small constant added. -/
def rowScale {n : ℕ} (x : Fin n → EReal) : EReal :=
  Ideal.rsqrt (Ideal.div (∑ l, x l * x l) (Ideal.ofBits .f32 1149239296#32) + Ideal.ofBits .f32 897988541#32)

/-- A row scaled by `rowScale` and the gain. -/
def normRow {n : ℕ} (x g : Fin n → EReal) (l : Fin n) : EReal := x l * rowScale x * g l

/-- A normalised row with the modulation's scale and shift applied. -/
def modRow {n : ℕ} (x g sc sh : Fin n → EReal) (l : Fin n) : EReal := normRow x g l * (1 + sc l) + sh l

/-- A hidden unit before squaring: the row against one column of the first matrix, rectified. -/
def hid {n : ℕ} (h w : Fin n → EReal) : EReal := max (∑ l, h l * w l) 0

/-- The feed-forward part: squared hidden units against one column of the second matrix. -/
def ffw {n k : ℕ} (h : Fin n → EReal) (w1 : Fin n → Fin k → EReal) (w2 : Fin k → EReal) : EReal :=
  ∑ j, hid h (fun l => w1 l j) * hid h (fun l => w1 l j) * w2 j

/-- One row of the feed-forward call's result, from the row `x`, its modulation rows `md`, the two gains and the two matrices. -/
def mlpOut {n k : ℕ} (x : Fin n → EReal) (md : Fin 6 → Fin n → EReal) (g : Fin n → EReal) (w1 : Fin n → Fin k → EReal)
    (w2 : Fin k → Fin n → EReal) (fg : Fin n → EReal) (l : Fin n) : EReal :=
  normRow (fun l => x l + md 5 l * ffw (modRow x g (md 4) (md 3)) w1 (fun j => w2 j l)) fg l

end Cert.Rows
end
-- ==== Proof.FrontRows.lean ====
module

public import proofs.«01_k».proof.Proof.Rows

/-! The recurrence's scalar formulas over the extended reals: the gates, the decay, the input's factor in its two
spellings, and the first-order recurrence run one step at a time. -/

@[expose] public section
noncomputable section
namespace Cert.Rows
open Idealize.ShloMosaic

/-! ## The gates -/

/-- The softplus of minus the lane's parameter. -/
def soft (x : EReal) : EReal := max (-x) 0 + Ideal.log1p (Ideal.exp (-(max (-x) (-(-x)))))

/-- Minus the logarithm of the decay: eight times the gate times the softplus. -/
def nla (r sp : EReal) : EReal := Ideal.ofBits .f32 1090519040#32 * r * sp

/-- The decay. -/
def decay (r sp : EReal) : EReal := Ideal.exp (-(nla r sp))

/-- The factor of the recurrence's input, by the hyperbolic tangent. -/
def factor (r sp : EReal) : EReal := Ideal.sqrt (Ideal.tanh (nla r sp) * (1 + decay r sp * decay r sp))

theorem bits_eight : Ideal.ofBits .f32 1090519040#32 = ((8 : ℝ) : EReal) := by
  simp [Ideal.ofBits, Ideal.ieee, -EReal.coe_mul]; norm_num

theorem bits_neg_eight : Ideal.ofBits .f32 3238002688#32 = ((-8 : ℝ) : EReal) := by
  simp [Ideal.ofBits, Ideal.ieee, -EReal.coe_mul]; norm_num

theorem bits_two : Ideal.ofBits .f32 1073741824#32 = ((2 : ℝ) : EReal) := by
  simp [Ideal.ofBits, Ideal.ieee, -EReal.coe_mul]; norm_num

/-- A gate lies between nothing and one. -/
theorem logistic_nonneg (x : EReal) : 0 ≤ Ideal.logistic x := by
  induction x with
  | bot => simp
  | top => simp
  | coe r => rw [Ideal.logistic_coe]; exact_mod_cast (by positivity : (0:ℝ) ≤ (1 + Real.exp (-r))⁻¹)

/-- The softplus is not negative. -/
theorem soft_nonneg (x : EReal) : 0 ≤ soft x := by
  have h : ∀ y : EReal, 0 ≤ Ideal.log1p (Ideal.exp y) := fun y => by
    unfold Ideal.log1p
    induction y with
    | bot => rw [Ideal.exp_bot, add_zero, ← EReal.coe_one, Ideal.log_coe, if_neg (by norm_num), Real.log_one]; simp
    | top =>
      rw [Ideal.exp_top, EReal.add_top_of_ne_bot (by rw [← EReal.coe_one]; exact EReal.coe_ne_bot _), Ideal.log_top]
      exact le_top
    | coe r =>
      rw [Ideal.exp_coe, ← EReal.coe_one, ← EReal.coe_add, Ideal.log_coe, if_neg (by linarith [Real.exp_pos r])]
      exact_mod_cast Real.log_nonneg (by linarith [Real.exp_pos r])
  exact add_nonneg (le_max_right _ _) (h _)

theorem nla_nonneg (r sp : EReal) (hr : 0 ≤ r) (hs : 0 ≤ sp) : 0 ≤ nla r sp := by
  unfold nla; rw [bits_eight]
  exact mul_nonneg (mul_nonneg (by exact_mod_cast (by norm_num : (0:ℝ) ≤ 8)) hr) hs

/-- The exponential of a number that is not positive is finite and not negative. -/
theorem decay_bounds (r sp : EReal) (hr : 0 ≤ r) (hs : 0 ≤ sp) : 0 ≤ decay r sp ∧ decay r sp ≠ ⊤ := by
  unfold decay
  have h := nla_nonneg r sp hr hs
  generalize nla r sp = x at h
  induction x with
  | bot => simp at h
  | top => simp
  | coe y => rw [← EReal.coe_neg, Ideal.exp_coe]; exact ⟨by exact_mod_cast (Real.exp_pos _).le, EReal.coe_ne_top _⟩

/-- The reference's logarithm of the decay is minus the kernel's. -/
theorem log_decay (r sp : EReal) : Ideal.ofBits .f32 3238002688#32 * r * sp = -(nla r sp) := by
  unfold nla; rw [bits_eight, bits_neg_eight, EReal.coe_neg, EReal.neg_mul, EReal.neg_mul]

/-- The input's factor as the reference spells it. -/
theorem factor_eq (r sp : EReal) (hr : 0 ≤ r) (hs : 0 ≤ sp) :
    Ideal.sqrt (-(Ideal.exp (Ideal.ofBits .f32 1073741824#32 * -(nla r sp)) - 1)) = factor r sp := by
  unfold factor decay
  have h := nla_nonneg r sp hr hs
  generalize nla r sp = x at h
  rw [bits_two]
  congr 1
  induction x with
  | bot => simp at h
  | top =>
    rw [EReal.neg_top, EReal.coe_mul_bot_of_pos (by norm_num)]
    simp
  | coe y =>
    rw [← EReal.coe_neg, ← EReal.coe_mul, Ideal.exp_coe, Ideal.exp_coe, Ideal.tanh_coe, ← EReal.coe_one]
    norm_cast
    rw [Real.tanh_eq_sinh_div_cosh, Real.sinh_eq, Real.cosh_eq, show 2 * -y = -y + -y by ring, Real.exp_add]
    have h1 := Real.exp_pos y
    have h2 : Real.exp (-y) * Real.exp y = 1 := by rw [← Real.exp_add]; simp
    have h3 := Real.exp_pos (-y)
    field_simp
    nlinarith [h2]

/-! ## The recurrence -/

/-- The state after `n` steps of `h ↦ a h + b`. -/
def recur (a b : ℕ → EReal) (h : EReal) : ℕ → EReal
  | 0 => h
  | n + 1 => a n * recur a b h n + b n

theorem recur_add (a b : ℕ → EReal) (h : EReal) (m : ℕ) :
    ∀ n, recur a b h (m + n) = recur (fun i => a (m + i)) (fun i => b (m + i)) (recur a b h m) n
  | 0 => rfl
  | n + 1 => by rw [← Nat.add_assoc, recur, recur, recur_add a b h m n]

theorem recur_congr {a b a' b' : ℕ → EReal} (h : EReal) : ∀ n, (∀ i, i < n → a i = a' i) → (∀ i, i < n → b i = b' i) →
    recur a b h n = recur a' b' h n
  | 0, _, _ => rfl
  | n + 1, ha, hb => by
    rw [recur, recur, ha n (Nat.lt_succ_self n), hb n (Nat.lt_succ_self n),
      recur_congr h n (fun i hi => ha i (Nat.lt_succ_of_lt hi)) (fun i hi => hb i (Nat.lt_succ_of_lt hi))]

/-- A factor that is finite and not negative. -/
def Ok (a : EReal) : Prop := 0 ≤ a ∧ a ≠ ⊤

theorem Ok.mul {a b : EReal} (ha : Ok a) (hb : Ok b) : Ok (a * b) := by
  refine ⟨mul_nonneg ha.1 hb.1, ?_⟩
  obtain ⟨x, rfl⟩ : ∃ x : ℝ, a = x := ⟨a.toReal, (EReal.coe_toReal ha.2 (ne_of_gt (lt_of_lt_of_le EReal.bot_lt_zero ha.1))).symm⟩
  obtain ⟨y, rfl⟩ : ∃ y : ℝ, b = y := ⟨b.toReal, (EReal.coe_toReal hb.2 (ne_of_gt (lt_of_lt_of_le EReal.bot_lt_zero hb.1))).symm⟩
  rw [← EReal.coe_mul]; exact EReal.coe_ne_top _

theorem Ok.dist {a : EReal} (ha : Ok a) (x y : EReal) : a * (x + y) = a * x + a * y :=
  EReal.left_distrib_of_nonneg_of_ne_top ha.1 ha.2 x y

/-- Two affine steps, the second after the first, are one. -/
theorem comp_step {a : EReal} (ha : Ok a) (a' b b' x : EReal) : a * (a' * x + b') + b = a * a' * x + (a * b' + b) := by
  rw [ha.dist, mul_assoc, add_assoc]

/-! ## The scan of eight rows in three doublings -/

/-- One doubling's factors: row `r` takes in row `r - k` where there is one. -/
def dblA (k : ℕ) (a : ℕ → EReal) (r : ℕ) : EReal := if k ≤ r then a r * a (r - k) else a r

/-- One doubling's offsets. -/
def dblB (k : ℕ) (a b : ℕ → EReal) (r : ℕ) : EReal := (if k ≤ r then a r * b (r - k) else 0) + b r

/-- `A`, `B` at row `r` stand for the last `w` steps up to row `r`, or all of them where there are fewer. -/
def Rep (a b : ℕ → EReal) (w : ℕ) (A B : ℕ → EReal) : Prop :=
  ∀ r, Ok (A r) ∧ ∀ x, A r * x + B r = recur (fun i => a (r + 1 - w + i)) (fun i => b (r + 1 - w + i)) x (r + 1 - (r + 1 - w))

theorem rep_one (a b : ℕ → EReal) (ha : ∀ i, Ok (a i)) : Rep a b 1 a b := fun r => ⟨ha r, fun x => by
  have e : r + 1 - (r + 1 - 1) = 1 := by omega
  rw [e]; rfl⟩

theorem Rep.dbl {a b : ℕ → EReal} {w : ℕ} {A B : ℕ → EReal} (h : Rep a b w A B) : Rep a b (w + w) (dblA w A) (dblB w A B) := fun r => by
  unfold dblA dblB
  by_cases hw : w ≤ r
  · rw [if_pos hw, if_pos hw]
    refine ⟨(h r).1.mul (h (r - w)).1, fun x => ?_⟩
    rw [← comp_step (h r).1, (h (r - w)).2, (h r).2]
    have e1 : r - w + 1 - w = r + 1 - (w + w) := by omega
    have e2 : r + 1 - (r + 1 - (w + w)) = (r - w + 1 - (r + 1 - (w + w))) + (r + 1 - (r + 1 - w)) := by omega
    rw [e1, e2, recur_add]
    have e3 : ∀ i, r + 1 - (w + w) + ((r - w + 1 - (r + 1 - (w + w))) + i) = r + 1 - w + i := fun i => by omega
    simp only [e3]
  · rw [if_neg hw, if_neg hw, zero_add]
    refine ⟨(h r).1, fun x => ?_⟩
    rw [(h r).2]
    have e : r + 1 - w = r + 1 - (w + w) := by omega
    rw [e]

/-- Three doublings and the carried state: the recurrence's state after the row. -/
theorem three_dbl (a b : ℕ → EReal) (ha : ∀ i, Ok (a i)) (r : ℕ) (hr : r < 8) (x : EReal) :
    dblA 4 (dblA 2 (dblA 1 a)) r * x + dblB 4 (dblA 2 (dblA 1 a)) (dblB 2 (dblA 1 a) (dblB 1 a b)) r = recur a b x (r + 1) := by
  have h : Rep a b 8 (dblA 4 (dblA 2 (dblA 1 a))) (dblB 4 (dblA 2 (dblA 1 a)) (dblB 2 (dblA 1 a) (dblB 1 a b))) :=
    (rep_one a b ha).dbl.dbl.dbl
  rw [(h r).2]
  have e : r + 1 - 8 = 0 := by omega
  simp only [e, Nat.zero_add, Nat.sub_zero]

/-! ## Gates and rows -/

/-- A gate: the logistic of a head's row times its weights and a bias. -/
def gate {n : ℕ} (x w : Fin n → EReal) (b : EReal) : EReal := Ideal.logistic ((∑ k, x k * w k) + b)

/-- The recurrence's input. -/
def drive (r sp i u : EReal) : EReal := factor r sp * (i * u)

/-- A row times the columns of a matrix. -/
def proj {n : ℕ} (x w : Fin n → EReal) : EReal := ∑ k, x k * w k

/-- The depthwise convolution's sum at a lane. -/
def conv (w0 w1 w2 w3 cb p0 p1 p2 p3 : EReal) : EReal := p0 * w0 + p1 * w1 + p2 * w2 + p3 * w3 + cb

theorem conv_eq (w0 w1 w2 w3 cb p0 p1 p2 p3 : EReal) : cb + w0 * p0 + w1 * p1 + w2 * p2 + w3 * p3 = conv w0 w1 w2 w3 cb p0 p1 p2 p3 := by
  unfold conv
  rw [mul_comm w0, mul_comm w1, mul_comm w2, mul_comm w3, add_comm _ cb, ← add_assoc, ← add_assoc, ← add_assoc]

end Cert.Rows
end
-- ==== Proof.FrontPay.lean ====
module

public import proofs.«01_k».proof.Proof.Gen.FrontIdeal.Skeleton
public import proofs.«01_k».proof.Proof.FrontRows
public import Idealize.ShloMosaic.Lib.Pointwise

/-! The recurrence kernel's stored values read at one index. -/

@[expose] public section
set_option maxRecDepth 16384
noncomputable section
namespace Cert.FrontIdeal.Hand
open Cert.FrontIdeal Cert.FrontIdeal.Gen Cert.Rows Idealize.ShloMosaic Idealize.ShloMosaic.TcCoe Idealize.SL.Sem

/-! ## Copies -/

theorem pay1_at (v : Vec Ideal S8x1024 .f32) (r : Fin 8) (l : Fin 1024) : k0_pay1 (F := Ideal) v (ix3 0 r l) = v (ix2 r l) := by
  pointwise [k0_pay1]

theorem pay2_at (v : Vec Ideal S8x1024 .f32) (l : Fin 1024) : k0_pay2 (F := Ideal) v (ix2 0 l) = v (ix2 7 l) := by
  pointwise [k0_pay2]

theorem pay3_at (v : Vec Ideal S1x1024 .f32) (l : Fin 1024) : k0_pay3 v (ix2 0 l) = v (ix2 0 l) := by
  pointwise [k0_pay3]

theorem pay4_at (v : Vec Ideal S1x1024 .f32) (l : Fin 1024) : k0_pay4 v (ix3 0 0 l) = v (ix2 0 l) := by
  pointwise [k0_pay4]

theorem pay6_at (v : Vec Ideal S1x1x1024 .f32) (l : Fin 1024) : k0_pay6 v (ix2 0 l) = v (ix3 0 0 l) := by
  pointwise [k0_pay6]

/-! ## The convolution -/

/-- The convolution's rows from four shifted reads of the padded rows. -/
theorem pay10_at (w : Vec Ideal S4x1024 .f32) (cb : Vec Ideal S1x1024 .f32) (p0 p1 p2 p3 : Vec Ideal S512x1024 .f32) (r : Fin 512) (l : Fin 1024) :
    k0_pay10 w (k0_pay9 w cb p0 p1 p2) p3 (ix2 r l)
      = conv (w (ix2 0 l)) (w (ix2 1 l)) (w (ix2 2 l)) (w (ix2 3 l)) (cb (ix2 0 l)) (p0 (ix2 r l)) (p1 (ix2 r l)) (p2 (ix2 r l)) (p3 (ix2 r l)) := by
  rw [← conv_eq]
  pointwise [k0_pay10, k0_pay9]

theorem pay11_at (w : Vec Ideal S4x1024 .f32) (v p3 : Vec Ideal S512x1024 .f32) (r : Fin 512) (l : Fin 1024) :
    k0_pay11 w v p3 (ix3 0 r l) = k0_pay10 w v p3 (ix2 r l) := by
  pointwise [k0_pay11]

/-- The softplus of minus the parameter, lane by lane. -/
theorem pay14_at (v : Vec Ideal S1x1024 .f32) (l : Fin 1024) : k0_pay14 v (ix2 0 l) = soft (v (ix2 0 l)) := by
  pointwise [k0_pay14, soft]
  simp only [zero_sub]
  rfl

/-! ## The gates of the four groups of heads -/

variable (uc : Vec Ideal S512x1024 .f32) (br bi sp : Vec Ideal S1x1024 .f32) (wg : Vec Ideal S1x256x512 .bf16) (r : Fin 512) (l : Fin 256)

/-- A group's lane `l` among all lanes. -/
def lane (q : Fin 4) (l : Fin 256) : Fin 1024 := ⟨256 * q.val + l.val, by omega⟩

theorem lane_zero (l : Fin 256) : lane 0 l = ⟨l.val, by omega⟩ := Fin.ext (by simp [lane])
theorem lane_one (l : Fin 256) : lane 1 l = ⟨256 + l.val, by omega⟩ := Fin.ext (by simp [lane])
theorem lane_two (l : Fin 256) : lane 2 l = ⟨512 + l.val, by omega⟩ := Fin.ext (by simp [lane])
theorem lane_three (l : Fin 256) : lane 3 l = ⟨768 + l.val, by omega⟩ := Fin.ext (by simp [lane])

/-- The gate over the decay at row `r` and lane `l` of group `q`. -/
def gR (q : Fin 4) : EReal := gate (fun k : Fin 256 => uc (ix2 r (lane q k))) (fun k => wg (ix3 0 k ⟨l.val, by omega⟩)) (br (ix2 0 (lane q l)))

/-- The gate over the input there. -/
def gI (q : Fin 4) : EReal := gate (fun k : Fin 256 => uc (ix2 r (lane q k))) (fun k => wg (ix3 0 k ⟨256 + l.val, by omega⟩)) (bi (ix2 0 (lane q l)))

/-- The decay there. -/
def gA (q : Fin 4) : EReal := decay (gR uc br wg r l q) (sp (ix2 0 (lane q l)))

/-- The recurrence's input there. -/
def gB (q : Fin 4) : EReal := drive (gR uc br wg r l q) (sp (ix2 0 (lane q l))) (gI uc bi wg r l q) (uc (ix2 r (lane q l)))

section
variable (w : Vec Ideal S4x1024 .f32) (v p3 : Vec Ideal S512x1024 .f32)

theorem pay22_at :
    k0_pay22 (F := Ideal) sp (k0_pay17 w v p3 br wg) k0_pay19 (ix2 r l) = gA (k0_pay10 w v p3) br sp wg r l 0 := by
  pointwise [k0_pay22, k0_pay21, k0_pay20, k0_pay19, k0_pay17, k0_pay16, k0_pay15, k0_pay12, gA, gR, gate, decay, nla]
  simp only [zero_sub, lane_zero]

theorem pay23_at :
    k0_pay23 (F := Ideal) (k0_pay10 w v p3) sp (k0_pay17 w v p3 br wg) (k0_pay18 w v p3 bi wg) k0_pay19 (ix2 r l)
      = gB (k0_pay10 w v p3) br bi sp wg r l 0 := by
  pointwise [k0_pay23, k0_pay21, k0_pay20, k0_pay19, k0_pay17, k0_pay18, k0_pay16, k0_pay15, k0_pay12, k0_pay13, gB, gR, gI, gate, drive, factor, decay, nla]
  simp only [zero_sub, lane_zero]

theorem pay30_at :
    k0_pay30 (F := Ideal) (k0_pay27 br sp (k0_pay15 w v p3) wg) (ix2 r l) = gA (k0_pay10 w v p3) br sp wg r l 1 := by
  pointwise [k0_pay30, k0_pay27, k0_pay26, k0_pay24, k0_pay15, gA, gR, gate, decay, nla]
  simp only [zero_sub, lane_one]

theorem pay31_at :
    k0_pay31 (F := Ideal) (k0_pay10 w v p3) (k0_pay25 bi (k0_pay15 w v p3) wg) (k0_pay28 br sp (k0_pay15 w v p3) wg) (k0_pay29 br sp (k0_pay15 w v p3) wg) (ix2 r l)
      = gB (k0_pay10 w v p3) br bi sp wg r l 1 := by
  pointwise [k0_pay31, k0_pay25, k0_pay28, k0_pay29, k0_pay27, k0_pay26, k0_pay24, k0_pay15, gB, gR, gI, gate, drive, factor, decay, nla]
  simp only [zero_sub, lane_one]

theorem pay37_at :
    k0_pay37 (F := Ideal) br sp (k0_pay15 w v p3) wg (ix2 r l) = gA (k0_pay10 w v p3) br sp wg r l 2 := by
  pointwise [k0_pay37, k0_pay35, k0_pay34, k0_pay32, k0_pay15, gA, gR, gate, decay, nla]
  simp only [zero_sub, lane_two]

theorem pay38_at :
    k0_pay38 (F := Ideal) (k0_pay10 w v p3) (k0_pay33 bi (k0_pay15 w v p3) wg) (k0_pay36 br sp (k0_pay15 w v p3) wg) (ix2 r l)
      = gB (k0_pay10 w v p3) br bi sp wg r l 2 := by
  pointwise [k0_pay38, k0_pay33, k0_pay36, k0_pay35, k0_pay34, k0_pay32, k0_pay15, gB, gR, gI, gate, drive, factor, decay, nla]
  simp only [zero_sub, lane_two]

theorem pay42_at :
    k0_pay42 (F := Ideal) br sp (k0_pay15 w v p3) wg (ix2 r l) = gA (k0_pay10 w v p3) br sp wg r l 3 := by
  pointwise [k0_pay42, k0_pay41, k0_pay40, k0_pay39, k0_pay15, gA, gR, gate, decay, nla]
  simp only [zero_sub, lane_three]

theorem pay43_at :
    k0_pay43 (F := Ideal) (k0_pay10 w v p3) br bi sp (k0_pay15 w v p3) wg (ix2 r l) = gB (k0_pay10 w v p3) br bi sp wg r l 3 := by
  pointwise [k0_pay43, k0_pay41, k0_pay40, k0_pay39, k0_pay15, gB, gR, gI, gate, drive, factor, decay, nla]
  simp only [zero_sub, lane_three]

end

/-! ## The input rows and their projection -/

/-- Row `s` of the tile with its two halos. -/
def haloRow (prev : Vec Ideal S1x8x1024 .f32) (cur : Vec Ideal S1x512x1024 .f32) (next : Vec Ideal S1x8x1024 .f32) (s : Fin 528) (l : Fin 1024) : EReal :=
  if h : s.val < 8 then prev (ix3 0 ⟨s.val, h⟩ l)
  else if h' : s.val - 8 < 512 then cur (ix3 0 ⟨s.val - 8, h'⟩ l) else next (ix3 0 ⟨s.val - 8 - 512, by omega⟩ l)

theorem pay7_at (md : Vec Ideal S1x6x1024 .f32) (prev : Vec Ideal S1x8x1024 .f32) (cur : Vec Ideal S1x512x1024 .f32) (next : Vec Ideal S1x8x1024 .f32) (g : Vec Ideal S1x1024 .f32) (s : Fin 528) (l : Fin 1024) :
    k0_pay7 (F := Ideal) md prev cur next g (ix2 s l)
      = modRow (fun l => haloRow prev cur next s l) (fun l => g (ix2 0 l)) (fun l => md (ix3 0 1 l)) (fun l => md (ix3 0 0 l)) l := by
  pointwise [k0_pay7, modRow, normRow, rowScale, haloRow]

/-- A selection by a decided bit. -/
theorem select_ite {α : Type} (p : Prop) [Decidable p] (x y : α) : Scalar.select (if p then 1#1 else 0#1) x y = if p then x else y := by
  split <;> rfl

theorem bits_row : ∀ s : Fin 528, IntOp.cmpi .sge (BitVec.ofNat 32 s.val) 8#32 = (if 8 ≤ s.val then 1#1 else 0#1)
    ∧ IntOp.cmpi .slt (BitVec.ofNat 32 s.val) 520#32 = (if s.val < 520 then 1#1 else 0#1) := by decide +kernel

theorem bits_tile : ∀ j : Fin 8, Scalar.cmpi .sgt (BitVec.ofNat 32 j.val) 0#32 = (if 0 < j.val then 1#1 else 0#1)
    ∧ Scalar.cmpi .slt (BitVec.ofNat 32 j.val) 7#32 = (if j.val < 7 then 1#1 else 0#1) := by decide +kernel

theorem bits_mask (p q p' q' : Prop) [Decidable p] [Decidable q] [Decidable p'] [Decidable q'] :
    IntOp.andi (IntOp.ori (if p then 1#1 else 0#1) (if q then 1#1 else 0#1)) (IntOp.ori (if p' then 1#1 else 0#1) (if q' then 1#1 else 0#1))
      = if (p ∨ q) ∧ (p' ∨ q') then 1#1 else 0#1 := by
  by_cases hp : p <;> by_cases hq : q <;> by_cases hp' : p' <;> by_cases hq' : q' <;> simp [hp, hq, hp', hq', IntOp.andi, IntOp.ori]

/-- The projected rows, with zeros where the halo falls outside the sequence. -/
theorem pay8_at (j : Fin 8) (x : Vec Ideal S528x1024 .bf16) (w : Vec Ideal S1024x1024 .bf16) (s : Fin 528) (l : Fin 1024) :
    k0_pay8 (F := Ideal) (BitVec.ofNat 32 j.val) x w (ix2 s l)
      = if (8 ≤ s.val ∨ 0 < j.val) ∧ (s.val < 520 ∨ j.val < 7) then proj (fun k => x (ix2 s k)) (fun k => w (ix2 k l)) else 0 := by
  pointwise [k0_pay8, proj]
  rw [(bits_row s).1, (bits_row s).2, (bits_tile j).1, (bits_tile j).2, bits_mask, select_ite]

/-! ## The scan of a slab -/

theorem bits_slab : ∀ r : Fin 8, IntOp.cmpi .sge (BitVec.ofNat 32 r.val) 1#32 = (if 1 ≤ r.val then 1#1 else 0#1)
    ∧ IntOp.cmpi .sge (BitVec.ofNat 32 r.val) 2#32 = (if 2 ≤ r.val then 1#1 else 0#1)
    ∧ IntOp.cmpi .sge (BitVec.ofNat 32 r.val) 4#32 = (if 4 ≤ r.val then 1#1 else 0#1) := by decide +kernel

/-- A slab's lane as a sequence of rows. -/
def rows (a : Vec Ideal S8x1024 .f32) (l : Fin 1024) (n : ℕ) : EReal := a (ix2 ⟨n % 8, Nat.mod_lt _ (by norm_num)⟩ l)

theorem rows_lt (a : Vec Ideal S8x1024 .f32) (l : Fin 1024) (n : ℕ) (h : n < 8) : rows a l n = a (ix2 ⟨n, h⟩ l) := by
  unfold rows; congr 2; exact Fin.ext (Nat.mod_eq_of_lt h)

/-- Row `r` of a slab's states: `r + 1` steps of the recurrence from the carried row. -/
theorem pay5_at (x : Vec Ideal S1x1024 .f32) (a b : Vec Ideal S8x1024 .f32) (r : Fin 8) (l : Fin 1024) (ha : ∀ r, Ok (a (ix2 r l))) :
    k0_pay5 (F := Ideal) x a b (ix2 r l) = recur (rows a l) (rows b l) (x (ix2 0 l)) (r.val + 1) := by
  rw [← three_dbl (rows a l) (rows b l) (fun i => ha _) r.val r.isLt]
  pointwise [k0_pay5]
  unfold dblA dblB rows
  fin_cases r <;> simp [Scalar.select, IntOp.cmpi]

end Cert.FrontIdeal.Hand
end
-- ==== Proof.FrontLoop.lean ====
module

public import proofs.«01_k».proof.Proof.FrontPay
public import proofs.«01_k».proof.Proof.Gen.FrontIdeal.Loops

/-! The recurrence kernel's loop over slabs of eight rows: the carried row and the stored slabs are the states of
the recurrence. -/

@[expose] public section
set_option maxRecDepth 16384
noncomputable section
namespace Cert.FrontIdeal.Hand
open Cert.FrontIdeal Cert.FrontIdeal.Gen Cert.Rows Idealize.ShloMosaic Idealize.ShloMosaic.TcCoe Idealize.SL.Sem

variable (𝒱 : Variants) (c : Dev nD) (bd : Option 𝒱.V) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S4x1024 .f32) (harg8 : arg8.IsWhole) (arg9 : Memref sig .tc .vmem S1x1024 .f32) (harg9 : arg9.IsWhole) (arg10 : Memref sig .tc .vmem S4x256x512 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1x1024 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S1x1x1024 .f32) (harg17 : arg17.IsWhole) (arg18 : Memref sig .tc .vmem S528x1024 .f32) (harg18 : arg18.IsWhole) (arg19 : Memref sig .tc .vmem S512x1024 .f32) (harg19 : arg19.IsWhole) (arg20 : Memref sig .tc .vmem S512x1024 .f32) (harg20 : arg20.IsWhole) (arg21 : Memref sig .tc .vmem S1x1024 .f32) (harg21 : arg21.IsWhole)
variable (X1 : BufTy.Contents (Elt Ideal) arg19.view.ty) (X2 : BufTy.Contents (Elt Ideal) arg20.view.ty) (init : Vec Ideal S1x1024 .f32)

/-- The loop's carried row and stores before trip `k`. -/
abbrev loopSt (k : ℕ) : Vec Ideal S1x1024 .f32 × List (View.Piece (Elt Ideal) S1x512x1024 .f32) :=
  st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 init k

theorem trips_eq : k0_t1_loop.trips = 64 := by decide +kernel

/-- A slab read from a scratch of rows. -/
theorem slab_read (v : Memref sig .tc .vmem S512x1024 .f32) (X : BufTy.Contents (Elt Ideal) v.view.ty) (k : Fin k0_t1_loop.trips) (A : Fin 1024 → ℕ → EReal)
    (hA : ∀ (r : Fin 512) (l : Fin 1024), v.view.read (Elt Ideal) X (ix2 r l) = A l r.val) (r : Fin 8) (l : Fin 1024) :
    (View.readAt (Elt Ideal) v.view (Rect.unit (s := S512x1024) (k0_off1 k) S8x1024.size (k0_off1_inb k)).toLoadRect X : Vec Ideal S8x1024 .f32) (ix2 r l) = A l (8 * k.val + r.val) := by
  have hk : k.val < 64 := lt_of_lt_of_eq k.isLt trips_eq
  have e : (Rect.unit (s := S512x1024) (k0_off1 k) S8x1024.size (k0_off1_inb k)).toLoadRect.idx (ix2 r l) = (ix2 (⟨8 * k.val + r.val, by omega⟩ : Fin 512) l : S512x1024.Idx) := by
    funext a
    refine Fin.ext ?_
    show k0_off1 k a + 1 * (ix2 r l a).val = _
    rw [k0_off1_eq]
    fin_cases a <;> simp
  exact (congrArg (v.view.read (Elt Ideal) X) e).trans (hA ⟨8 * k.val + r.val, by omega⟩ l)

/-- The states of a slab over the carried row. -/
theorem slab_at (A B : Fin 1024 → ℕ → EReal)
    (hA : ∀ (r : Fin 512) (l : Fin 1024), arg19.view.read (Elt Ideal) X1 (ix2 r l) = A l r.val)
    (hB : ∀ (r : Fin 512) (l : Fin 1024), arg20.view.read (Elt Ideal) X2 (ix2 r l) = B l r.val)
    (ok : ∀ l n, Ok (A l n)) (k : Fin k0_t1_loop.trips) (x : Vec Ideal S1x1024 .f32) (h : EReal) (l : Fin 1024)
    (hx : x (ix2 0 l) = recur (A l) (B l) h (8 * k.val)) (r : Fin 8) :
    trip_k0_t1.sl.r arg19 arg20 X1 X2 k x (ix2 r l) = recur (A l) (B l) h (8 * k.val + r.val + 1) := by
  have ha := fun r => slab_read arg19 X1 k A hA r l
  have hb := fun r => slab_read arg20 X2 k B hB r l
  unfold trip_k0_t1.sl.r
  rw [pay5_at _ _ _ _ _ (fun r => by rw [ha r]; exact ok _ _), hx, Nat.add_assoc]
  refine Eq.trans ?_ (recur_add _ _ _ _ _).symm
  refine recur_congr _ _ (fun n hn => ?_) (fun n hn => ?_)
  · rw [rows_lt _ _ _ (by omega), ha]
  · rw [rows_lt _ _ _ (by omega), hb]

variable {𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21} {X1 X2 init}

/-- Before trip `k`, `8 k` steps are done, and every stored slab holds the states after its rows. -/
theorem loop_at (A B : Fin 1024 → ℕ → EReal)
    (hA : ∀ (r : Fin 512) (l : Fin 1024), arg19.view.read (Elt Ideal) X1 (ix2 r l) = A l r.val)
    (hB : ∀ (r : Fin 512) (l : Fin 1024), arg20.view.read (Elt Ideal) X2 (ix2 r l) = B l r.val)
    (ok : ∀ l n, Ok (A l n)) : ∀ k : ℕ, k ≤ 64 →
    (∀ l : Fin 1024, (loopSt 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 init k).1 (ix2 0 l) = recur (A l) (B l) (init (ix2 0 l)) (8 * k))
    ∧ ∀ p ∈ (loopSt 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X1 X2 init k).2, ∀ x : p.1.shape.Idx,
        p.2 x = recur (A (p.1.emb x 2)) (B (p.1.emb x 2)) (init (ix2 0 (p.1.emb x 2))) ((p.1.emb x 1).val + 1)
  | 0, _ => ⟨fun l => rfl, fun p hp => absurd hp List.not_mem_nil⟩
  | k + 1, hk => by
    have ht : k < k0_t1_loop.trips := by rw [trips_eq]; omega
    obtain ⟨ih1, ih2⟩ := loop_at A B hA hB ok k (by omega)
    unfold loopSt at ih1 ih2 ⊢
    rw [show k + 1 = (⟨k, ht⟩ : Fin k0_t1_loop.trips).val + 1 from rfl, st_k0_t1_succ]
    unfold tripR_k0_t1 tripL_k0_t1 trip_k0_t1
    dsimp only
    constructor
    · intro l
      rw [pay2_at, slab_at arg19 arg20 X1 X2 A B hA hB ok ⟨k, ht⟩ _ _ l (ih1 l) 7]
      rfl
    · intro p hp
      rcases List.mem_append.mp hp with hp | hp
      · obtain rfl := List.mem_singleton.mp hp
        intro x
        obtain ⟨a, r, l, rfl⟩ : ∃ (a : Fin 1) (r : Fin 8) (l : Fin 1024), x = ix3 a r l := ⟨x 0, x 1, x 2, by idx_vars x⟩
        obtain rfl : a = 0 := Subsingleton.elim _ _
        have e1 : ((Rect.unit (s := S1x512x1024) (k0_off2 ⟨k, ht⟩) ![1, 8, 1024] (k0_off2_inb ⟨k, ht⟩)).emb (ix3 0 r l) 1).val = 8 * k + r.val := by
          show k0_off2 ⟨k, ht⟩ 1 + 1 * r.val = _
          rw [k0_off2_eq]; simp
        have e2 : (Rect.unit (s := S1x512x1024) (k0_off2 ⟨k, ht⟩) ![1, 8, 1024] (k0_off2_inb ⟨k, ht⟩)).emb (ix3 0 r l) 2 = l := by
          refine Fin.ext ?_
          show k0_off2 ⟨k, ht⟩ 2 + 1 * l.val = _
          rw [k0_off2_eq]; simp
        dsimp only
        rw [e1, e2]
        refine (pay1_at _ r l).trans ?_
        exact slab_at arg19 arg20 X1 X2 A B hA hB ok ⟨k, ht⟩ _ _ l (ih1 l) r
      · exact ih2 p hp

end Cert.FrontIdeal.Hand
end
-- ==== Proof.FrontTile.lean ====
module

public import proofs.«01_k».proof.Proof.FrontBody
public import proofs.«01_k».proof.Proof.FrontLoop
public import Idealize.ShloMosaic.Lib.Pipeline.ValueKit
public import Idealize.ShloMosaic.Lib.Pipeline.ReadBack

/-! What one tile of the recurrence kernel leaves, from its blocks and the carried row. -/

@[expose] public section
set_option maxRecDepth 16384
noncomputable section
namespace Cert.FrontIdeal.Hand
open Cert.FrontIdeal Cert.FrontIdeal.Gen Cert.Rows Idealize.ShloMosaic Idealize.ShloMosaic.TcCoe Idealize.SL.Sem

/-! ## The two scratches of factors and inputs -/

variable (w : Vec Ideal S4x1024 .f32) (v p3 : Vec Ideal S512x1024 .f32) (br bi lam : Vec Ideal S1x1024 .f32) (wg : Vec Ideal S4x256x512 .bf16)

/-- The group and the place in it of a lane. -/
def grp (l : Fin 1024) : Fin 4 := ⟨l.val / 256, by omega⟩
def plc (l : Fin 1024) : Fin 256 := ⟨l.val % 256, by omega⟩

theorem grp_lane (q : Fin 4) (l : Fin 256) : grp (lane q l) = q := Fin.ext (by show (256 * q.val + l.val) / 256 = q.val; omega)
theorem plc_lane (q : Fin 4) (l : Fin 256) : plc (lane q l) = l := Fin.ext (by show (256 * q.val + l.val) % 256 = l.val; omega)
theorem lane_grp (l : Fin 1024) : lane (grp l) (plc l) = l := Fin.ext (by show 256 * (l.val / 256) + l.val % 256 = l.val; omega)

/-- The gate weights of a group. -/
def wgq (q : Fin 4) : Vec Ideal S1x256x512 .bf16 := fun j => wg (ix3 q (j 1) (j 2))

theorem pay12_eq : k0_pay12 br = br := by
  funext j; idx_vars j; pointwise [k0_pay12]

theorem pay13_eq : k0_pay13 bi = bi := by
  funext j; idx_vars j; pointwise [k0_pay13]

/-- The factors' four stores. -/
abbrev storesA : List (View.Piece (Elt Ideal) S512x1024 .f32) :=
  [⟨Rect.unit ![0, 768] ![512, 256] inb_S512x1024_S512x256_0_768, k0_pay42 (k0_pay12 br) (k0_pay14 lam) (k0_pay15 w v p3) (View.ld wg (Rect.unit ![3, 0, 0] ![1, 256, 512] inb_S4x256x512_S1x256x512_3_0_0))⟩,
   ⟨Rect.unit ![0, 512] ![512, 256] inb_S512x1024_S512x256_0_512, k0_pay37 (k0_pay12 br) (k0_pay14 lam) (k0_pay15 w v p3) (View.ld wg (Rect.unit ![2, 0, 0] ![1, 256, 512] inb_S4x256x512_S1x256x512_2_0_0))⟩,
   ⟨Rect.unit ![0, 256] ![512, 256] inb_S512x1024_S512x256_0_256, k0_pay30 (k0_pay27 (k0_pay12 br) (k0_pay14 lam) (k0_pay15 w v p3) (View.ld wg (Rect.unit ![1, 0, 0] ![1, 256, 512] inb_S4x256x512_S1x256x512_1_0_0)))⟩,
   ⟨Rect.unit ![0, 0] ![512, 256] inb_S512x1024_S512x256_0_0, k0_pay22 (k0_pay14 lam) (k0_pay17 w v p3 br (View.ld wg (Rect.unit ![0, 0, 0] ![1, 256, 512] inb_S4x256x512_S1x256x512_0_0_0))) k0_pay19⟩]

/-- The inputs' four stores. -/
abbrev storesB : List (View.Piece (Elt Ideal) S512x1024 .f32) :=
  [⟨Rect.unit ![0, 768] ![512, 256] inb_S512x1024_S512x256_0_768, k0_pay43 (k0_pay10 w v p3) (k0_pay12 br) (k0_pay13 bi) (k0_pay14 lam) (k0_pay15 w v p3) (View.ld wg (Rect.unit ![3, 0, 0] ![1, 256, 512] inb_S4x256x512_S1x256x512_3_0_0))⟩,
   ⟨Rect.unit ![0, 512] ![512, 256] inb_S512x1024_S512x256_0_512, k0_pay38 (k0_pay10 w v p3)
      (k0_pay33 (k0_pay13 bi) (k0_pay15 w v p3) (View.ld wg (Rect.unit ![2, 0, 0] ![1, 256, 512] inb_S4x256x512_S1x256x512_2_0_0)))
      (k0_pay36 (k0_pay12 br) (k0_pay14 lam) (k0_pay15 w v p3) (View.ld wg (Rect.unit ![2, 0, 0] ![1, 256, 512] inb_S4x256x512_S1x256x512_2_0_0)))⟩,
   ⟨Rect.unit ![0, 256] ![512, 256] inb_S512x1024_S512x256_0_256, k0_pay31 (k0_pay10 w v p3)
      (k0_pay25 (k0_pay13 bi) (k0_pay15 w v p3) (View.ld wg (Rect.unit ![1, 0, 0] ![1, 256, 512] inb_S4x256x512_S1x256x512_1_0_0)))
      (k0_pay28 (k0_pay12 br) (k0_pay14 lam) (k0_pay15 w v p3) (View.ld wg (Rect.unit ![1, 0, 0] ![1, 256, 512] inb_S4x256x512_S1x256x512_1_0_0)))
      (k0_pay29 (k0_pay12 br) (k0_pay14 lam) (k0_pay15 w v p3) (View.ld wg (Rect.unit ![1, 0, 0] ![1, 256, 512] inb_S4x256x512_S1x256x512_1_0_0)))⟩,
   ⟨Rect.unit ![0, 0] ![512, 256] inb_S512x1024_S512x256_0_0, k0_pay23 (k0_pay10 w v p3) (k0_pay14 lam)
      (k0_pay17 w v p3 br (View.ld wg (Rect.unit ![0, 0, 0] ![1, 256, 512] inb_S4x256x512_S1x256x512_0_0_0)))
      (k0_pay18 w v p3 bi (View.ld wg (Rect.unit ![0, 0, 0] ![1, 256, 512] inb_S4x256x512_S1x256x512_0_0_0))) k0_pay19⟩]

/-- Four column blocks that agree with one function read it everywhere. -/
theorem read_four (V : View sig .tc .vmem S512x1024 .f32) (f : V.ty.Contents (Elt Ideal)) (G : Fin 512 → Fin 1024 → EReal)
    (q0 q1 q2 q3 : Vec Ideal S512x256 .f32) (h0 : ∀ r l, q0 (ix2 r l) = G r (lane 0 l)) (h1 : ∀ r l, q1 (ix2 r l) = G r (lane 1 l))
    (h2 : ∀ r l, q2 (ix2 r l) = G r (lane 2 l)) (h3 : ∀ r l, q3 (ix2 r l) = G r (lane 3 l)) (r : Fin 512) (l : Fin 1024) :
    V.read (Elt Ideal) (V.writes (Elt Ideal) f
      [⟨Rect.unit ![0, 768] ![512, 256] inb_S512x1024_S512x256_0_768, q3⟩, ⟨Rect.unit ![0, 512] ![512, 256] inb_S512x1024_S512x256_0_512, q2⟩,
       ⟨Rect.unit ![0, 256] ![512, 256] inb_S512x1024_S512x256_0_256, q1⟩, ⟨Rect.unit ![0, 0] ![512, 256] inb_S512x1024_S512x256_0_0, q0⟩]) (ix2 r l) = G r l := by
  have key : ∀ (o : ℕ) (inb : ∀ a, (![0, o] : Fin 2 → ℕ) a + (![512, 256] : Fin 2 → ℕ) a ≤ S512x1024.size a) (q : Fin 4) (ho : o = 256 * q.val)
      (p : Vec Ideal S512x256 .f32) (hp : ∀ r l, p (ix2 r l) = G r (lane q l)) (x : S512x256.Idx),
      p x = G ((Rect.unit (s := S512x1024) ![0, o] ![512, 256] inb).emb x 0) ((Rect.unit (s := S512x1024) ![0, o] ![512, 256] inb).emb x 1) := by
    intro o inb q ho p hp x
    idx_vars x
    refine (hp _ _).trans (congrArg₂ G (Fin.ext ?_) (Fin.ext ?_))
    · show _ = 0 + 1 * _
      simp
    · show 256 * q.val + _ = o + 1 * _
      simp [ho]
  refine View.read_writes_apply_of_pieces V f (fun y => G (y 0) (y 1)) _ ?_ (ix2 r l) ?_
  · intro p hp x
    simp only [List.mem_cons, List.not_mem_nil, or_false] at hp
    rcases hp with rfl | rfl | rfl | rfl
    · exact key 768 inb_S512x1024_S512x256_0_768 3 rfl q3 h3 x
    · exact key 512 inb_S512x1024_S512x256_0_512 2 rfl q2 h2 x
    · exact key 256 inb_S512x1024_S512x256_0_256 1 rfl q1 h1 x
    · exact key 0 inb_S512x1024_S512x256_0_0 0 rfl q0 h0 x
  · exact View.cover_of_tiledL (s := S512x1024) _ ![512, 256] (by sl_kernel_rfl) _

/-- The recurrence's factor at a row and a lane. -/
def facA (uc : Vec Ideal S512x1024 .f32) (r : Fin 512) (l : Fin 1024) : EReal :=
  gA uc br (k0_pay14 lam) (wgq wg (grp l)) r (plc l) (grp l)

/-- The recurrence's input at a row and a lane. -/
def facB (uc : Vec Ideal S512x1024 .f32) (r : Fin 512) (l : Fin 1024) : EReal :=
  gB uc br bi (k0_pay14 lam) (wgq wg (grp l)) r (plc l) (grp l)

theorem facA_lane (uc : Vec Ideal S512x1024 .f32) (r : Fin 512) (q : Fin 4) (l : Fin 256) (W : Vec Ideal S1x256x512 .bf16) (hW : W = wgq wg q) :
    gA uc br (k0_pay14 lam) W r l q = facA br lam wg uc r (lane q l) := by
  unfold facA; rw [grp_lane, plc_lane, hW]

theorem facB_lane (uc : Vec Ideal S512x1024 .f32) (r : Fin 512) (q : Fin 4) (l : Fin 256) (W : Vec Ideal S1x256x512 .bf16) (hW : W = wgq wg q) :
    gB uc br bi (k0_pay14 lam) W r l q = facB br bi lam wg uc r (lane q l) := by
  unfold facB; rw [grp_lane, plc_lane, hW]

theorem ld_group (o : ℕ) (inb : ∀ a, (![o, 0, 0] : Fin 3 → ℕ) a + (![1, 256, 512] : Fin 3 → ℕ) a ≤ S4x256x512.size a) (q : Fin 4) (ho : o = q.val) :
    (View.ld wg (Rect.unit (s := S4x256x512) ![o, 0, 0] ![1, 256, 512] inb) : Vec Ideal S1x256x512 .bf16) = wgq wg q := by
  funext x
  unfold wgq
  refine congrArg wg (funext fun a => Fin.ext ?_)
  show (![o, 0, 0] : Fin 3 → ℕ) a + 1 * (x a).val = _
  have h0 : (x 0).val = 0 := by have := (x 0).isLt; simpa using this
  fin_cases a
  · simp [h0, ho]
  · simp
  · simp

theorem read_storesA (V : View sig .tc .vmem S512x1024 .f32) (f : V.ty.Contents (Elt Ideal)) (r : Fin 512) (l : Fin 1024) :
    V.read (Elt Ideal) (V.writes (Elt Ideal) f (storesA w v p3 br lam wg)) (ix2 r l) = facA br lam wg (k0_pay10 w v p3) r l := by
  refine read_four V f (facA br lam wg (k0_pay10 w v p3)) _ _ _ _ ?_ ?_ ?_ ?_ r l <;> intro r l
  · rw [pay22_at]; exact facA_lane _ _ _ _ _ _ _ _ (ld_group _ _ _ _ rfl)
  · rw [pay12_eq, pay30_at]; exact facA_lane _ _ _ _ _ _ _ _ (ld_group _ _ _ _ rfl)
  · rw [pay12_eq, pay37_at]; exact facA_lane _ _ _ _ _ _ _ _ (ld_group _ _ _ _ rfl)
  · rw [pay12_eq, pay42_at]; exact facA_lane _ _ _ _ _ _ _ _ (ld_group _ _ _ _ rfl)

theorem read_storesB (V : View sig .tc .vmem S512x1024 .f32) (f : V.ty.Contents (Elt Ideal)) (r : Fin 512) (l : Fin 1024) :
    V.read (Elt Ideal) (V.writes (Elt Ideal) f (storesB w v p3 br bi lam wg)) (ix2 r l) = facB br bi lam wg (k0_pay10 w v p3) r l := by
  refine read_four V f (facB br bi lam wg (k0_pay10 w v p3)) _ _ _ _ ?_ ?_ ?_ ?_ r l <;> intro r l
  · rw [pay23_at]; exact facB_lane _ _ _ _ _ _ _ _ _ (ld_group _ _ _ _ rfl)
  · rw [pay12_eq, pay13_eq, pay31_at]; exact facB_lane _ _ _ _ _ _ _ _ _ (ld_group _ _ _ _ rfl)
  · rw [pay12_eq, pay13_eq, pay38_at]; exact facB_lane _ _ _ _ _ _ _ _ _ (ld_group _ _ _ _ rfl)
  · rw [pay12_eq, pay13_eq, pay43_at]; exact facB_lane _ _ _ _ _ _ _ _ _ (ld_group _ _ _ _ rfl)

/-- The factors and inputs of a tile, by lane and row, as functions of any number. -/
def tilA (uc : Vec Ideal S512x1024 .f32) (l : Fin 1024) (n : ℕ) : EReal := if h : n < 512 then facA br lam wg uc ⟨n, h⟩ l else 0
def tilB (uc : Vec Ideal S512x1024 .f32) (l : Fin 1024) (n : ℕ) : EReal := if h : n < 512 then facB br bi lam wg uc ⟨n, h⟩ l else 0

theorem facA_ok (uc : Vec Ideal S512x1024 .f32) (r : Fin 512) (l : Fin 1024) : Ok (facA br lam wg uc r l) := by
  unfold facA gA gR gate
  rw [pay14_at]
  exact decay_bounds _ _ (logistic_nonneg _) (soft_nonneg _)

theorem tilA_ok (uc : Vec Ideal S512x1024 .f32) (l : Fin 1024) (n : ℕ) : Ok (tilA br lam wg uc l n) := by
  unfold tilA
  split
  · exact facA_ok _ _ _ _ _ _
  · exact ⟨le_refl _, by simp⟩

theorem storesA_tile (V : View sig .tc .vmem S512x1024 .f32) (f : V.ty.Contents (Elt Ideal)) (r : Fin 512) (l : Fin 1024) :
    V.read (Elt Ideal) (V.writes (Elt Ideal) f (storesA w v p3 br lam wg)) (ix2 r l) = tilA br lam wg (k0_pay10 w v p3) l r.val := by
  rw [read_storesA, tilA, dif_pos r.isLt]

theorem storesB_tile (V : View sig .tc .vmem S512x1024 .f32) (f : V.ty.Contents (Elt Ideal)) (r : Fin 512) (l : Fin 1024) :
    V.read (Elt Ideal) (V.writes (Elt Ideal) f (storesB w v p3 br bi lam wg)) (ix2 r l) = tilB br bi lam wg (k0_pay10 w v p3) l r.val := by
  rw [read_storesB, tilB, dif_pos r.isLt]

/-! ## The tile -/

variable (m : (ℓ : Loc nD τ sig) → Buf (Elt Ideal) ℓ) (c : Dev nD) (t : Fin cfg0.N)

/-- The tile's 528 rows of the projection, 8 before and 8 after among them. -/
def slab : Vec Ideal S528x1024 .f32 := k0_pay8 (BitVec.ofNat 32 (grid0.coords t 1).val) (k0_pay7 (iblk m c 3 t) (iblk m c 1 t) (iblk m c 0 t) (iblk m c 2 t) (iblk m c 4 t)) (iblk m c 5 t)

/-- The scratch it is stored in, read at a rectangle. -/
abbrev readSlab (Z : Vec Ideal S528x1024 .f32) (r : Rect S528x1024) :=
  (View.whole cc0_scratch0 : View sig .tc .vmem S528x1024 .f32).readCov (Val := Elt Ideal) [⟨Rect.unit (s := S528x1024) ![0, 0] ![528, 1024] inb_S528x1024_S528x1024_0_0, Z⟩] r.toLoadRect

theorem readSlab_eq (Z : Vec Ideal S528x1024 .f32) (r : Rect S528x1024) : readSlab Z r = View.ld Z r :=
  View.readCov_fill (View.whole cc0_scratch0 : View sig .tc .vmem S528x1024 .f32) (off := ![0, 0]) inb_S528x1024_S528x1024_0_0 Z [] r (by decide)

/-- The 512 rows of it from row `d`, -/
abbrev from6 : Vec Ideal S512x1024 .f32 := readSlab (slab m c t) (Rect.unit (s := S528x1024) ![6, 0] ![512, 1024] inb_S528x1024_S512x1024_6_0)
abbrev from7 : Vec Ideal S512x1024 .f32 := readSlab (slab m c t) (Rect.unit (s := S528x1024) ![7, 0] ![512, 1024] inb_S528x1024_S512x1024_7_0)
abbrev from8 : Vec Ideal S512x1024 .f32 := readSlab (slab m c t) (Rect.unit (s := S528x1024) ![8, 0] ![512, 1024] inb_S528x1024_S512x1024_8_0)
abbrev from9 : Vec Ideal S512x1024 .f32 := readSlab (slab m c t) (Rect.unit (s := S528x1024) ![9, 0] ![512, 1024] inb_S528x1024_S512x1024_9_0)

theorem readSlab_at (d : ℕ) (inb : ∀ a, (![d, 0] : Fin 2 → ℕ) a + (![512, 1024] : Fin 2 → ℕ) a ≤ S528x1024.size a) (Z : Vec Ideal S528x1024 .f32) (hd : d ≤ 16) (r : Fin 512) (l : Fin 1024) :
    (readSlab Z (Rect.unit (s := S528x1024) ![d, 0] ![512, 1024] inb) : Vec Ideal S512x1024 .f32) (ix2 r l) = Z (ix2 ⟨r.val + d, by omega⟩ l) := by
  rw [readSlab_eq]
  refine congrArg Z (funext fun a => Fin.ext ?_)
  show (![d, 0] : Fin 2 → ℕ) a + 1 * ((ix2 r l : S512x1024.Idx) a).val = _
  fin_cases a
  · show d + 1 * r.val = r.val + d
    omega
  · show 0 + 1 * l.val = l.val
    omega

/-- and the convolution of the tile over them. -/
def tilUC : Vec Ideal S512x1024 .f32 := k0_pay10 (iblk m c 6 t) (k0_pay9 (iblk m c 6 t) (iblk m c 7 t) (from6 m c t) (from7 m c t) (from8 m c t)) (from9 m c t)

/-- The convolution at a row and a lane. -/
theorem tilUC_at (r : Fin 512) (l : Fin 1024) :
    tilUC m c t (ix2 r l) = conv (iblk m c 6 t (ix2 0 l)) (iblk m c 6 t (ix2 1 l)) (iblk m c 6 t (ix2 2 l)) (iblk m c 6 t (ix2 3 l)) (iblk m c 7 t (ix2 0 l))
      (slab m c t (ix2 ⟨r.val + 6, by omega⟩ l)) (slab m c t (ix2 ⟨r.val + 7, by omega⟩ l)) (slab m c t (ix2 ⟨r.val + 8, by omega⟩ l)) (slab m c t (ix2 ⟨r.val + 9, by omega⟩ l)) := by
  unfold tilUC
  rw [pay10_at, from6, from7, from8, from9, readSlab_at 6 _ _ (by omega), readSlab_at 7 _ _ (by omega), readSlab_at 8 _ _ (by omega), readSlab_at 9 _ _ (by omega)]

abbrev tA := tilA (iblk m c 9 t) (iblk m c 11 t) (iblk m c 8 t) (tilUC m c t)
abbrev tB := tilB (iblk m c 9 t) (iblk m c 10 t) (iblk m c 11 t) (iblk m c 8 t) (tilUC m c t)

/-! ### A later tile, over the carried row -/

theorem outB_conv (h0 : ¬t.val % 8 = 0) (xs : Vec Ideal S1x1024 .f32) (r : Fin 512) (l : Fin 1024) :
    (outB m c t h0 xs).1 (ix3 0 r l) = tilUC m c t (ix2 r l) := by
  unfold outB got KB runB
  dsimp only
  frame_out
  exact pay11_at _ _ _ _ _

theorem outB_hs (h0 : ¬t.val % 8 = 0) (xs : Vec Ideal S1x1024 .f32) (r : Fin 512) (l : Fin 1024) :
    (outB m c t h0 xs).2.1 (ix3 0 r l) = recur (tA m c t l) (tB m c t l) (xs (ix2 0 l)) (r.val + 1) := by
  unfold outB got
  dsimp only
  refine View.read_writes_apply_of_pieces VO14 _ (fun y => recur (tA m c t (y 2)) (tB m c t (y 2)) (xs (ix2 0 (y 2))) ((y 1).val + 1)) _ ?_ (ix3 0 r l) ((coversB m c t h0 xs).c14 _)
  intro p hp x
  unfold KB runB at hp
  dsimp only at hp
  frame_out at hp
  refine ((loop_at (tA m c t) (tB m c t) (fun r l => ?_) (fun r l => ?_) (fun l n => tilA_ok _ _ _ _ _ _) 64 le_rfl).2 p hp x).trans (congrArg (fun z => recur _ _ z _) ?_)
  · exact storesA_tile _ _ _ _ _ _ _ _ _ _
  · exact storesB_tile _ _ _ _ _ _ _ _ _ _ _
  · rw [read_unread_whole]

theorem outB_carry (h0 : ¬t.val % 8 = 0) (xs : Vec Ideal S1x1024 .f32) (l : Fin 1024) :
    (outB m c t h0 xs).2.2.2 (ix2 0 l) = recur (tA m c t l) (tB m c t l) (xs (ix2 0 l)) 512 := by
  unfold outB got KB runB
  dsimp only
  frame_out
  refine (pay3_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _ _ _
  · exact storesB_tile _ _ _ _ _ _ _ _ _ _ _
  · rw [read_unread_whole]

theorem outB_last (h0 : ¬t.val % 8 = 0) (xs : Vec Ideal S1x1024 .f32) (l : Fin 1024) :
    (outB m c t h0 xs).2.2.1 (ix3 0 0 l) = recur (tA m c t l) (tB m c t l) (xs (ix2 0 l)) 512 := by
  unfold outB got KB runB
  dsimp only
  frame_out
  refine (pay4_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _ _ _
  · exact storesB_tile _ _ _ _ _ _ _ _ _ _ _
  · rw [read_unread_whole]

/-! ### A first tile, over the row the sequence starts from -/

theorem outA_conv (h0 : t.val % 8 = 0) (r : Fin 512) (l : Fin 1024) :
    (outA m c t h0).1 (ix3 0 r l) = tilUC m c t (ix2 r l) := by
  unfold outA got KA runA
  dsimp only
  frame_out
  exact pay11_at _ _ _ _ _

theorem outA_hs (h0 : t.val % 8 = 0) (r : Fin 512) (l : Fin 1024) :
    (outA m c t h0).2.1 (ix3 0 r l) = recur (tA m c t l) (tB m c t l) (iblk m c 12 t (ix3 0 0 l)) (r.val + 1) := by
  unfold outA got
  dsimp only
  refine View.read_writes_apply_of_pieces VO14 _ (fun y => recur (tA m c t (y 2)) (tB m c t (y 2)) (iblk m c 12 t (ix3 0 0 (y 2))) ((y 1).val + 1)) _ ?_ (ix3 0 r l) ((coversA m c t h0).c14 _)
  intro p hp x
  unfold KA runA at hp
  dsimp only at hp
  frame_out at hp
  refine ((loop_at (tA m c t) (tB m c t) (fun r l => ?_) (fun r l => ?_) (fun l n => tilA_ok _ _ _ _ _ _) 64 le_rfl).2 p hp x).trans (congrArg (fun z => recur _ _ z _) ?_)
  · exact storesA_tile _ _ _ _ _ _ _ _ _ _
  · exact storesB_tile _ _ _ _ _ _ _ _ _ _ _
  · exact pay6_at _ _

theorem outA_carry (h0 : t.val % 8 = 0) (l : Fin 1024) :
    (outA m c t h0).2.2.2 (ix2 0 l) = recur (tA m c t l) (tB m c t l) (iblk m c 12 t (ix3 0 0 l)) 512 := by
  unfold outA got KA runA
  dsimp only
  frame_out
  refine (pay3_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _ _ _
  · exact storesB_tile _ _ _ _ _ _ _ _ _ _ _
  · exact pay6_at _ _

theorem outA_last (h0 : t.val % 8 = 0) (l : Fin 1024) :
    (outA m c t h0).2.2.1 (ix3 0 0 l) = recur (tA m c t l) (tB m c t l) (iblk m c 12 t (ix3 0 0 l)) 512 := by
  unfold outA got KA runA
  dsimp only
  frame_out
  refine (pay4_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _ _ _
  · exact storesB_tile _ _ _ _ _ _ _ _ _ _ _
  · exact pay6_at _ _

end Cert.FrontIdeal.Hand
end
-- ==== Proof.FrontSpec.lean ====
module

public import proofs.«01_k».proof.Proof.FrontRows
public import Idealize.ShloMosaic.Lib.Pipeline.ValueKit

/-! What the recurrence layer computes for one batch entry, from its rows and weights: the padded projection, the
convolution, the two gates over each head, and the states. Both programs are read as this. -/

@[expose] public section
noncomputable section
namespace Cert.Rows
open Idealize.ShloMosaic

/-- A batch entry's rows, modulation and starting state, and the weights. -/
structure FrontIn where
  X : Fin 4096 → Fin 1024 → EReal
  M : Fin 6 → Fin 1024 → EReal
  G : Fin 1024 → EReal
  W : Fin 1024 → Fin 1024 → EReal
  cw : Fin 4 → Fin 1024 → EReal
  cb : Fin 1024 → EReal
  wr : Fin 16 → Fin 64 → Fin 64 → EReal
  br : Fin 1024 → EReal
  wi : Fin 16 → Fin 64 → Fin 64 → EReal
  bi : Fin 1024 → EReal
  lam : Fin 1024 → EReal
  h0 : Fin 1024 → EReal

namespace FrontIn
variable (I : FrontIn)

/-- The projected row. -/
def U (s : Fin 4096) (l : Fin 1024) : EReal := proj (modRow (I.X s) I.G (I.M 1) (I.M 0)) (fun k => I.W k l)

/-- The projected rows with two rows of zeros before and zeros after. -/
def P (n : ℕ) (l : Fin 1024) : EReal := if h : 2 ≤ n ∧ n < 4098 then I.U ⟨n - 2, by omega⟩ l else 0

/-- The convolution. -/
def UC (n : ℕ) (l : Fin 1024) : EReal :=
  conv (I.cw 0 l) (I.cw 1 l) (I.cw 2 l) (I.cw 3 l) (I.cb l) (I.P n l) (I.P (n + 1) l) (I.P (n + 2) l) (I.P (n + 3) l)

/-- The head of a lane, its place in the head, and the lane at a place of its head. -/
def head (l : Fin 1024) : Fin 16 := ⟨l.val / 64, by omega⟩
def place (l : Fin 1024) : Fin 64 := ⟨l.val % 64, by omega⟩
def mate (l : Fin 1024) (k : Fin 64) : Fin 1024 := ⟨64 * (l.val / 64) + k.val, by omega⟩

/-- The gate over the decay, and the gate over the input. -/
def GR (n : ℕ) (l : Fin 1024) : EReal := gate (fun k => I.UC n (mate l k)) (fun k => I.wr (head l) k (place l)) (I.br l)
def GI (n : ℕ) (l : Fin 1024) : EReal := gate (fun k => I.UC n (mate l k)) (fun k => I.wi (head l) k (place l)) (I.bi l)

/-- The recurrence's factor and input. -/
def FA (n : ℕ) (l : Fin 1024) : EReal := decay (I.GR n l) (soft (I.lam l))
def FB (n : ℕ) (l : Fin 1024) : EReal := drive (I.GR n l) (soft (I.lam l)) (I.GI n l) (I.UC n l)

/-- The state after `n` rows. -/
def H (n : ℕ) (l : Fin 1024) : EReal := recur (fun i => I.FA i l) (fun i => I.FB i l) (I.h0 l) n

end FrontIn

/-- Weights that are zero outside one block of 64 sum over the block alone. -/
theorem sum_block (x : Fin 256 → EReal) (w : Fin 64 → EReal) (j : Fin 4) :
    ∑ k : Fin 256, x k * (if k.val / 64 = j.val then w ⟨k.val % 64, by omega⟩ else 0) = ∑ k : Fin 64, x ⟨64 * j.val + k.val, by omega⟩ * w k := by
  have h : ∑ q : Fin 4, ∑ k : Fin 64, (if q = j then x ⟨64 * q.val + k.val, by omega⟩ * w k else 0)
      = ∑ k : Fin 256, x k * (if k.val / 64 = j.val then w ⟨k.val % 64, by omega⟩ else 0) := by
    refine Fin.sum_mul_add_congr fun q k hl => ?_
    have e1 : (q.val * 64 + k.val) / 64 = q.val := by omega
    have e2 : (q.val * 64 + k.val) % 64 = k.val := by omega
    simp only [e1, e2]
    by_cases hq : q = j
    · rw [if_pos hq, if_pos (congrArg Fin.val hq)]
      congr 2
      exact Fin.ext (by show 64 * q.val + k.val = q.val * 64 + k.val; omega)
    · rw [if_neg hq, if_neg (fun e => hq (Fin.ext e)), mul_zero]
  rw [← h, Finset.sum_eq_single j]
  · simp
  · intro q _ hq
    simp [hq]
  · intro hq
    exact absurd (Finset.mem_univ _) hq

/-- The kernel's decided unit matrix. -/
theorem unit_entry : ∀ a b : Fin 4, (FloatOps.uitofp (F := Ideal) .f32 (IntOp.cmpi .eq (IntOp.addi (BitVec.ofNat 32 a.val) 0#32) (BitVec.ofNat 32 b.val)) : EReal)
    = if a.val = b.val then 1 else 0 := by
  have h : ∀ a b : Fin 4, IntOp.cmpi .eq (IntOp.addi (BitVec.ofNat 32 a.val) 0#32) (BitVec.ofNat 32 b.val) = if a.val = b.val then 1#1 else 0#1 := by decide
  intro a b
  rw [h]
  split
  · show ((1#1).toNat : EReal) = 1
    simp
  · show ((0#1).toNat : EReal) = 0
    simp

end Cert.Rows
end
-- ==== Proof.FrontValue.lean ====
module

public import proofs.«01_k».proof.Proof.FrontTile
public import proofs.«01_k».proof.Proof.FrontSpec

/-! The recurrence kernel's three result arrays: its blocks as the layer's inputs, the tiles joined along each
sequence, and the written blocks put together. -/

@[expose] public section
set_option maxRecDepth 16384
noncomputable section
namespace Cert.FrontIdeal.Hand
open Cert.FrontIdeal Cert.FrontIdeal.Gen Cert.Rows Idealize.ShloMosaic Idealize.ShloMosaic.TcCoe Idealize.SL.Sem

variable (m : (ℓ : Loc nD τ sig) → Buf (Elt Ideal) ℓ)

/-! ## The blocks at a point -/

/-- The windows' block indices at a point: batch `t / 8`, tile `t % 8`. -/
theorem idx : ∀ t : Fin cfg0.N, win0_0.index t = ![t.val / 8, t.val % 8, 0] ∧ win0_1.index t = ![t.val / 8, t.val % 8 * 64 - 1, 0]
    ∧ win0_2.index t = ![t.val / 8, min (t.val % 8 * 64 + 64) 511, 0] ∧ win0_3.index t = ![t.val / 8, 0, 0] ∧ win0_4.index t = ![0, 0]
    ∧ win0_5.index t = ![0, 0] ∧ win0_6.index t = ![0, 0] ∧ win0_7.index t = ![0, 0] ∧ win0_8.index t = ![0, 0, 0] ∧ win0_9.index t = ![0, 0]
    ∧ win0_10.index t = ![0, 0] ∧ win0_11.index t = ![0, 0] ∧ win0_12.index t = ![t.val / 8, 0, 0]
    ∧ win0_13.index t = ![t.val / 8, t.val % 8, 0] ∧ win0_14.index t = ![t.val / 8, t.val % 8, 0] ∧ win0_15.index t = ![t.val / 8, 0, 0] :=
  (by decide +kernel : ∀ t : Fin grid0.N, _)

/-- The tile's number as the body reads it. -/
theorem coord1 : ∀ t : Fin cfg0.N, (grid0.coords t 1).val = t.val % 8 := (by decide +kernel : ∀ t : Fin grid0.N, _)

/-! What each window's block holds. -/

theorem blk0 (c : Dev nD) (t : Fin cfg0.N) (r : Fin 512) (l : Fin 1024) (b : Fin 4) (s : Fin 4096) (hb : b.val = t.val / 8) (hs : s.val = t.val % 8 * 512 + r.val) :
    (iblk m c 0 t : Vec Ideal S1x512x1024 .f32) (ix3 0 r l) = m ((c.tc : Thread nD τ).loc main_arg0) (ix3 b s l) := by
  blk_point [iblk, V, idx t]
theorem blk1 (c : Dev nD) (t : Fin cfg0.N) (r : Fin 8) (l : Fin 1024) (b : Fin 4) (s : Fin 4096) (hb : b.val = t.val / 8) (hs : s.val = (t.val % 8 * 64 - 1) * 8 + r.val) :
    (iblk m c 1 t : Vec Ideal S1x8x1024 .f32) (ix3 0 r l) = m ((c.tc : Thread nD τ).loc main_arg0) (ix3 b s l) := by
  blk_point [iblk, V, idx t]
theorem blk2 (c : Dev nD) (t : Fin cfg0.N) (r : Fin 8) (l : Fin 1024) (b : Fin 4) (s : Fin 4096) (hb : b.val = t.val / 8) (hs : s.val = (min (t.val % 8 * 64 + 64) 511) * 8 + r.val) :
    (iblk m c 2 t : Vec Ideal S1x8x1024 .f32) (ix3 0 r l) = m ((c.tc : Thread nD τ).loc main_arg0) (ix3 b s l) := by
  blk_point [iblk, V, idx t]
theorem blk3 (c : Dev nD) (t : Fin cfg0.N) (k : Fin 6) (l : Fin 1024) (b : Fin 8) (hb : b.val = t.val / 8) :
    (iblk m c 3 t : Vec Ideal S1x6x1024 .f32) (ix3 0 k l) = m ((c.tc : Thread nD τ).loc main_arg1) (ix3 b k l) := by
  blk_point [iblk, V, idx t]
theorem blk4 (c : Dev nD) (t : Fin cfg0.N) (l : Fin 1024) :
    (iblk m c 4 t : Vec Ideal S1x1024 .f32) (ix2 0 l) = m ((c.tc : Thread nD τ).loc main_arg2) (ix1 l) := by
  blk_point [iblk, V, idx t]
theorem blk5 (c : Dev nD) (t : Fin cfg0.N) (k l : Fin 1024) (l' : Fin 4608) (hl : l'.val = l.val) :
    (iblk m c 5 t : Vec Ideal S1024x1024 .bf16) (ix2 k l) = m ((c.tc : Thread nD τ).loc main_arg3) (ix2 k l') := by
  blk_point [iblk, V, idx t]
theorem blk6 (c : Dev nD) (t : Fin cfg0.N) (k : Fin 4) (l : Fin 1024) :
    (iblk m c 6 t : Vec Ideal S4x1024 .f32) (ix2 k l) = m ((c.tc : Thread nD τ).loc main_arg4) (ix2 k l) := by
  blk_point [iblk, V, idx t]
theorem blk7 (c : Dev nD) (t : Fin cfg0.N) (l : Fin 1024) :
    (iblk m c 7 t : Vec Ideal S1x1024 .f32) (ix2 0 l) = m ((c.tc : Thread nD τ).loc main_arg5) (ix1 l) := by
  blk_point [iblk, V, idx t]
theorem blk9 (c : Dev nD) (t : Fin cfg0.N) (l : Fin 1024) :
    (iblk m c 9 t : Vec Ideal S1x1024 .f32) (ix2 0 l) = m ((c.tc : Thread nD τ).loc main_arg7) (ix1 l) := by
  blk_point [iblk, V, idx t]
theorem blk10 (c : Dev nD) (t : Fin cfg0.N) (l : Fin 1024) :
    (iblk m c 10 t : Vec Ideal S1x1024 .f32) (ix2 0 l) = m ((c.tc : Thread nD τ).loc main_arg9) (ix1 l) := by
  blk_point [iblk, V, idx t]
theorem blk11 (c : Dev nD) (t : Fin cfg0.N) (l : Fin 1024) :
    (iblk m c 11 t : Vec Ideal S1x1024 .f32) (ix2 0 l) = m ((c.tc : Thread nD τ).loc main_arg10) (ix1 l) := by
  blk_point [iblk, V, idx t]
theorem blk12 (c : Dev nD) (t : Fin cfg0.N) (l : Fin 1024) (b : Fin 4) (hb : b.val = t.val / 8) :
    (iblk m c 12 t : Vec Ideal S1x1x1024 .f32) (ix3 0 0 l) = m ((c.tc : Thread nD τ).loc main_arg11) (ix3 b 0 l) := by
  blk_point [iblk, V, idx t]

theorem blk8 (c : Dev nD) (t : Fin cfg0.N) (q : Fin 4) (k : Fin 256) (l : Fin 512) :
    (iblk m c 8 t : Vec Ideal S4x256x512 .bf16) (ix3 q k l) = (V m c main_v27 : Vec Ideal S4x256x512 .bf16) (ix3 q k l) := by
  blk_ext [iblk, V, idx t]

/-- A weight times the unit matrix. -/
theorem mul_unit (w : EReal) (k l : Fin 256) :
    w * (FloatOps.uitofp (F := Ideal) .f32 (IntOp.cmpi .eq (IntOp.addi (BitVec.ofNat 32 (k.val / 64)) 0#32) (BitVec.ofNat 32 (l.val / 64))) : EReal)
      = if k.val / 64 = l.val / 64 then w else 0 := by
  rw [unit_entry ⟨k.val / 64, by omega⟩ ⟨l.val / 64, by omega⟩]
  split <;> simp

/-- The packed gate weights: the left half holds the first gate's, -/
theorem wg_left (c : Dev nD) (q : Fin 4) (k l : Fin 256) (hd : Fin 16) (hh : hd.val = q.val * 4 + k.val / 64) :
    (V m c main_v27 : Vec Ideal S4x256x512 .bf16) (ix3 q k ⟨l.val, by omega⟩)
      = if k.val / 64 = l.val / 64 then (m ((c.tc : Thread nD τ).loc main_arg6) : Vec Ideal S16x64x64 .f32) (ix3 hd ⟨k.val % 64, by omega⟩ ⟨l.val % 64, by omega⟩) else (0 : EReal) := by
  have e : hd = ⟨q.val * 4 + k.val / 64, by omega⟩ := Fin.ext hh
  rw [e, ← mul_unit]
  unfold V
  entry_read
  pointwise

/-- the right half the second gate's. -/
theorem wg_right (c : Dev nD) (q : Fin 4) (k l : Fin 256) (hd : Fin 16) (hh : hd.val = q.val * 4 + k.val / 64) :
    (V m c main_v27 : Vec Ideal S4x256x512 .bf16) (ix3 q k ⟨256 + l.val, by omega⟩)
      = if k.val / 64 = l.val / 64 then (m ((c.tc : Thread nD τ).loc main_arg8) : Vec Ideal S16x64x64 .f32) (ix3 hd ⟨k.val % 64, by omega⟩ ⟨l.val % 64, by omega⟩) else (0 : EReal) := by
  have e : hd = ⟨q.val * 4 + k.val / 64, by omega⟩ := Fin.ext hh
  rw [e, ← mul_unit]
  unfold V
  entry_read
  pointwise

/-! ## The layer's inputs for a batch entry -/

/-- The inputs of batch entry `b`. -/
def inp (c : Dev nD) (b : Fin 4) : FrontIn where
  X s l := (m ((c.tc : Thread nD τ).loc main_arg0) : Vec Ideal S4x4096x1024 .f32) (ix3 b s l)
  M k l := (m ((c.tc : Thread nD τ).loc main_arg1) : Vec Ideal S8x6x1024 .f32) (ix3 ⟨b.val, by omega⟩ k l)
  G l := (m ((c.tc : Thread nD τ).loc main_arg2) : Vec Ideal S1024 .f32) (ix1 l)
  W k l := (m ((c.tc : Thread nD τ).loc main_arg3) : Vec Ideal S1024x4608 .f32) (ix2 k ⟨l.val, by omega⟩)
  cw k l := (m ((c.tc : Thread nD τ).loc main_arg4) : Vec Ideal S4x1024 .f32) (ix2 k l)
  cb l := (m ((c.tc : Thread nD τ).loc main_arg5) : Vec Ideal S1024 .f32) (ix1 l)
  wr h k l := (m ((c.tc : Thread nD τ).loc main_arg6) : Vec Ideal S16x64x64 .f32) (ix3 h k l)
  br l := (m ((c.tc : Thread nD τ).loc main_arg7) : Vec Ideal S1024 .f32) (ix1 l)
  wi h k l := (m ((c.tc : Thread nD τ).loc main_arg8) : Vec Ideal S16x64x64 .f32) (ix3 h k l)
  bi l := (m ((c.tc : Thread nD τ).loc main_arg9) : Vec Ideal S1024 .f32) (ix1 l)
  lam l := (m ((c.tc : Thread nD τ).loc main_arg10) : Vec Ideal S1024 .f32) (ix1 l)
  h0 l := (m ((c.tc : Thread nD τ).loc main_arg11) : Vec Ideal S4x1x1024 .f32) (ix3 b 0 l)

variable (c : Dev nD) (t : Fin cfg0.N)

/-- The batch entry of a point. -/
def ptB : Fin 4 := ⟨t.val / 8, by have := lt_of_lt_of_eq t.isLt N_0; omega⟩
abbrev ptI : FrontIn := inp m c (ptB t)

/-- A row of the slab whose projection is kept is the row of the batch entry. -/
theorem halo_at (s : Fin 528) (l : Fin 1024) (hs : (8 ≤ s.val ∨ 0 < t.val % 8) ∧ (s.val < 520 ∨ t.val % 8 < 7)) :
    haloRow (iblk m c 1 t) (iblk m c 0 t) (iblk m c 2 t) s l = (ptI m c t).X ⟨t.val % 8 * 512 + s.val - 8, by omega⟩ l := by
  unfold haloRow
  split
  · exact blk1 m c t _ l (ptB t) _ rfl (by show _ = _ + s.val; dsimp only; omega)
  · split
    · exact blk0 m c t _ l (ptB t) _ rfl (by show _ = _ + (s.val - 8); dsimp only; omega)
    · exact blk2 m c t _ l (ptB t) _ rfl (by show _ = _ + (s.val - 8 - 512); dsimp only; omega)

theorem mod_congr {x x' g g' a a' b b' : Fin 1024 → EReal} (l : Fin 1024) (hx : ∀ l, x l = x' l) (hg : ∀ l, g l = g' l) (ha : ∀ l, a l = a' l) (hb : ∀ l, b l = b' l) :
    modRow x g a b l = modRow x' g' a' b' l := by
  rw [funext hx, funext hg, funext ha, funext hb]

/-- The slab holds the padded projection. -/
theorem slab_row (s : Fin 528) (l : Fin 1024) (n : ℕ) (hn : n + 6 = t.val % 8 * 512 + s.val) :
    slab m c t (ix2 s l) = (ptI m c t).P n l := by
  unfold slab
  rw [show BitVec.ofNat 32 (grid0.coords t 1).val = BitVec.ofNat 32 (⟨t.val % 8, by omega⟩ : Fin 8).val from congrArg (BitVec.ofNat 32) (coord1 t), pay8_at]
  unfold FrontIn.P
  by_cases h : (8 ≤ s.val ∨ 0 < t.val % 8) ∧ (s.val < 520 ∨ t.val % 8 < 7)
  · rw [if_pos h, dif_pos ⟨by omega, by omega⟩]
    have e : (⟨t.val % 8 * 512 + s.val - 8, by omega⟩ : Fin 4096) = ⟨n - 2, by omega⟩ := Fin.ext (by dsimp only; omega)
    refine congrArg₂ proj (funext fun k => ?_) (funext fun k => blk5 m c t k l ⟨l.val, by omega⟩ rfl)
    refine (pay7_at _ _ _ _ _ _ _).trans (mod_congr _ (fun l => ?_) (fun l => blk4 m c t l) (fun l => blk3 m c t 1 l _ rfl) (fun l => blk3 m c t 0 l _ rfl))
    rw [← e]
    exact halo_at m c t s l h
  · rw [if_neg h, dif_neg (fun hh => h ⟨by omega, by omega⟩)]

/-- The tile's convolution is the batch entry's. -/
theorem tilUC_row (r : Fin 512) (l : Fin 1024) : tilUC m c t (ix2 r l) = (ptI m c t).UC (t.val % 8 * 512 + r.val) l := by
  rw [tilUC_at, slab_row m c t _ l (t.val % 8 * 512 + r.val) (by dsimp only; omega), slab_row m c t _ l (t.val % 8 * 512 + r.val + 1) (by dsimp only; omega),
    slab_row m c t _ l (t.val % 8 * 512 + r.val + 2) (by dsimp only; omega), slab_row m c t _ l (t.val % 8 * 512 + r.val + 3) (by dsimp only; omega)]
  simp only [blk6, blk7]
  rfl

/-- A sum against a group's weights is the sum over the lane's own head. -/
theorem gate_sum (r : Fin 512) (l : Fin 1024) (w : Fin 256 → EReal) (W : Fin 16 → Fin 64 → Fin 64 → EReal)
    (hw : ∀ (k : Fin 256) (hd : Fin 16), hd.val = (grp l).val * 4 + k.val / 64 →
      w k = if k.val / 64 = (plc l).val / 64 then W hd ⟨k.val % 64, by omega⟩ ⟨(plc l).val % 64, by omega⟩ else 0) :
    ∑ k : Fin 256, tilUC m c t (ix2 r (lane (grp l) k)) * w k
      = ∑ k : Fin 64, (ptI m c t).UC (t.val % 8 * 512 + r.val) (FrontIn.mate l k) * W (FrontIn.head l) k (FrontIn.place l) := by
  have hg : (grp l).val = l.val / 256 := rfl
  have hp : (plc l).val = l.val % 256 := rfl
  have h := sum_block (fun k => tilUC m c t (ix2 r (lane (grp l) k))) (fun k => W (FrontIn.head l) k (FrontIn.place l)) ⟨(plc l).val / 64, by omega⟩
  refine (Finset.sum_congr rfl fun k _ => ?_).trans (h.trans (Finset.sum_congr rfl fun k _ => ?_))
  · refine congrArg (_ * ·) ?_
    rw [hw k ⟨(grp l).val * 4 + k.val / 64, by omega⟩ rfl]
    by_cases hk : k.val / 64 = (plc l).val / 64
    · rw [if_pos hk, if_pos hk]
      have e1 : (⟨(grp l).val * 4 + k.val / 64, by omega⟩ : Fin 16) = FrontIn.head l := Fin.ext (by show _ = l.val / 64; dsimp only; omega)
      have e2 : (⟨(plc l).val % 64, by omega⟩ : Fin 64) = FrontIn.place l := Fin.ext (by show (plc l).val % 64 = l.val % 64; omega)
      rw [e1, e2]
    · rw [if_neg hk, if_neg hk]
  · refine congrArg (· * _) ?_
    have e : lane (grp l) ⟨64 * ((plc l).val / 64) + k.val, by omega⟩ = FrontIn.mate l k :=
      Fin.ext (by show 256 * (grp l).val + (64 * ((plc l).val / 64) + k.val) = 64 * (l.val / 64) + k.val; omega)
    exact (congrArg (fun z => tilUC m c t (ix2 r z)) e).trans (tilUC_row m c t r (FrontIn.mate l k))

/-- The first gate of a tile is the batch entry's, -/
theorem gR_row (r : Fin 512) (l : Fin 1024) :
    gR (tilUC m c t) (iblk m c 9 t) (wgq (iblk m c 8 t) (grp l)) r (plc l) (grp l) = (ptI m c t).GR (t.val % 8 * 512 + r.val) l := by
  unfold gR FrontIn.GR gate
  rw [lane_grp, blk9]
  exact congrArg (fun z => Ideal.logistic (z + _)) (gate_sum m c t r l _ _ fun k hd hh => (blk8 m c t (grp l) k _).trans (wg_left m c (grp l) k (plc l) hd hh))

/-- and the second. -/
theorem gI_row (r : Fin 512) (l : Fin 1024) :
    gI (tilUC m c t) (iblk m c 10 t) (wgq (iblk m c 8 t) (grp l)) r (plc l) (grp l) = (ptI m c t).GI (t.val % 8 * 512 + r.val) l := by
  unfold gI FrontIn.GI gate
  rw [lane_grp, blk10]
  exact congrArg (fun z => Ideal.logistic (z + _)) (gate_sum m c t r l _ _ fun k hd hh => (blk8 m c t (grp l) k _).trans (wg_right m c (grp l) k (plc l) hd hh))

/-- The tile's factors are the batch entry's, -/
theorem tA_row (l : Fin 1024) (n : ℕ) (hn : n < 512) : tA m c t l n = (ptI m c t).FA (t.val % 8 * 512 + n) l := by
  unfold tA tilA facA gA FrontIn.FA
  rw [dif_pos hn, gR_row, pay14_at, lane_grp, blk11]
  rfl

/-- and its inputs. -/
theorem tB_row (l : Fin 1024) (n : ℕ) (hn : n < 512) : tB m c t l n = (ptI m c t).FB (t.val % 8 * 512 + n) l := by
  unfold tB tilB facB gB FrontIn.FB
  rw [dif_pos hn, gR_row, gI_row, pay14_at, lane_grp, blk11, tilUC_row]
  rfl

/-- A tile's recurrence from the state it starts with is the batch entry's state. -/
theorem recur_tile (l : Fin 1024) (n : ℕ) (hn : n ≤ 512) (x : EReal) (hx : x = (ptI m c t).H (t.val % 8 * 512) l) :
    recur (tA m c t l) (tB m c t l) x n = (ptI m c t).H (t.val % 8 * 512 + n) l := by
  unfold FrontIn.H
  rw [hx, recur_add]
  exact recur_congr _ n (fun i hi => tA_row m c t l i (by omega)) (fun i hi => tB_row m c t l i (by omega))

/-- The state a first tile starts from. -/
theorem start_A (h0 : t.val % 8 = 0) (l : Fin 1024) : (iblk m c 12 t : Vec Ideal S1x1x1024 .f32) (ix3 0 0 l) = (ptI m c t).H (t.val % 8 * 512) l := by
  rw [h0, blk12 m c t l (ptB t) rfl]
  rfl

/-- After point `n` the carried row is the batch entry's state there. -/
theorem carry_at : ∀ (n : ℕ) (hn : n < cfg0.N) (l : Fin 1024),
    (outsAt0 m c n hn).2.2.2 (ix2 0 l) = (ptI m c ⟨n, hn⟩).H (n % 8 * 512 + 512) l := by
  intro n
  induction n with
  | zero =>
    intro hn l
    rw [outsAt0_A m c ⟨0, hn⟩ (Nat.zero_mod _), outA_carry]
    exact recur_tile m c ⟨0, hn⟩ l 512 le_rfl _ (start_A m c _ (Nat.zero_mod _) l)
  | succ n ih =>
    intro hn l
    by_cases h0 : (n + 1) % 8 = 0
    · rw [outsAt0_A m c ⟨n + 1, hn⟩ h0, outA_carry]
      exact recur_tile m c ⟨n + 1, hn⟩ l 512 le_rfl _ (start_A m c _ h0 l)
    · rw [outsAt0_B m c ⟨n + 1, hn⟩ h0, outB_carry]
      refine recur_tile m c ⟨n + 1, hn⟩ l 512 le_rfl _ ((ih (by omega) l).trans ?_)
      have eb : ptB ⟨n, by omega⟩ = ptB ⟨n + 1, hn⟩ := Fin.ext (by show n / 8 = (n + 1) / 8; omega)
      have en : n % 8 * 512 + 512 = (n + 1) % 8 * 512 := by omega
      unfold ptI
      rw [eb, en]

/-- The state a later tile starts from. -/
theorem start_B (h0 : ¬t.val % 8 = 0) (l : Fin 1024) (hp : t.val - 1 < cfg0.N) :
    (outsAt0 m c (t.val - 1) hp).2.2.2 (ix2 0 l) = (ptI m c t).H (t.val % 8 * 512) l := by
  rw [carry_at]
  have eb : ptB ⟨t.val - 1, hp⟩ = ptB t := Fin.ext (by show (t.val - 1) / 8 = t.val / 8; omega)
  have en : (t.val - 1) % 8 * 512 + 512 = t.val % 8 * 512 := by omega
  unfold ptI
  rw [eb, en]

/-! ## What a point writes -/

theorem conv_out (r : Fin 512) (l : Fin 1024) : (outsAt0 m c t.val t.isLt).1 (ix3 0 r l) = (ptI m c t).UC (t.val % 8 * 512 + r.val) l := by
  by_cases h0 : t.val % 8 = 0
  · rw [outsAt0_A m c t h0, outA_conv, tilUC_row]
  · rw [outsAt0_B m c t h0, outB_conv, tilUC_row]

theorem hs_out (r : Fin 512) (l : Fin 1024) : (outsAt0 m c t.val t.isLt).2.1 (ix3 0 r l) = (ptI m c t).H (t.val % 8 * 512 + r.val + 1) l := by
  by_cases h0 : t.val % 8 = 0
  · rw [outsAt0_A m c t h0, outA_hs]
    exact recur_tile m c t l _ (by omega) _ (start_A m c t h0 l)
  · rw [outsAt0_B m c t h0, outB_hs]
    exact recur_tile m c t l _ (by omega) _ (start_B m c t h0 l _)

theorem last_out (l : Fin 1024) : (outsAt0 m c t.val t.isLt).2.2.1 (ix3 0 0 l) = (ptI m c t).H (t.val % 8 * 512 + 512) l := by
  by_cases h0 : t.val % 8 = 0
  · rw [outsAt0_A m c t h0, outA_last]
    exact recur_tile m c t l _ (by omega) _ (start_A m c t h0 l)
  · rw [outsAt0_B m c t h0, outB_last]
    exact recur_tile m c t l _ (by omega) _ (start_B m c t h0 l _)

end Cert.FrontIdeal.Hand
end
-- ==== Proof.FrontFinal.lean ====
module

public import proofs.«01_k».proof.Proof.FrontValue

/-! The recurrence kernel's three result arrays: the written blocks put together, and the run that ends with them. -/

@[expose] public section
set_option maxRecDepth 16384
noncomputable section
namespace Cert.FrontIdeal.Hand
open Cert.FrontIdeal Cert.FrontIdeal.Gen Cert.Rows Idealize.ShloMosaic Idealize.ShloMosaic.TcCoe Idealize.SL.Sem

variable (m : (ℓ : Loc nD τ sig) → Buf (Elt Ideal) ℓ) (ρ : Dev nD → PrngReg)

/-- The first two outputs are written back at every point. -/
theorem flush13 : ∀ t : Fin cfg0.N, (cfg0.win 13).flush t = true := (by decide +kernel : ∀ t : Fin grid0.N, win0_13.flush t = true)
theorem flush14 : ∀ t : Fin cfg0.N, (cfg0.win 14).flush t = true := (by decide +kernel : ∀ t : Fin grid0.N, win0_14.flush t = true)

/-! ### Window 13 -/

/-- What the array ends holding. -/
def G13 (c : Dev nD) : Vec Ideal S4x4096x1024 .f32 := fun i => (inp m c (i 0)).UC (i 1).val (i 2)

theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after13]
  have ei : win0_13.index t = ![t.val / 8, t.val % 8, 0] := by simp only [idx t]
  have i0 : win0_13.index t (0 : Fin 3) = t.val / 8 := congrFun ei 0
  have i1 : win0_13.index t (1 : Fin 3) = t.val % 8 := congrFun ei 1
  have i2 : win0_13.index t (2 : Fin 3) = 0 := congrFun ei 2
  funext y
  have hy0 : (y 0).val < 1 := (y 0).isLt
  have hy1 : (y 1).val < 512 := (y 1).isLt
  have hy2 : (y 2).val < 1024 := (y 2).isLt
  have hl : (cfg0.win 13).xinj (grid0.coords t) y = ix3 0 ⟨(y 1).val, hy1⟩ ⟨(y 2).val, hy2⟩ := by
    funext a; apply Fin.ext
    match a with
    | ⟨0, _⟩ => show (y 0).val = 0; omega
    | ⟨1, _⟩ => show (y 1).val = (y 1).val; omega
    | ⟨2, _⟩ => rfl
  have he : ((cfg0.win 13).blk t).view.emb y = ix3 (ptB t) ⟨t.val % 8 * 512 + (y 1).val, by omega⟩ ⟨(y 2).val, hy2⟩ := by
    funext a; apply Fin.ext
    match a with
    | ⟨0, _⟩ => show win0_13.index t (0 : Fin 3) * 1 + 1 * (y 0).val = t.val / 8; omega
    | ⟨1, _⟩ => show win0_13.index t (1 : Fin 3) * 512 + 1 * (y 1).val = t.val % 8 * 512 + (y 1).val; omega
    | ⟨2, _⟩ => show win0_13.index t (2 : Fin 3) * 1024 + 1 * (y 2).val = (y 2).val; omega
  show (outsAt0 m c t.val t.isLt).1 ((cfg0.win 13).xinj (grid0.coords t) y) = G13 m c (((cfg0.win 13).blk t).view.emb y)
  rw [hl, he, conv_out]
  rfl

theorem mem_blk13 (t : Fin cfg0.N) (i : S4x4096x1024.Idx) :
    i ∈ ((cfg0.win 13).blk t).view.set ↔ ∀ a : Fin 3, win0_13.index t a * S1x512x1024.size a ≤ (i a).val ∧ (i a).val < win0_13.index t a * S1x512x1024.size a + S1x512x1024.size a := by
  show i ∈ ((View.whole main_v31_0).slice (win0_13.rect t)).set ↔ _
  rw [View.set_slice_whole, Rect.mem_set_unit]
  exact Iff.rfl

theorem final13 (c : Dev nD) : (dats m 0 c).arrAt 13 cfg0.N = G13 m c :=
  (dats m 0 c).arrAt_eq_of_cover 13 _ (fun t hf => flushed13_eq m c t) (fun i => by
    have h0 : (i 0).val < 4 := (i 0).isLt
    have h1 : (i 1).val < 4096 := (i 1).isLt
    have h2 : (i 2).val < 1024 := (i 2).isLt
    have hp : 8 * (i 0).val + (i 1).val / 512 < cfg0.N := lt_of_lt_of_eq (by omega) N_0.symm
    refine ⟨⟨_, hp⟩, flush13 _, ?_⟩
    rw [mem_blk13]
    have ei : win0_13.index ⟨_, hp⟩ = ![(8 * (i 0).val + (i 1).val / 512) / 8, (8 * (i 0).val + (i 1).val / 512) % 8, 0] := by simp only [idx ⟨_, hp⟩]
    intro a
    match a with
    | ⟨0, _⟩ => show win0_13.index ⟨_, hp⟩ (0 : Fin 3) * 1 ≤ (i 0).val ∧ (i 0).val < win0_13.index ⟨_, hp⟩ (0 : Fin 3) * 1 + 1; rw [congrFun ei 0]; dsimp; omega
    | ⟨1, _⟩ => show win0_13.index ⟨_, hp⟩ (1 : Fin 3) * 512 ≤ (i 1).val ∧ (i 1).val < win0_13.index ⟨_, hp⟩ (1 : Fin 3) * 512 + 512; rw [congrFun ei 1]; dsimp; omega
    | ⟨2, _⟩ => show win0_13.index ⟨_, hp⟩ (2 : Fin 3) * 1024 ≤ (i 2).val ∧ (i 2).val < win0_13.index ⟨_, hp⟩ (2 : Fin 3) * 1024 + 1024; rw [congrFun ei 2]; dsimp; omega)

/-! ### Window 14 -/

/-- What the array ends holding. -/
def G14 (c : Dev nD) : Vec Ideal S4x4096x1024 .f32 := fun i => (inp m c (i 0)).H ((i 1).val + 1) (i 2)

theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after14]
  have ei : win0_14.index t = ![t.val / 8, t.val % 8, 0] := by simp only [idx t]
  have i0 : win0_14.index t (0 : Fin 3) = t.val / 8 := congrFun ei 0
  have i1 : win0_14.index t (1 : Fin 3) = t.val % 8 := congrFun ei 1
  have i2 : win0_14.index t (2 : Fin 3) = 0 := congrFun ei 2
  funext y
  have hy0 : (y 0).val < 1 := (y 0).isLt
  have hy1 : (y 1).val < 512 := (y 1).isLt
  have hy2 : (y 2).val < 1024 := (y 2).isLt
  have hl : (cfg0.win 14).xinj (grid0.coords t) y = ix3 0 ⟨(y 1).val, hy1⟩ ⟨(y 2).val, hy2⟩ := by
    funext a; apply Fin.ext
    match a with
    | ⟨0, _⟩ => show (y 0).val = 0; omega
    | ⟨1, _⟩ => show (y 1).val = (y 1).val; omega
    | ⟨2, _⟩ => rfl
  have he : ((cfg0.win 14).blk t).view.emb y = ix3 (ptB t) ⟨t.val % 8 * 512 + (y 1).val, by omega⟩ ⟨(y 2).val, hy2⟩ := by
    funext a; apply Fin.ext
    match a with
    | ⟨0, _⟩ => show win0_14.index t (0 : Fin 3) * 1 + 1 * (y 0).val = t.val / 8; omega
    | ⟨1, _⟩ => show win0_14.index t (1 : Fin 3) * 512 + 1 * (y 1).val = t.val % 8 * 512 + (y 1).val; omega
    | ⟨2, _⟩ => show win0_14.index t (2 : Fin 3) * 1024 + 1 * (y 2).val = (y 2).val; omega
  show (outsAt0 m c t.val t.isLt).2.1 ((cfg0.win 14).xinj (grid0.coords t) y) = G14 m c (((cfg0.win 14).blk t).view.emb y)
  rw [hl, he, hs_out]
  rfl

theorem mem_blk14 (t : Fin cfg0.N) (i : S4x4096x1024.Idx) :
    i ∈ ((cfg0.win 14).blk t).view.set ↔ ∀ a : Fin 3, win0_14.index t a * S1x512x1024.size a ≤ (i a).val ∧ (i a).val < win0_14.index t a * S1x512x1024.size a + S1x512x1024.size a := by
  show i ∈ ((View.whole main_v31_1).slice (win0_14.rect t)).set ↔ _
  rw [View.set_slice_whole, Rect.mem_set_unit]
  exact Iff.rfl

theorem final14 (c : Dev nD) : (dats m 0 c).arrAt 14 cfg0.N = G14 m c :=
  (dats m 0 c).arrAt_eq_of_cover 14 _ (fun t hf => flushed14_eq m c t) (fun i => by
    have h0 : (i 0).val < 4 := (i 0).isLt
    have h1 : (i 1).val < 4096 := (i 1).isLt
    have h2 : (i 2).val < 1024 := (i 2).isLt
    have hp : 8 * (i 0).val + (i 1).val / 512 < cfg0.N := lt_of_lt_of_eq (by omega) N_0.symm
    refine ⟨⟨_, hp⟩, flush14 _, ?_⟩
    rw [mem_blk14]
    have ei : win0_14.index ⟨_, hp⟩ = ![(8 * (i 0).val + (i 1).val / 512) / 8, (8 * (i 0).val + (i 1).val / 512) % 8, 0] := by simp only [idx ⟨_, hp⟩]
    intro a
    match a with
    | ⟨0, _⟩ => show win0_14.index ⟨_, hp⟩ (0 : Fin 3) * 1 ≤ (i 0).val ∧ (i 0).val < win0_14.index ⟨_, hp⟩ (0 : Fin 3) * 1 + 1; rw [congrFun ei 0]; dsimp; omega
    | ⟨1, _⟩ => show win0_14.index ⟨_, hp⟩ (1 : Fin 3) * 512 ≤ (i 1).val ∧ (i 1).val < win0_14.index ⟨_, hp⟩ (1 : Fin 3) * 512 + 512; rw [congrFun ei 1]; dsimp; omega
    | ⟨2, _⟩ => show win0_14.index ⟨_, hp⟩ (2 : Fin 3) * 1024 ≤ (i 2).val ∧ (i 2).val < win0_14.index ⟨_, hp⟩ (2 : Fin 3) * 1024 + 1024; rw [congrFun ei 2]; dsimp; omega)

/-! ### Window 15 -/

/-- What the array ends holding. -/
def G15 (c : Dev nD) : Vec Ideal S4x1x1024 .f32 := fun i => (inp m c (i 0)).H 4096 (i 2)

theorem flushed15_eq (c : Dev nD) (t : Fin cfg0.N) (h7 : t.val % 8 = 7) :
    (dats m 0 c).flushed 15 t = ((cfg0.win 15).blk t).view.read (Elt Ideal) (G15 m c) := by
  show (cfg0.win 15).cut (grid0.coords t) ((dats m 0 c).after 15 t) = _
  rw [after15]
  have ei : win0_15.index t = ![t.val / 8, 0, 0] := by simp only [idx t]
  have i0 : win0_15.index t (0 : Fin 3) = t.val / 8 := congrFun ei 0
  have i1 : win0_15.index t (1 : Fin 3) = 0 := congrFun ei 1
  have i2 : win0_15.index t (2 : Fin 3) = 0 := congrFun ei 2
  funext y
  have hy0 : (y 0).val < 1 := (y 0).isLt
  have hy1 : (y 1).val < 1 := (y 1).isLt
  have hy2 : (y 2).val < 1024 := (y 2).isLt
  have hl : (cfg0.win 15).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have he : ((cfg0.win 15).blk t).view.emb y = ix3 (ptB t) 0 ⟨(y 2).val, hy2⟩ := by
    funext a; apply Fin.ext
    match a with
    | ⟨0, _⟩ => show win0_15.index t (0 : Fin 3) * 1 + 1 * (y 0).val = t.val / 8; omega
    | ⟨1, _⟩ => show win0_15.index t (1 : Fin 3) * 1 + 1 * (y 1).val = 0; omega
    | ⟨2, _⟩ => show win0_15.index t (2 : Fin 3) * 1024 + 1 * (y 2).val = (y 2).val; omega
  show (outsAt0 m c t.val t.isLt).2.2.1 ((cfg0.win 15).xinj (grid0.coords t) y) = G15 m c (((cfg0.win 15).blk t).view.emb y)
  rw [hl, he, last_out]
  rw [h7]
  rfl

theorem mem_blk15 (t : Fin cfg0.N) (i : S4x1x1024.Idx) :
    i ∈ ((cfg0.win 15).blk t).view.set ↔ ∀ a : Fin 3, win0_15.index t a * S1x1x1024.size a ≤ (i a).val ∧ (i a).val < win0_15.index t a * S1x1x1024.size a + S1x1x1024.size a := by
  show i ∈ ((View.whole main_v31_2).slice (win0_15.rect t)).set ↔ _
  rw [View.set_slice_whole, Rect.mem_set_unit]
  exact Iff.rfl

theorem final15 (c : Dev nD) : (dats m 0 c).arrAt 15 cfg0.N = G15 m c :=
  (dats m 0 c).arrAt_eq_of_cover 15 _ (fun t hf => flushed15_eq m c t ((flush0_15 t).mp hf)) (fun i => by
    have h0 : (i 0).val < 4 := (i 0).isLt
    have h1 : (i 1).val < 1 := (i 1).isLt
    have h2 : (i 2).val < 1024 := (i 2).isLt
    have hp : 8 * (i 0).val + 7 < cfg0.N := lt_of_lt_of_eq (by omega) N_0.symm
    refine ⟨⟨_, hp⟩, (flush0_15 _).mpr (by dsimp only; omega), ?_⟩
    rw [mem_blk15]
    have ei : win0_15.index ⟨_, hp⟩ = ![(8 * (i 0).val + 7) / 8, 0, 0] := by simp only [idx ⟨_, hp⟩]
    intro a
    match a with
    | ⟨0, _⟩ => show win0_15.index ⟨_, hp⟩ (0 : Fin 3) * 1 ≤ (i 0).val ∧ (i 0).val < win0_15.index ⟨_, hp⟩ (0 : Fin 3) * 1 + 1; rw [congrFun ei 0]; dsimp; omega
    | ⟨1, _⟩ => show win0_15.index ⟨_, hp⟩ (1 : Fin 3) * 1 ≤ (i 1).val ∧ (i 1).val < win0_15.index ⟨_, hp⟩ (1 : Fin 3) * 1 + 1; rw [congrFun ei 1]; dsimp; omega
    | ⟨2, _⟩ => show win0_15.index ⟨_, hp⟩ (2 : Fin 3) * 1024 ≤ (i 2).val ∧ (i 2).val < win0_15.index ⟨_, hp⟩ (2 : Fin 3) * 1024 + 1024; rw [congrFun ei 2]; dsimp; omega)

/-- The run: the three arrays, with the arguments unchanged. -/
theorem run : θ_run defs (onTc (τ := τ) (main (F := Ideal))) ⟨m, fun _ => 0, ρ⟩ (fun r => ∀ c : Dev nD,
      r.2.mem ((c.tc : Thread nD τ).loc main_v31_0) = G13 m c
      ∧ r.2.mem ((c.tc : Thread nD τ).loc main_v31_1) = G14 m c
      ∧ r.2.mem ((c.tc : Thread nD τ).loc main_v31_2) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine (θ_run defs _ _).mono (fun r h c => ?_) (θ_run_and (run_main m ρ) (frame_of m ρ (dats m) (A_eq m) (run_main m ρ)))
  exact ⟨((h.1 c).1 13).trans (final13 m c), ((h.1 c).1 14).trans (final14 m c), ((h.1 c).1 15).trans (final15 m c), h.2 c⟩

end Cert.FrontIdeal.Hand
end
-- ==== Proof.FrontRefRun.lean ====
/- The run of the reference `FrontRefIdeal` over the standalone step of its loop: at contents that HOLD a state every value
   of one trip is that of the step, one trip keeps holding, what the operations before the loop leave holds the initial state,
   and the results are read off the state after the last trip. The text is that of the generated module of this
   name, with the stacked rows' step closed at the trip's lemma directly. -/
module

public import proofs.«01_k».proof.Proof.Gen.FrontRefIdeal.Run
public import proofs.«01_k».proof.Proof.Gen.FrontRefIdeal.Step

@[expose] public section

noncomputable section

namespace Cert.FrontRefIdeal.HandRun

open Idealize.ShloMosaic Idealize.ShloMosaic.TcCoe Idealize.SL.Sem Idealize.ShloMosaic.StableHlo
open Cert.FrontRefIdeal Cert.FrontRefIdeal.Gen Cert.FrontRefIdeal.Value
open Cert.FrontRefIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v103_3) = s.main_v103_3
  f_4 : V0 (Proc.devRef .tc main_v103_4) = s.main_v103_4
  f_0 : V0 (Proc.devRef .tc main_v103_0) = s.main_v103_0
  f_1 : V0 (Proc.devRef .tc main_v103_1) = s.main_v103_1
  n_2 : V0 (Proc.devRef .tc main_v103_2) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.FrontRefIdeal.Step.b0 j s := by
  unfold Cert.FrontRefIdeal.Step.b0
  rfl
set_option maxRecDepth 8192 in
theorem al_1 (h : Holds V0 s j) : (constantI S_ 32 0#32 : (Proc.devRef .tc main_while0b_call2_c_0 : DevRef τ sig).ty.Contents (Elt F)) = Cert.FrontRefIdeal.Step.b1 j s := by
  unfold Cert.FrontRefIdeal.Step.b1
  rfl
set_option maxRecDepth 8192 in
theorem al_2 (h : Holds V0 s j) : (Host.dynamicSlice S1x4x1024 (V0 (Proc.devRef .tc main_v103_0)) (fun k => (((![V0 (Proc.devRef .tc main_v103_2), constantI S_ 32 0#32, constantI S_ 32 0#32] : Fin 3 → (⟨S_, .i32⟩ : BufTy).Contents (Elt F))) k (Shape.Idx.first h_S_)).toInt) sliceFits_S4096x4x1024_S1x4x1024 : (Proc.devRef .tc main_while0b_call2_v0 : DevRef τ sig).ty.Contents (Elt F)) = Cert.FrontRefIdeal.Step.b2 j s := by
  unfold Cert.FrontRefIdeal.Step.b2
  rw [← al_0 h, ← al_1 h, h.f_0, h.n_2]
  try rfl
set_option maxRecDepth 8192 in
theorem al_3 (h : Holds V0 s j) : (shapeCast S4x1024 (Host.dynamicSlice S1x4x1024 (V0 (Proc.devRef .tc main_v103_0)) (fun k => (((![V0 (Proc.devRef .tc main_v103_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024 : (Proc.devRef .tc main_while0b_v165 : DevRef τ sig).ty.Contents (Elt F)) = Cert.FrontRefIdeal.Step.b3 j s := by
  unfold Cert.FrontRefIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.FrontRefIdeal.Step.b4 j s := by
  unfold Cert.FrontRefIdeal.Step.b4
  rfl
set_option maxRecDepth 8192 in
theorem al_5 (h : Holds V0 s j) : (constantI S_ 32 0#32 : (Proc.devRef .tc main_while0b_call3_c_0 : DevRef τ sig).ty.Contents (Elt F)) = Cert.FrontRefIdeal.Step.b5 j s := by
  unfold Cert.FrontRefIdeal.Step.b5
  rfl
set_option maxRecDepth 8192 in
theorem al_6 (h : Holds V0 s j) : (Host.dynamicSlice S1x4x1024 (V0 (Proc.devRef .tc main_v103_1)) (fun k => (((![V0 (Proc.devRef .tc main_v103_2), constantI S_ 32 0#32, constantI S_ 32 0#32] : Fin 3 → (⟨S_, .i32⟩ : BufTy).Contents (Elt F))) k (Shape.Idx.first h_S_)).toInt) sliceFits_S4096x4x1024_S1x4x1024 : (Proc.devRef .tc main_while0b_call3_v0 : DevRef τ sig).ty.Contents (Elt F)) = Cert.FrontRefIdeal.Step.b6 j s := by
  unfold Cert.FrontRefIdeal.Step.b6
  rw [← al_4 h, ← al_5 h, h.f_1, h.n_2]
  try rfl
set_option maxRecDepth 8192 in
theorem al_7 (h : Holds V0 s j) : (shapeCast S4x1024 (Host.dynamicSlice S1x4x1024 (V0 (Proc.devRef .tc main_v103_1)) (fun k => (((![V0 (Proc.devRef .tc main_v103_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024 : (Proc.devRef .tc main_while0b_v166 : DevRef τ sig).ty.Contents (Elt F)) = Cert.FrontRefIdeal.Step.b7 j s := by
  unfold Cert.FrontRefIdeal.Step.b7
  rw [← al_6 h]
  try rfl
set_option maxRecDepth 8192 in
theorem al_8 (h : Holds V0 s j) : (mulf (shapeCast S4x1024 (Host.dynamicSlice S1x4x1024 (V0 (Proc.devRef .tc main_v103_0)) (fun k => (((![V0 (Proc.devRef .tc main_v103_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024) (V0 (Proc.devRef .tc main_v103_3)) : (Proc.devRef .tc main_while0b_v167 : DevRef τ sig).ty.Contents (Elt F)) = Cert.FrontRefIdeal.Step.b8 j s := by
  unfold Cert.FrontRefIdeal.Step.b8
  rw [← al_3 h, h.f_3]
  try rfl
set_option maxRecDepth 8192 in
theorem al_9 (h : Holds V0 s j) : (res_main_while0b_v168 V0 : (Proc.devRef .tc main_while0b_v168 : DevRef τ sig).ty.Contents (Elt F)) = Cert.FrontRefIdeal.Step.b9 j s := by
  unfold res_main_while0b_v168 Cert.FrontRefIdeal.Step.b9
  rw [← al_8 h, ← al_7 h]
  try rfl
set_option maxRecDepth 8192 in
theorem al_10 (h : Holds V0 s j) : (broadcastInDim S1x4x1024 ![1, 2] bcast_S4x1024_S1x4x1024_1_2 (res_main_while0b_v168 V0) : (Proc.devRef .tc main_while0b_call4_v0 : DevRef τ sig).ty.Contents (Elt F)) = Cert.FrontRefIdeal.Step.b10 j s := by
  unfold Cert.FrontRefIdeal.Step.b10
  rw [← al_9 h]
  try rfl
set_option maxRecDepth 8192 in
theorem al_11 (h : Holds V0 s j) : (constantI S_ 32 0#32 : (Proc.devRef .tc main_while0b_call4_c : DevRef τ sig).ty.Contents (Elt F)) = Cert.FrontRefIdeal.Step.b11 j s := by
  unfold Cert.FrontRefIdeal.Step.b11
  rfl
set_option maxRecDepth 8192 in
theorem al_12 (h : Holds V0 s j) : (constantI S_ 32 0#32 : (Proc.devRef .tc main_while0b_call4_c_0 : DevRef τ sig).ty.Contents (Elt F)) = Cert.FrontRefIdeal.Step.b12 j s := by
  unfold Cert.FrontRefIdeal.Step.b12
  rfl
set_option maxRecDepth 8192 in
theorem al_13 (h : Holds V0 s j) : (Host.dynamicUpdateSlice (V0 (Proc.devRef .tc main_v103_4)) (broadcastInDim S1x4x1024 ![1, 2] bcast_S4x1024_S1x4x1024_1_2 (res_main_while0b_v168 V0)) (fun k => (((![V0 (Proc.devRef .tc main_v103_2), constantI S_ 32 0#32, constantI S_ 32 0#32] : Fin 3 → (⟨S_, .i32⟩ : BufTy).Contents (Elt F))) k (Shape.Idx.first h_S_)).toInt) updateFits_S4096x4x1024_S1x4x1024 : (Proc.devRef .tc main_while0b_v169 : DevRef τ sig).ty.Contents (Elt F)) = Cert.FrontRefIdeal.Step.b13 j s := by
  unfold Cert.FrontRefIdeal.Step.b13
  rw [← al_10 h, ← al_11 h, ← al_12 h, h.f_4, h.n_2]
  try rfl

/-! One trip's step of the carried values is `step`, field by field; a counter steps to the next number. -/

theorem step_3 (h : Holds V0 s j) : step_main_v103_3 V0 = (step j s).main_v103_3 := by
  unfold step_main_v103_3 Cert.FrontRefIdeal.Step.step
  show id (res_main_while0b_v168 V0) = _
  rw [al_9 h]
  try rfl
theorem step_4 (h : Holds V0 s j) : step_main_v103_4 V0 = (step j s).main_v103_4 := by
  unfold step_main_v103_4 Cert.FrontRefIdeal.Step.step
  exact al_13 h
theorem step_2 (h : Holds V0 s j) : step_main_v103_2 V0 = constantI S_ 32 (BitVec.ofNat 32 (j + 1)) := by
  unfold step_main_v103_2
  rw [h.n_2]
  funext i
  show BitVec.ofNat 32 j + 1#32 = BitVec.ofNat 32 (j + 1)
  simp only [BitVec.ofNat_add]

set_option maxRecDepth 8192 in
theorem out_main_v163_holds (h : Holds V0 s j) {x_main_arg0 : (⟨S4x4096x1024, .f32⟩ : BufTy).Contents (Elt F)} (h_main_arg0 : V0 (Proc.devRef .tc main_arg0) = x_main_arg0) {x_main_arg1 : (⟨S8x6x1024, .f32⟩ : BufTy).Contents (Elt F)} (h_main_arg1 : V0 (Proc.devRef .tc main_arg1) = x_main_arg1) {x_main_arg2 : (⟨S1024, .f32⟩ : BufTy).Contents (Elt F)} (h_main_arg2 : V0 (Proc.devRef .tc main_arg2) = x_main_arg2) {x_main_arg3 : (⟨S1024x4608, .f32⟩ : BufTy).Contents (Elt F)} (h_main_arg3 : V0 (Proc.devRef .tc main_arg3) = x_main_arg3) {x_main_arg4 : (⟨S4x1024, .f32⟩ : BufTy).Contents (Elt F)} (h_main_arg4 : V0 (Proc.devRef .tc main_arg4) = x_main_arg4) {x_main_arg5 : (⟨S1024, .f32⟩ : BufTy).Contents (Elt F)} (h_main_arg5 : V0 (Proc.devRef .tc main_arg5) = x_main_arg5) : out_main_v163 V0 = Cert.FrontRefIdeal.Step.R_main_v163 s x_main_arg0 x_main_arg1 x_main_arg2 x_main_arg3 x_main_arg4 x_main_arg5 := by
  unfold out_main_v163 Cert.FrontRefIdeal.Step.R_main_v163
  rw [h_main_arg0, h_main_arg1, h_main_arg2, h_main_arg3, h_main_arg4, h_main_arg5]
  try rfl

set_option maxRecDepth 8192 in
theorem out_main_v104_holds (h : Holds V0 s j) : out_main_v104 V0 = Cert.FrontRefIdeal.Step.R_main_v104 s := by
  unfold out_main_v104 Cert.FrontRefIdeal.Step.R_main_v104
  rw [h.f_4]
  try rfl

set_option maxRecDepth 8192 in
theorem out_main_v164_holds (h : Holds V0 s j) : out_main_v164 V0 = Cert.FrontRefIdeal.Step.R_main_v164 s := by
  unfold out_main_v164 Cert.FrontRefIdeal.Step.R_main_v164
  rw [h.f_4]
  try rfl

/-- One trip keeps the valuation holding: `step` of the state, the same set-up values, the next number. -/
theorem holds_step (h : Holds V0 s j) : Holds (STEP V0) (step j s) (j + 1) where
  f_3 := (STEP_main_v103_3 V0).trans (step_3 h)
  f_4 := (STEP_main_v103_4 V0).trans (step_4 h)
  n_2 := (STEP_main_v103_2 V0).trans (step_2 h)
  f_0 := (STEP_main_v103_0 V0).trans h.f_0
  f_1 := (STEP_main_v103_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `FrontRefIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v163) = Cert.FrontRefIdeal.Step.R_main_v163 (it c 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v104) = Cert.FrontRefIdeal.Step.R_main_v104 (it c 4096)
      ∧ r.2.mem ((c.tc : Thread nD τ).loc main_v164) = Cert.FrontRefIdeal.Step.R_main_v164 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 4096
    ⟨(h c).1.trans (out_main_v163_holds hk (iter_main_arg0 m c 4096) (iter_main_arg1 m c 4096) (iter_main_arg2 m c 4096) (iter_main_arg3 m c 4096) (iter_main_arg4 m c 4096) (iter_main_arg5 m c 4096)), (h c).2.1.trans (out_main_v104_holds hk), (h c).2.2.1.trans (out_main_v164_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.FrontRefIdeal.HandRun

end
-- ==== Proof.FrontRefValue.lean ====
module

public import proofs.«01_k».proof.Proof.FrontSpec
public import proofs.«01_k».proof.Proof.FrontRefRun
public import Idealize.ShloMosaic.Lib.Pointwise
public import Idealize.ShloMosaic.Lib.DynamicIndex
public import Idealize.ShloMosaic.Lib.WordCmp
public import Idealize.ShloMosaic.Lib.Pipeline.ValueKit

/-! The recurrence's reference read as the shared row mathematics: what it computes before its loop, one trip, and the
state after any number of trips. -/

@[expose] public section
set_option maxRecDepth 16384
noncomputable section
namespace Cert.FrontRefIdeal.HandRun
open Cert.FrontRefIdeal Cert.FrontRefIdeal.Gen Cert.FrontRefIdeal.Step Cert.Rows Idealize.ShloMosaic Idealize.ShloMosaic.TcCoe Idealize.SL.Sem

variable (a0 : (⟨S4x4096x1024, .f32⟩ : BufTy).Contents (Elt Ideal)) (a1 : (⟨S8x6x1024, .f32⟩ : BufTy).Contents (Elt Ideal)) (a2 : (⟨S1024, .f32⟩ : BufTy).Contents (Elt Ideal)) (a3 : (⟨S1024x4608, .f32⟩ : BufTy).Contents (Elt Ideal)) (a4 : (⟨S4x1024, .f32⟩ : BufTy).Contents (Elt Ideal)) (a5 : (⟨S1024, .f32⟩ : BufTy).Contents (Elt Ideal)) (a6 : (⟨S16x64x64, .f32⟩ : BufTy).Contents (Elt Ideal)) (a7 : (⟨S1024, .f32⟩ : BufTy).Contents (Elt Ideal)) (a8 : (⟨S16x64x64, .f32⟩ : BufTy).Contents (Elt Ideal)) (a9 : (⟨S1024, .f32⟩ : BufTy).Contents (Elt Ideal)) (a10 : (⟨S1024, .f32⟩ : BufTy).Contents (Elt Ideal)) (a11 : (⟨S4x1x1024, .f32⟩ : BufTy).Contents (Elt Ideal))

/-- The inputs of batch entry `b`. -/
def inp (b : Fin 4) : FrontIn where
  X s l := (a0 : Vec Ideal S4x4096x1024 .f32) (ix3 b s l)
  M k l := (a1 : Vec Ideal S8x6x1024 .f32) (ix3 ⟨b.val, by omega⟩ k l)
  G l := (a2 : Vec Ideal S1024 .f32) (ix1 l)
  W k l := (a3 : Vec Ideal S1024x4608 .f32) (ix2 k ⟨l.val, by omega⟩)
  cw k l := (a4 : Vec Ideal S4x1024 .f32) (ix2 k l)
  cb l := (a5 : Vec Ideal S1024 .f32) (ix1 l)
  wr h k l := (a6 : Vec Ideal S16x64x64 .f32) (ix3 h k l)
  br l := (a7 : Vec Ideal S1024 .f32) (ix1 l)
  wi h k l := (a8 : Vec Ideal S16x64x64 .f32) (ix3 h k l)
  bi l := (a9 : Vec Ideal S1024 .f32) (ix1 l)
  lam l := (a10 : Vec Ideal S1024 .f32) (ix1 l)
  h0 l := (a11 : Vec Ideal S4x1x1024 .f32) (ix3 b 0 l)

/-- The projected rows. -/
theorem u_at (b : Fin 4) (s : Fin 4096) (l : Fin 1024) : (A_main_v27 a0 a1 a2 a3 a4 a5 a6 a7 a8 a9 a10 a11 : Vec Ideal S4x4096x1024 .f32) (ix3 b s l) = (inp a0 a1 a2 a3 a4 a5 a6 a7 a8 a9 a10 a11 b).U s l := by
  unfold FrontIn.U proj modRow normRow rowScale inp
  pointwise [A_main_v0, A_main_v1, A_main_v2, A_main_v3, A_main_v4, A_main_v5, A_main_v6, A_main_v7, A_main_v9, A_main_v11, A_main_v12, A_main_v13, A_main_v14, A_main_v15, A_main_v16, A_main_v17, A_main_v18, A_main_v20, A_main_v21, A_main_v22, A_main_v23, A_main_v24, A_main_v25, A_main_v26, A_main_v27, K_main_cst, K_main_cst_0, K_main_v8, K_main_cst_1, K_main_v10, K_main_cst_2, K_main_v19]

/-- The padded rows. -/
theorem p_at (b : Fin 4) (s : Fin 4099) (l : Fin 1024) : (A_main_v28 a0 a1 a2 a3 a4 a5 a6 a7 a8 a9 a10 a11 : Vec Ideal S4x4099x1024 .f32) (ix3 b s l) = (inp a0 a1 a2 a3 a4 a5 a6 a7 a8 a9 a10 a11 b).P s.val l := by
  unfold FrontIn.P
  pointwise [A_main_v28, K_main_call0_v0, K_main_c]
  by_cases h : 2 ≤ s.val ∧ s.val < 4098
  · rw [dif_pos h, dif_pos ⟨h.1, by omega⟩, u_at]
  · rw [dif_neg h, dif_neg (fun e => h ⟨e.1, by omega⟩)]
    show ((((0#32 : BitVec 32).toInt : ℝ)) : EReal) = 0
    simp

/-- The convolution. -/
theorem uc_at (b : Fin 4) (s : Fin 4096) (l : Fin 1024) : (A_main_v58 a0 a1 a2 a3 a4 a5 a6 a7 a8 a9 a10 a11 : Vec Ideal S4x4096x1024 .f32) (ix3 b s l) = (inp a0 a1 a2 a3 a4 a5 a6 a7 a8 a9 a10 a11 b).UC s.val l := by
  unfold FrontIn.UC conv
  have e0 := p_at a0 a1 a2 a3 a4 a5 a6 a7 a8 a9 a10 a11 b ⟨s.val, by omega⟩ l
  have e1 : (A_main_v28 a0 a1 a2 a3 a4 a5 a6 a7 a8 a9 a10 a11 : Vec Ideal S4x4099x1024 .f32) (ix3 b ⟨1 + s.val, by omega⟩ l) = (inp a0 a1 a2 a3 a4 a5 a6 a7 a8 a9 a10 a11 b).P (s.val + 1) l :=
    (p_at a0 a1 a2 a3 a4 a5 a6 a7 a8 a9 a10 a11 b ⟨1 + s.val, by omega⟩ l).trans (congrArg (fun n => (inp a0 a1 a2 a3 a4 a5 a6 a7 a8 a9 a10 a11 b).P n l) (Nat.add_comm 1 s.val))
  have e2 : (A_main_v28 a0 a1 a2 a3 a4 a5 a6 a7 a8 a9 a10 a11 : Vec Ideal S4x4099x1024 .f32) (ix3 b ⟨2 + s.val, by omega⟩ l) = (inp a0 a1 a2 a3 a4 a5 a6 a7 a8 a9 a10 a11 b).P (s.val + 2) l :=
    (p_at a0 a1 a2 a3 a4 a5 a6 a7 a8 a9 a10 a11 b ⟨2 + s.val, by omega⟩ l).trans (congrArg (fun n => (inp a0 a1 a2 a3 a4 a5 a6 a7 a8 a9 a10 a11 b).P n l) (Nat.add_comm 2 s.val))
  have e3 : (A_main_v28 a0 a1 a2 a3 a4 a5 a6 a7 a8 a9 a10 a11 : Vec Ideal S4x4099x1024 .f32) (ix3 b ⟨3 + s.val, by omega⟩ l) = (inp a0 a1 a2 a3 a4 a5 a6 a7 a8 a9 a10 a11 b).P (s.val + 3) l :=
    (p_at a0 a1 a2 a3 a4 a5 a6 a7 a8 a9 a10 a11 b ⟨3 + s.val, by omega⟩ l).trans (congrArg (fun n => (inp a0 a1 a2 a3 a4 a5 a6 a7 a8 a9 a10 a11 b).P n l) (Nat.add_comm 3 s.val))
  rw [← e0, ← e1, ← e2, ← e3]
  unfold inp
  pointwise [A_main_v29, A_main_v30, A_main_v31, A_main_v32, A_main_v33, A_main_v34, A_main_v35, A_main_v36, A_main_v37, A_main_v38, A_main_v39, A_main_v40, A_main_v41, A_main_v42, A_main_v43, A_main_v44, A_main_v45, A_main_v46, A_main_v47, A_main_v48, A_main_v49, A_main_v50, A_main_v51, A_main_v52, A_main_v53, A_main_v54, A_main_v55, A_main_v56, A_main_v57, A_main_v58]

/-- The gate over the decay. -/
theorem gr_at (b : Fin 4) (s : Fin 4096) (l : Fin 1024) : (A_main_v71 a0 a1 a2 a3 a4 a5 a6 a7 a8 a9 a10 a11 : Vec Ideal S4x4096x1024 .f32) (ix3 b s l) = (inp a0 a1 a2 a3 a4 a5 a6 a7 a8 a9 a10 a11 b).GR s.val l := by
  unfold FrontIn.GR gate
  simp only [← uc_at]
  unfold inp
  pointwise [A_main_v59, A_main_v60, A_main_v61, A_main_v62, A_main_v63, A_main_v64, A_main_v65, A_main_v66, A_main_v67, A_main_v69, A_main_v71, K_main_cst_3, K_main_v68, K_main_cst_4, K_main_v70]
  unfold Ideal.logistic
  simp only [mul_comm (a6 _), Nat.mul_comm _ 64]
  rfl

/-- The gate over the input. -/
theorem gi_at (b : Fin 4) (s : Fin 4096) (l : Fin 1024) : (A_main_v83 a0 a1 a2 a3 a4 a5 a6 a7 a8 a9 a10 a11 : Vec Ideal S4x4096x1024 .f32) (ix3 b s l) = (inp a0 a1 a2 a3 a4 a5 a6 a7 a8 a9 a10 a11 b).GI s.val l := by
  unfold FrontIn.GI gate
  simp only [← uc_at]
  unfold inp
  pointwise [A_main_v59, A_main_v72, A_main_v73, A_main_v74, A_main_v75, A_main_v76, A_main_v77, A_main_v78, A_main_v79, A_main_v81, A_main_v83, K_main_cst_5, K_main_v80, K_main_cst_6, K_main_v82]
  unfold Ideal.logistic
  simp only [mul_comm (a8 _), Nat.mul_comm _ 64]
  rfl

/-- The soft threshold. -/
theorem soft_at (l : Fin 1024) : (A_main_v87 a0 a1 a2 a3 a4 a5 a6 a7 a8 a9 a10 a11 : Vec Ideal S1024 .f32) (ix1 l) = soft ((a10 : Vec Ideal S1024 .f32) (ix1 l)) := by
  pointwise [A_main_v86, A_main_v87, A_main_call1_v1, A_main_call1_v3, A_main_call1_v4, A_main_call1_v6, A_main_call1_v7, A_main_call1_v8, A_main_call1_v9, A_main_call1_v10, A_main_call1_v11, K_main_call1_v0, K_main_call1_v2, K_main_call1_v5, K_main_call1_cst]
  exact if_neg (fun h => h rfl)

/-- The recurrence's factor. -/
theorem fa_at (b : Fin 4) (s : Fin 4096) (l : Fin 1024) : (A_main_v91 a0 a1 a2 a3 a4 a5 a6 a7 a8 a9 a10 a11 : Vec Ideal S4x4096x1024 .f32) (ix3 b s l) = (inp a0 a1 a2 a3 a4 a5 a6 a7 a8 a9 a10 a11 b).FA s.val l := by
  unfold FrontIn.FA decay
  rw [← log_decay, ← gr_at]
  have hs := soft_at a0 a1 a2 a3 a4 a5 a6 a7 a8 a9 a10 a11 l
  unfold inp
  pointwise [A_main_v85, A_main_v88, A_main_v89, A_main_v90, A_main_v91, K_main_cst_7, K_main_v84, hs]
  done

/-- The recurrence's input. -/
theorem fb_at (b : Fin 4) (s : Fin 4096) (l : Fin 1024) : (A_main_v98 a0 a1 a2 a3 a4 a5 a6 a7 a8 a9 a10 a11 : Vec Ideal S4x4096x1024 .f32) (ix3 b s l) = (inp a0 a1 a2 a3 a4 a5 a6 a7 a8 a9 a10 a11 b).FB s.val l := by
  unfold FrontIn.FB drive
  rw [← factor_eq ((inp a0 a1 a2 a3 a4 a5 a6 a7 a8 a9 a10 a11 b).GR s.val l) _ (logistic_nonneg _) (soft_nonneg _), ← log_decay, ← gr_at, ← gi_at, ← uc_at]
  have hs := soft_at a0 a1 a2 a3 a4 a5 a6 a7 a8 a9 a10 a11 l
  unfold inp
  pointwise [A_main_v85, A_main_v88, A_main_v89, A_main_v90, A_main_v93, A_main_v94, A_main_v95, A_main_v96, A_main_v97, A_main_v98, K_main_cst_7, K_main_v84, K_main_cst_8, K_main_v92, hs]
  done

/-- The new state of a trip. -/
theorem b9_at (j : ℕ) (hj : j < 4096) (st : State Ideal) (b : Fin 4) (l : Fin 1024) :
    (b9 j st : Vec Ideal S4x1024 .f32) (ix2 b l) = (st.main_v103_0 : Vec Ideal S4096x4x1024 .f32) (ix3 ⟨j, hj⟩ b l) * (st.main_v103_3 : Vec Ideal S4x1024 .f32) (ix2 b l)
      + (st.main_v103_1 : Vec Ideal S4096x4x1024 .f32) (ix3 ⟨j, hj⟩ b l) := by
  have hs : S4096x4x1024.Slices ![j, 0, 0] S1x4x1024 := ⟨rfl, fun a => by
    match a with
    | ⟨0, _⟩ => show j + 1 ≤ 4096; omega
    | ⟨1, _⟩ => show 0 + 4 ≤ 4; omega
    | ⟨2, _⟩ => show 0 + 1024 ≤ 1024; omega⟩
  have hz : ∀ a : Fin 3, (((![(constantI S_ 32 (BitVec.ofNat 32 j)), constantI S_ 32 0#32, constantI S_ 32 0#32] : Fin 3 → (⟨S_, .i32⟩ : BufTy).Contents (Elt Ideal)) a) (Shape.Idx.first h_S_)).toInt = ((![j, 0, 0] : Fin 3 → ℕ) a : Int) := fun a => by
    match a with
    | ⟨0, _⟩ => exact toInt_ofNat_of_lt (k := j) (by omega)
    | ⟨1, _⟩ => rfl
    | ⟨2, _⟩ => rfl
  have e2 : b2 j st = extractStridedSlice S1x4x1024 ![j, 0, 0] st.main_v103_0 hs := WordCmp.dynamicSlice_eq_extract _ _ _ _ _ hs hz
  have e6 : b6 j st = extractStridedSlice S1x4x1024 ![j, 0, 0] st.main_v103_1 hs := WordCmp.dynamicSlice_eq_extract _ _ _ _ _ hs hz
  pointwise [b9, b8, b7, b3, e2, e6]

/-- The stacked rows after a trip. -/
theorem b13_at (j : ℕ) (hj : j < 4096) (st : State Ideal) (n : Fin 4096) (b : Fin 4) (l : Fin 1024) :
    (b13 j st : Vec Ideal S4096x4x1024 .f32) (ix3 n b l) = if n.val = j then (b9 j st : Vec Ideal S4x1024 .f32) (ix2 b l) else (st.main_v103_4 : Vec Ideal S4096x4x1024 .f32) (ix3 n b l) := by
  have hs : S4096x4x1024.Slices ![j, 0, 0] S1x4x1024 := ⟨rfl, fun a => by
    match a with
    | ⟨0, _⟩ => show j + 1 ≤ 4096; omega
    | ⟨1, _⟩ => show 0 + 4 ≤ 4; omega
    | ⟨2, _⟩ => show 0 + 1024 ≤ 1024; omega⟩
  have hz : ∀ a : Fin 3, (((![(constantI S_ 32 (BitVec.ofNat 32 j)), constantI S_ 32 0#32, constantI S_ 32 0#32] : Fin 3 → (⟨S_, .i32⟩ : BufTy).Contents (Elt Ideal)) a) (Shape.Idx.first h_S_)).toInt = ((![j, 0, 0] : Fin 3 → ℕ) a : Int) := fun a => by
    match a with
    | ⟨0, _⟩ => exact toInt_ofNat_of_lt (k := j) (by omega)
    | ⟨1, _⟩ => rfl
    | ⟨2, _⟩ => rfl
  have e : b13 j st = updateSlice st.main_v103_4 (b10 j st) ![j, 0, 0] hs := WordCmp.dynamicUpdateSlice_eq_update _ _ _ _ _ hs hz
  pointwise [e, b10]
  by_cases h : n.val = j
  · rw [if_pos h, dif_pos ⟨by omega, by omega⟩]
  · rw [if_neg h, dif_neg (fun e => h (by omega))]

/-- The states of the loop. -/
def states : ℕ → State Ideal
  | 0 => init a0 a1 a2 a3 a4 a5 a6 a7 a8 a9 a10 a11
  | n + 1 => step n (states n)

theorem states_a : ∀ n, (states a0 a1 a2 a3 a4 a5 a6 a7 a8 a9 a10 a11 n).main_v103_0 = A_main_v100 a0 a1 a2 a3 a4 a5 a6 a7 a8 a9 a10 a11
  | 0 => rfl
  | n + 1 => states_a n

theorem states_b : ∀ n, (states a0 a1 a2 a3 a4 a5 a6 a7 a8 a9 a10 a11 n).main_v103_1 = A_main_v101 a0 a1 a2 a3 a4 a5 a6 a7 a8 a9 a10 a11
  | 0 => rfl
  | n + 1 => states_b n

/-- The swapped factor and input. -/
theorem fa_swap (n : Fin 4096) (b : Fin 4) (l : Fin 1024) : (A_main_v100 a0 a1 a2 a3 a4 a5 a6 a7 a8 a9 a10 a11 : Vec Ideal S4096x4x1024 .f32) (ix3 n b l) = (inp a0 a1 a2 a3 a4 a5 a6 a7 a8 a9 a10 a11 b).FA n.val l := by
  rw [← fa_at]
  pointwise [A_main_v100]
theorem fb_swap (n : Fin 4096) (b : Fin 4) (l : Fin 1024) : (A_main_v101 a0 a1 a2 a3 a4 a5 a6 a7 a8 a9 a10 a11 : Vec Ideal S4096x4x1024 .f32) (ix3 n b l) = (inp a0 a1 a2 a3 a4 a5 a6 a7 a8 a9 a10 a11 b).FB n.val l := by
  rw [← fb_at]
  pointwise [A_main_v101]

/-- The carried state after `n` trips. -/
theorem states_h (b : Fin 4) (l : Fin 1024) : ∀ n, n ≤ 4096 → ((states a0 a1 a2 a3 a4 a5 a6 a7 a8 a9 a10 a11 n).main_v103_3 : Vec Ideal S4x1024 .f32) (ix2 b l) = (inp a0 a1 a2 a3 a4 a5 a6 a7 a8 a9 a10 a11 b).H n l
  | 0, _ => by
    show (A_main_v99 a0 a1 a2 a3 a4 a5 a6 a7 a8 a9 a10 a11 : Vec Ideal S4x1024 .f32) (ix2 b l) = (inp a0 a1 a2 a3 a4 a5 a6 a7 a8 a9 a10 a11 b).h0 l
    unfold inp
    pointwise [A_main_v99]
  | n + 1, hn => by
    refine (b9_at n (by omega) (states a0 a1 a2 a3 a4 a5 a6 a7 a8 a9 a10 a11 n) b l).trans ?_
    rw [states_a, states_b, fa_swap, fb_swap, states_h b l n (by omega)]
    rfl

/-- The stacked rows after `n` trips. -/
theorem states_hs (b : Fin 4) (l : Fin 1024) (k : Fin 4096) : ∀ n, n ≤ 4096 → k.val < n →
    ((states a0 a1 a2 a3 a4 a5 a6 a7 a8 a9 a10 a11 n).main_v103_4 : Vec Ideal S4096x4x1024 .f32) (ix3 k b l) = (inp a0 a1 a2 a3 a4 a5 a6 a7 a8 a9 a10 a11 b).H (k.val + 1) l
  | 0, _, h => absurd h (Nat.not_lt_zero _)
  | n + 1, hn, h => by
    refine (b13_at n (by omega) (states a0 a1 a2 a3 a4 a5 a6 a7 a8 a9 a10 a11 n) k b l).trans ?_
    by_cases e : k.val = n
    · rw [if_pos e, e]
      exact states_h a0 a1 a2 a3 a4 a5 a6 a7 a8 a9 a10 a11 b l (n + 1) hn
    · rw [if_neg e]
      exact states_hs b l k n (by omega) (by omega)

/-! ## The results -/

theorem conv_res (b : Fin 4) (s : Fin 4096) (l : Fin 1024) :
    (R_main_v163 (states a0 a1 a2 a3 a4 a5 a6 a7 a8 a9 a10 a11 4096) a0 a1 a2 a3 a4 a5 : Vec Ideal S4x4096x1024 .f32) (ix3 b s l) = (inp a0 a1 a2 a3 a4 a5 a6 a7 a8 a9 a10 a11 b).UC s.val l :=
  (show _ = (A_main_v58 a0 a1 a2 a3 a4 a5 a6 a7 a8 a9 a10 a11 : Vec Ideal S4x4096x1024 .f32) (ix3 b s l) from rfl).trans (uc_at a0 a1 a2 a3 a4 a5 a6 a7 a8 a9 a10 a11 b s l)

theorem hs_res (b : Fin 4) (s : Fin 4096) (l : Fin 1024) :
    (R_main_v104 (states a0 a1 a2 a3 a4 a5 a6 a7 a8 a9 a10 a11 4096) : Vec Ideal S4x4096x1024 .f32) (ix3 b s l) = (inp a0 a1 a2 a3 a4 a5 a6 a7 a8 a9 a10 a11 b).H (s.val + 1) l := by
  rw [← states_hs a0 a1 a2 a3 a4 a5 a6 a7 a8 a9 a10 a11 b l s 4096 le_rfl s.isLt]
  pointwise [R_main_v104]

theorem last_res (b : Fin 4) (l : Fin 1024) :
    (R_main_v164 (states a0 a1 a2 a3 a4 a5 a6 a7 a8 a9 a10 a11 4096) : Vec Ideal S4x1x1024 .f32) (ix3 b 0 l) = (inp a0 a1 a2 a3 a4 a5 a6 a7 a8 a9 a10 a11 b).H 4096 l := by
  rw [← states_hs a0 a1 a2 a3 a4 a5 a6 a7 a8 a9 a10 a11 b l ⟨4095, by omega⟩ 4096 le_rfl (by show 4095 < 4096; omega)]
  pointwise [R_main_v164]

/-! ## The run -/

variable (m : (ℓ : Loc nD τ sig) → Buf (Elt Ideal) ℓ) (ρ : Dev nD → PrngReg)

/-- A core's inputs, and its states. -/
abbrev inpM (c : Dev nD) (b : Fin 4) : FrontIn := inp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) b
abbrev statesM (c : Dev nD) : ℕ → State Ideal := states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The run, at the states. -/
theorem run : θ_run (defs (F := Ideal)) (onTc (τ := τ) (main (F := Ideal))) ⟨m, fun _ => 0, ρ⟩ (fun r => ∀ c : Dev nD,
      r.2.mem ((c.tc : Thread nD τ).loc main_v163) = R_main_v163 (statesM m c 4096) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v104) = R_main_v104 (statesM m c 4096)
      ∧ r.2.mem ((c.tc : Thread nD τ).loc main_v164) = R_main_v164 (statesM m c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_iter m ρ (statesM m) (fun _ => rfl) (fun _ _ => rfl)

end Cert.FrontRefIdeal.HandRun
end
-- ==== Proof.FrontAlg.lean ====
module

public import proofs.«01_k».proof.Proof.FrontFinal
public import proofs.«01_k».proof.Proof.FrontRefValue
public import proofs.«01_k».proof.Defs
public import Idealize.ShloMosaic.Lib.Claim

/-! The recurrence pair's value claim. -/

@[expose] public section
set_option maxRecDepth 16384
noncomputable section
namespace Cert.FrontIdeal.Hand
open Cert.Rows Idealize.ShloMosaic Idealize.ShloMosaic.TcCoe Idealize.SL.Sem

/-- The recurrence call and its reference end with the same three arrays. -/
theorem algebraic : Cert.algebraic_FrontIdeal_FrontRefIdeal := by
  pair_intro
  · run_from run m g
  · have hi : ∀ (c : Dev Cert.FrontRefIdeal.nD) (b : Fin 4), Cert.FrontRefIdeal.HandRun.inpM m' c b = inp m c b := by
      intro c b
      obtain ⟨a0, a1, a2, a3, a4, a5, a6, a7, a8, a9, a10, a11⟩ := hagree c
      unfold Cert.FrontRefIdeal.HandRun.inpM
      rw [a0, a1, a2, a3, a4, a5, a6, a7, a8, a9, a10, a11]
      rfl
    run_from Cert.FrontRefIdeal.HandRun.run m' g'
    · obtain ⟨a0, a1, a2, a3, a4, a5, -⟩ := hagree c
      rw [← a0, ← a1, ← a2, ← a3, ← a4, ← a5]
      funext j
      idx_vars j
      exact (Cert.FrontRefIdeal.HandRun.conv_res _ _ _ _ _ _ _ _ _ _ _ _ _ _ _).trans (congrArg (fun I : FrontIn => I.UC _ _) (hi c _))
    · funext j
      idx_vars j
      exact (Cert.FrontRefIdeal.HandRun.hs_res _ _ _ _ _ _ _ _ _ _ _ _ _ _ _).trans (congrArg (fun I : FrontIn => I.H _ _) (hi c _))
    · funext j
      idx_vars j
      obtain rfl : j1 = (0 : Fin 1) := Subsingleton.elim _ _
      exact (Cert.FrontRefIdeal.HandRun.last_res _ _ _ _ _ _ _ _ _ _ _ _ _ _).trans (congrArg (fun I : FrontIn => I.H _ _) (hi c _))

end Cert.FrontIdeal.Hand
end
-- ==== Proof.MlpPay.lean ====
module

public import proofs.«01_k».proof.Proof.Gen.MlpIdeal.Value
public import proofs.«01_k».proof.Proof.Gen.MlpRefIdeal.Run
public import proofs.«01_k».proof.Proof.Rows
public import Idealize.ShloMosaic.Lib.Pointwise

/-! The feed-forward kernel's stored values and the reference's result, read at one index. -/

@[expose] public section
set_option maxRecDepth 16384
noncomputable section
namespace Cert.MlpIdeal.Hand
open Cert.MlpIdeal Cert.MlpIdeal.Gen Cert.MlpIdeal.Value Cert.Rows Idealize.ShloMosaic Idealize.ShloMosaic.TcCoe Idealize.SL.Sem

/-- The stored normalised and modulated rows. -/
theorem pay1_at (v22 : Vec Ideal S1x6x1024 .f32) (v24 : Vec Ideal S1x1024x1024 .f32) (v26 : Vec Ideal S1x1024 .f32) (r l : Fin 1024) :
    k0_pay1 v22 v24 v26 (ix2 r l) = modRow (fun l => v24 (ix3 0 r l)) (fun l => v26 (ix2 0 l)) (fun l => v22 (ix3 0 4 l)) (fun l => v22 (ix3 0 3 l)) l := by
  pointwise [k0_pay1, modRow, normRow, rowScale]

/-- The accumulator's first content is zero. -/
theorem pay2_at (j : S1024x1024.Idx) : k0_pay2 (F := Ideal) j = 0 := by
  pointwise [k0_pay2]

/-- One chunk of hidden units added into the accumulator. -/
theorem pay3_at (v3 : Vec Ideal S1024x1024 .bf16) (v4 : Vec Ideal S1024x1024 .bf16) (v10 : Vec Ideal S1024x1024 .f32) (v12 : Vec Ideal S1024x1024 .bf16) (r l : Fin 1024) :
    k0_pay3 v3 v4 v10 v12 (ix2 r l) = v10 (ix2 r l) + ffw (fun l => v3 (ix2 r l)) (fun l k => v4 (ix2 l k)) (fun k => v12 (ix2 k l)) := by
  pointwise [k0_pay3, ffw, hid]

/-- The written rows: the residual sum, normalised. -/
theorem pay4_at (v22 : Vec Ideal S1x1024x1024 .f32) (v24 : Vec Ideal S1x6x1024 .f32) (v27 : Vec Ideal S1024x1024 .f32) (v41 : Vec Ideal S1x1024 .f32) (r l : Fin 1024) :
    k0_pay4 v22 v24 v27 v41 (ix3 0 r l)
      = normRow (fun l => v22 (ix3 0 r l) + v24 (ix3 0 5 l) * v27 (ix2 r l)) (fun l => v41 (ix2 0 l)) l := by
  pointwise [k0_pay4, normRow, rowScale]

/-- The reference's result at an index. -/
theorem ref_at (m : (ℓ : Loc Cert.MlpRefIdeal.nD Cert.MlpRefIdeal.τ Cert.MlpRefIdeal.sig) → Buf (Elt Ideal) ℓ) (c : Dev Cert.MlpRefIdeal.nD) (b : Fin 4) (t : Fin 4096) (l : Fin 1024) :
    Cert.MlpRefIdeal.Value.res_main_v48 (F := Ideal) m c (ix3 b t l)
      = mlpOut (fun l => m ((c.tc : Thread Cert.MlpRefIdeal.nD Cert.MlpRefIdeal.τ).loc Cert.MlpRefIdeal.main_arg0) (ix3 b t l))
        (fun k l => m ((c.tc : Thread Cert.MlpRefIdeal.nD Cert.MlpRefIdeal.τ).loc Cert.MlpRefIdeal.main_arg1) (ix3 ⟨b.val, by omega⟩ k l))
        (fun l => m ((c.tc : Thread Cert.MlpRefIdeal.nD Cert.MlpRefIdeal.τ).loc Cert.MlpRefIdeal.main_arg2) (ix1 l))
        (fun l k => m ((c.tc : Thread Cert.MlpRefIdeal.nD Cert.MlpRefIdeal.τ).loc Cert.MlpRefIdeal.main_arg3) (ix2 l k))
        (fun k l => m ((c.tc : Thread Cert.MlpRefIdeal.nD Cert.MlpRefIdeal.τ).loc Cert.MlpRefIdeal.main_arg4) (ix2 k l))
        (fun l => m ((c.tc : Thread Cert.MlpRefIdeal.nD Cert.MlpRefIdeal.τ).loc Cert.MlpRefIdeal.main_arg5) (ix1 l)) l := by
  pointwise [Cert.MlpRefIdeal.Value.res_main_v48, mlpOut, normRow, rowScale, ffw, hid, modRow]

end Cert.MlpIdeal.Hand
end
-- ==== Proof.MlpValue.lean ====
module

public import proofs.«01_k».proof.Proof.MlpPay
public import Idealize.ShloMosaic.Lib.Pipeline.ValueKit
public import Idealize.ShloMosaic.Lib.Pipeline.ReadBack

/-! The feed-forward kernel's result array: the carried accumulator as a sum over the four chunks of
hidden units, and the written rows as the reference's. -/

@[expose] public section
set_option maxRecDepth 16384
noncomputable section
namespace Cert.MlpIdeal.Hand
open Cert.MlpIdeal Cert.MlpIdeal.Gen Cert.MlpIdeal.Value Cert.Rows Idealize.ShloMosaic Idealize.ShloMosaic.TcCoe Idealize.SL.Sem

variable (m : (ℓ : Loc nD τ sig) → Buf (Elt Ideal) ℓ)

/-- The windows' block indices at a point: batch `t / 16`, row tile `t / 4 % 4`, chunk `t % 4`. -/
theorem idx : ∀ t : Fin cfg0.N, win0_0.index t = ![t.val / 16, t.val / 4 % 4, 0] ∧ win0_1.index t = ![t.val / 16, 0, 0]
    ∧ win0_2.index t = ![0, 0] ∧ win0_3.index t = ![0, t.val % 4] ∧ win0_4.index t = ![t.val % 4, 0]
    ∧ win0_5.index t = ![0, 0] ∧ win0_6.index t = ![t.val / 16, t.val / 4 % 4, 0] :=
  (by decide +kernel : ∀ t : Fin grid0.N, _)

/-- The row of the input that point `t`'s tile holds at place `r`. -/
def rowX (c : Dev nD) (b : Fin 4) (t : Fin 4096) (l : Fin 1024) : EReal := m ((c.tc : Thread nD τ).loc main_arg0) (ix3 b t l)
/-- The modulation rows of a batch entry. -/
def rowM (c : Dev nD) (b : Fin 4) (k : Fin 6) (l : Fin 1024) : EReal := m ((c.tc : Thread nD τ).loc main_arg1) (ix3 ⟨b.val, by omega⟩ k l)
/-- The gain of the second normalisation. -/
def rowG (c : Dev nD) (l : Fin 1024) : EReal := m ((c.tc : Thread nD τ).loc main_arg2) (ix1 l)
/-- The first matrix. -/
def matA (c : Dev nD) (l : Fin 1024) (k : Fin 4096) : EReal := m ((c.tc : Thread nD τ).loc main_arg3) (ix2 l k)
/-- The second matrix. -/
def matB (c : Dev nD) (k : Fin 4096) (l : Fin 1024) : EReal := m ((c.tc : Thread nD τ).loc main_arg4) (ix2 k l)
/-- The gain of the last normalisation. -/
def rowF (c : Dev nD) (l : Fin 1024) : EReal := m ((c.tc : Thread nD τ).loc main_arg5) (ix1 l)

theorem blk0 (c : Dev nD) (t : Fin cfg0.N) (r l : Fin 1024) (b : Fin 4) (s : Fin 4096) (hb : b.val = t.val / 16) (hs : s.val = t.val / 4 % 4 * 1024 + r.val) :
    (iblk m c 0 t : Vec Ideal S1x1024x1024 .f32) (ix3 0 r l) = rowX m c b s l := by
  unfold rowX; blk_point [iblk, V, idx t]
theorem blk1 (c : Dev nD) (t : Fin cfg0.N) (k : Fin 6) (l : Fin 1024) (b : Fin 4) (hb : b.val = t.val / 16) :
    (iblk m c 1 t : Vec Ideal S1x6x1024 .f32) (ix3 0 k l) = rowM m c b k l := by
  unfold rowM; blk_point [iblk, V, idx t]
theorem blk2 (c : Dev nD) (t : Fin cfg0.N) (l : Fin 1024) :
    (iblk m c 2 t : Vec Ideal S1x1024 .f32) (ix2 0 l) = rowG m c l := by
  unfold rowG; blk_point [iblk, V, idx t]
theorem blk3 (c : Dev nD) (t : Fin cfg0.N) (l k : Fin 1024) (j : Fin 4096) (hj : j.val = t.val % 4 * 1024 + k.val) :
    (iblk m c 3 t : Vec Ideal S1024x1024 .bf16) (ix2 l k) = matA m c l j := by
  unfold matA; blk_point [iblk, V, idx t]
theorem blk4 (c : Dev nD) (t : Fin cfg0.N) (l k : Fin 1024) (j : Fin 4096) (hj : j.val = t.val % 4 * 1024 + k.val) :
    (iblk m c 4 t : Vec Ideal S1024x1024 .bf16) (ix2 k l) = matB m c j l := by
  unfold matB; blk_point [iblk, V, idx t]
theorem blk5 (c : Dev nD) (t : Fin cfg0.N) (l : Fin 1024) :
    (iblk m c 5 t : Vec Ideal S1x1024 .f32) (ix2 0 l) = rowF m c l := by
  unfold rowF; blk_point [iblk, V, idx t]

/-- The normalised rows held at every point of a run are those of the run's tile. -/
theorem hm_at (c : Dev nD) : ∀ (n : ℕ) (hn : n < cfg0.N) (r l : Fin 1024) (b : Fin 4) (s : Fin 4096) (_ : b.val = n / 16) (_ : s.val = n / 4 % 4 * 1024 + r.val),
    (outsAt0 m c n hn).2.1 (ix2 r l) = modRow (rowX m c b s) (rowG m c) (rowM m c b 4) (rowM m c b 3) l := by
  intro n
  induction n with
  | zero =>
    intro hn r l b s hb hs
    rw [outsAt0_A m c ⟨0, hn⟩ (Nat.zero_mod _) (fun h => by simp at h)]
    frame_out
    rw [pay1_at]
    simp only [blk0 m c ⟨0, hn⟩ r _ b s hb hs, blk1 m c ⟨0, hn⟩ _ _ b hb, blk2]
  | succ n ih =>
    intro hn r l b s hb hs
    have hN : n + 1 < 64 := lt_of_lt_of_eq hn N_0
    by_cases h0 : (n + 1) % 4 = 0
    · rw [outsAt0_A m c ⟨n + 1, hn⟩ h0 (fun h => by dsimp only at h; omega)]
      frame_out
      rw [pay1_at]
      simp only [blk0 m c ⟨n + 1, hn⟩ r _ b s hb hs, blk1 m c ⟨n + 1, hn⟩ _ _ b hb, blk2]
    · by_cases h1 : (n + 1) % 4 = 3
      · rw [outsAt0_C m c ⟨n + 1, hn⟩ h0 h1]
        frame_out
        exact ih _ r l b s (by omega) (by omega)
      · rw [outsAt0_B m c ⟨n + 1, hn⟩ h0 h1]
        frame_out
        exact ih _ r l b s (by omega) (by omega)

/-- What a point adds into the accumulator: its chunk of the squared hidden units against the second matrix. -/
def part (c : Dev nD) (b : Fin 4) (s : Fin 4096) (q : Fin 4) (l : Fin 1024) : EReal :=
  ffw (modRow (rowX m c b s) (rowG m c) (rowM m c b 4) (rowM m c b 3))
    (fun l (k : Fin 1024) => matA m c l ⟨q.val * 1024 + k.val, by omega⟩) (fun k => matB m c ⟨q.val * 1024 + k.val, by omega⟩ l)

/-- The tile's batch entry, row and chunk at a point. -/
def ptB (t : Fin cfg0.N) : Fin 4 := ⟨t.val / 16, by have := lt_of_lt_of_eq t.isLt N_0; omega⟩
def ptS (t : Fin cfg0.N) (r : Fin 1024) : Fin 4096 := ⟨t.val / 4 % 4 * 1024 + r.val, by omega⟩
def ptQ (t : Fin cfg0.N) : Fin 4 := ⟨t.val % 4, by omega⟩

/-- The stored accumulator at a point, over any rows equal to the run's and any earlier content. -/
theorem pay3_pt (c : Dev nD) (t : Fin cfg0.N) (h : Vec Ideal S1024x1024 .bf16) (a : Vec Ideal S1024x1024 .f32) (r l : Fin 1024)
    (hh : ∀ l, h (ix2 r l) = modRow (rowX m c (ptB t) (ptS t r)) (rowG m c) (rowM m c (ptB t) 4) (rowM m c (ptB t) 3) l) :
    k0_pay3 h (iblk m c 3 t) a (iblk m c 4 t) (ix2 r l) = a (ix2 r l) + part m c (ptB t) (ptS t r) (ptQ t) l := by
  rw [pay3_at]
  simp only [hh]
  unfold part
  simp only [fun l (k : Fin 1024) => blk3 m c t l k ⟨t.val % 4 * 1024 + k.val, by omega⟩ rfl, fun l (k : Fin 1024) => blk4 m c t l k ⟨t.val % 4 * 1024 + k.val, by omega⟩ rfl]
  rfl

/-- The accumulator at a point that writes back: the four chunks of its run. -/
theorem acc_at (c : Dev nD) (t : Fin cfg0.N) (h3 : t.val % 4 = 3) (r l : Fin 1024) :
    (outsAt0 m c t.val t.isLt).2.2 (ix2 r l) = ∑ q : Fin 4, part m c (ptB t) (ptS t r) q l := by
  have hN := lt_of_lt_of_eq t.isLt N_0
  refine (Pipeline.eq_sum_fin_of_reset_step_apply_of_flush (fun n h (i : Fin 1024 × Fin 1024) => ((outsAt0 m c n h).2.2 (ix2 i.1 i.2) : EReal)) 4 (fun _ => 0)
    (fun t i => part m c (ptB t) (ptS t i.1) (ptQ t) i.2) ?_ ?_ t h3 (r, l)).trans ?_
  · intro t h0 i
    have hh := fun l => hm_at m c t.val t.isLt i.1 l (ptB t) (ptS t i.1) rfl rfl
    rw [outsAt0_A m c t h0 (by omega)] at hh ⊢
    frame_out at hh
    frame_out
    rw [pay3_pt m c t _ _ _ _ hh, pay2_at]
  · intro t h0 i
    beta_reduce
    have hh := fun l => hm_at m c (t.val - 1) (Nat.lt_of_le_of_lt (Nat.sub_le _ _) t.isLt) i.1 l (ptB t) (ptS t i.1)
      (by show t.val / 16 = _; omega) (by show t.val / 4 % 4 * 1024 + _ = _; omega)
    by_cases h1 : t.val % 4 = 3
    · rw [outsAt0_C m c t h0 h1]; frame_out; rw [read_unread_whole, read_unread_whole, pay3_pt m c t _ _ _ _ hh]
    · rw [outsAt0_B m c t h0 h1]; frame_out; rw [read_unread_whole, read_unread_whole, pay3_pt m c t _ _ _ _ hh]
  · rw [zero_add]
    refine Finset.sum_congr rfl fun q _ => ?_
    have e1 : ptB ⟨4 * (t.val / 4) + q.val, Pipeline.run_point_lt_of_flush t h3 q⟩ = ptB t := Fin.ext (by show (4 * (t.val / 4) + q.val) / 16 = t.val / 16; omega)
    have e2 : ptS ⟨4 * (t.val / 4) + q.val, Pipeline.run_point_lt_of_flush t h3 q⟩ r = ptS t r := Fin.ext (by show (4 * (t.val / 4) + q.val) / 4 % 4 * 1024 + r.val = t.val / 4 % 4 * 1024 + r.val; omega)
    have e3 : ptQ ⟨4 * (t.val / 4) + q.val, Pipeline.run_point_lt_of_flush t h3 q⟩ = q := Fin.ext (by show (4 * (t.val / 4) + q.val) % 4 = q.val; omega)
    rw [e1, e2, e3]

/-- The four chunks are the whole feed-forward sum. -/
theorem sum_part (c : Dev nD) (b : Fin 4) (s : Fin 4096) (l : Fin 1024) :
    ∑ q : Fin 4, part m c b s q l
      = ffw (modRow (rowX m c b s) (rowG m c) (rowM m c b 4) (rowM m c b 3)) (matA m c) (fun k => matB m c k l) := by
  unfold part ffw
  exact Fin.sum_mul_add_congr fun q k hl => rfl

/-- The written block at a point that writes back. -/
theorem out_at (c : Dev nD) (t : Fin cfg0.N) (h3 : t.val % 4 = 3) (r l : Fin 1024) :
    (outsAt0 m c t.val t.isLt).1 (ix3 0 r l)
      = mlpOut (rowX m c (ptB t) (ptS t r)) (rowM m c (ptB t)) (rowG m c) (matA m c) (matB m c) (rowF m c) l := by
  have ha := fun l => acc_at m c t h3 r l
  rw [outsAt0_C m c t (by omega) h3] at ha ⊢
  frame_out at ha
  frame_out
  rw [pay4_at]
  unfold mlpOut
  simp only [ha, sum_part, blk0 m c t r _ (ptB t) (ptS t r) rfl rfl, blk1 m c t _ _ (ptB t) rfl, blk5]

/-- The array the call ends with, at an index. -/
theorem final_at (c : Dev nD) (b : Fin 4) (s : Fin 4096) (l : Fin 1024) :
    G6 m c (ix3 b s l) = mlpOut (rowX m c b s) (rowM m c b) (rowG m c) (matA m c) (matB m c) (rowF m c) l := by
  have hp : 16 * b.val + 4 * (s.val / 1024) + 3 < cfg0.N := lt_of_lt_of_eq (by omega) N_0.symm
  have e : pt6Of (ix3 b s l) = 16 * b.val + 4 * (s.val / 1024) + 3 := by
    show 4 * (4 * (b.val / 1 - 0) + 1 * (s.val / 1024 - 0) + 1 * (l.val / 1024 - 0)) + 3 = _
    omega
  have el : loc6Of (ix3 b s l) = ix3 0 ⟨s.val % 1024, by omega⟩ l := by
    blk_ext
  have h := out_at m c ⟨_, hp⟩ (by dsimp only; omega) ⟨s.val % 1024, by omega⟩ l
  have eb : ptB ⟨_, hp⟩ = b := Fin.ext (by show (16 * b.val + 4 * (s.val / 1024) + 3) / 16 = b.val; omega)
  have es : ptS ⟨_, hp⟩ ⟨s.val % 1024, by omega⟩ = s :=
    Fin.ext (by show (16 * b.val + 4 * (s.val / 1024) + 3) / 4 % 4 * 1024 + s.val % 1024 = s.val; omega)
  rw [eb, es] at h
  rw [← h, outsAt0_sweep m c _ hp]
  unfold G6
  rw [dif_pos (lt_of_eq_of_lt e hp), el]
  rw [fold0_congr m c _ _ _ _ e]

end Cert.MlpIdeal.Hand
end
-- ==== Proof.MlpAlg.lean ====
module

public import proofs.«01_k».proof.Proof.MlpValue
public import proofs.«01_k».proof.Defs
public import Idealize.ShloMosaic.Lib.Claim

/-! The feed-forward pair's value claim. -/

@[expose] public section
set_option maxRecDepth 16384
noncomputable section
namespace Cert.MlpIdeal.Hand
open Idealize.ShloMosaic Idealize.ShloMosaic.TcCoe Idealize.SL.Sem

/-- The feed-forward call and its reference end with the same array. -/
theorem algebraic : Cert.algebraic_MlpIdeal_MlpRefIdeal := by
  pair_intro
  · run_from Cert.MlpIdeal.Value.run m g
  · run_from Cert.MlpRefIdeal.Value.run m' g'
    obtain ⟨a0, a1, a2, a3, a4, a5⟩ := hagree c
    funext j
    idx_vars j
    refine (ref_at m' c _ _ _).trans (Eq.trans ?_ (final_at m c _ _ _).symm)
    simp only [a0, a1, a2, a3, a4, a5]
    rfl

end Cert.MlpIdeal.Hand
end
-- ==== Proof.MixerRuns.lean ====
module

public import proofs.«01_k».proof.Proof.Gen.MixerIdeal.Frame
public import proofs.«01_k».proof.Proof.Gen.MixerIdeal.Loops
public import Idealize.ShloMosaic.Lib.Pipeline.Value
public import Idealize.ShloMosaic.Lib.Claim

/-! The body of the branch-merge kernel, run once at any grid point, and from it the run of the whole call.
The scratch row `arg24` carries the recurrence's state from a tile to the next of the same sequence: at the
first tile of a sequence (case A, `t % 8 = 0`) the body stores the given initial state there first, at the others
(case B) it reads what the tile before left. -/

@[expose] public section

set_option maxRecDepth 16384

noncomputable section

namespace Cert.MixerIdeal.Hand

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, from the grid coordinates. -/
abbrev first (i : grid0.Coords) : Prop :=
  (Scalar.cmpi .ne (Scalar.extui (Scalar.cmpi .eq (BitVec.ofNat 32 (i 1).val) 0#32)) 0#32) = 1#1

/-- The branch is taken at the first tile of each sequence. -/
theorem first_iff : ∀ t : Fin cfg0.N, first (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val % 8 = 0)

/-! ## The run at any memrefs -/

section
variable (c : Dev nD) (i : grid0.Coords)
variable (arg2 : Memref sig .tc .vmem S1x512x1024 .f32) (harg2 : arg2.IsWhole)
variable (arg3 : Memref sig .tc .vmem S1x512x1024 .f32) (harg3 : arg3.IsWhole)
variable (arg4 : Memref sig .tc .vmem S1x512x1024 .f32) (harg4 : arg4.IsWhole)
variable (arg5 : Memref sig .tc .vmem S1x6x1024 .f32) (harg5 : arg5.IsWhole)
variable (arg6 : Memref sig .tc .vmem S1x1024 .f32) (harg6 : arg6.IsWhole)
variable (arg7 : Memref sig .tc .vmem S1024x3584 .bf16) (harg7 : arg7.IsWhole)
variable (arg8 : Memref sig .tc .vmem S4x256x512 .bf16) (harg8 : arg8.IsWhole)
variable (arg9 : Memref sig .tc .vmem S1x1024 .f32) (harg9 : arg9.IsWhole)
variable (arg10 : Memref sig .tc .vmem S1x1024 .f32) (harg10 : arg10.IsWhole)
variable (arg11 : Memref sig .tc .vmem S1x1024 .f32) (harg11 : arg11.IsWhole)
variable (arg12 : Memref sig .tc .vmem S1x1x1024 .f32) (harg12 : arg12.IsWhole)
variable (arg13 : Memref sig .tc .vmem S4x512x512 .bf16) (harg13 : arg13.IsWhole)
variable (arg14 : Memref sig .tc .vmem S512x512 .f32) (harg14 : arg14.IsWhole)
variable (arg15 : Memref sig .tc .vmem S4x128x128 .bf16) (harg15 : arg15.IsWhole)
variable (arg16 : Memref sig .tc .vmem S1x512 .f32) (harg16 : arg16.IsWhole)
variable (arg17 : Memref sig .tc .vmem S1024x1024 .bf16) (harg17 : arg17.IsWhole)
variable (arg18 : Memref sig .tc .vmem S512x1024 .bf16) (harg18 : arg18.IsWhole)
variable (arg19 : Memref sig .tc .vmem S1024x1024 .bf16) (harg19 : arg19.IsWhole)
variable (arg20 : Memref sig .tc .vmem S1x512x1024 .f32) (harg20 : arg20.IsWhole)
variable (arg21 : Memref sig .tc .vmem S1x1x1024 .f32) (harg21 : arg21.IsWhole)
variable (arg22 : Memref sig .tc .vmem S512x1024 .f32) (harg22 : arg22.IsWhole)
variable (arg23 : Memref sig .tc .vmem S512x1024 .f32) (harg23 : arg23.IsWhole)
variable (arg24 : Memref sig .tc .vmem S1x1024 .f32) (harg24 : arg24.IsWhole)
variable (x0 : Vec F S1x512x1024 .f32)
variable (x1 : Vec F S1x512x1024 .f32)
variable (x2 : Vec F S1x512x1024 .f32)
variable (x3 : Vec F S1x6x1024 .f32)
variable (x4 : Vec F S1x1024 .f32)
variable (x5 : Vec F S1024x3584 .bf16)
variable (x6 : Vec F S4x256x512 .bf16)
variable (x7 : Vec F S1x1024 .f32)
variable (x8 : Vec F S1x1024 .f32)
variable (x9 : Vec F S1x1024 .f32)
variable (x10 : Vec F S1x1x1024 .f32)
variable (x11 : Vec F S4x512x512 .bf16)
variable (x12 : Vec F S512x512 .f32)
variable (x13 : Vec F S4x128x128 .bf16)
variable (x14 : Vec F S1x512 .f32)
variable (x15 : Vec F S1024x1024 .bf16)
variable (x16 : Vec F S512x1024 .bf16)
variable (x17 : Vec F S1024x1024 .bf16)

/-- The eighteen staged inputs at their contents. -/
abbrev Ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17)

/-- What the body leaves beside the inputs: the two outputs' and the carried row's buffers with their stores written,
the gate buffers at anything. -/
abbrev Left (L18 : List (View.Piece (Elt F) S1x512x1024 .f32)) (L19 : List (View.Piece (Elt F) S1x1x1024 .f32))
    (LS : List (View.Piece (Elt F) S1x1024 .f32)) : sProp 𝕄 :=
  iprop((∃ f, arg20.view.loc (c : Thread nD τ) ↦[arg20.view.set]{fullShare} arg20.view.writes (Elt F) f L18)
    ∗ (∃ f, arg21.view.loc (c : Thread nD τ) ↦[arg21.view.set]{fullShare} arg21.view.writes (Elt F) f L19)
    ∗ (∃ d, owns (c : Thread nD τ) arg22 fullShare d) ∗ (∃ d, owns (c : Thread nD τ) arg23 fullShare d)
    ∗ (∃ f, arg24.view.loc (c : Thread nD τ) ↦[arg24.view.set]{fullShare} arg24.view.writes (Elt F) f LS))

-- (the run's term is large: the definition's last pass over it needs more than the usual budget)
set_option maxHeartbeats 1000000 in
/-- The body at the first tile of a sequence, the carried row at anything: the lists of stores each output and the carried row end with, and that the body
runs to a continuation that is handed them. -/
noncomputable def runA (hc : first i) :
    Σ' (L18 : List (View.Piece (Elt F) S1x512x1024 .f32)), Σ' (L19 : List (View.Piece (Elt F) S1x1x1024 .f32)), { LS : List (View.Piece (Elt F) S1x1024 .f32) //
      ∀ (E : Set ℕ) (K : PUnit → sProp 𝕄),
        iprop(Ins c arg2 arg3 arg4 arg5 arg6 arg7 arg8 arg9 arg10 arg11 arg12 arg13 arg14 arg15 arg16 arg17 arg18 arg19 x0 x1 x2 x3 x4 x5 x6 x7 x8 x9 x10 x11 x12 x13 x14 x15 x16 x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(Ins c arg2 arg3 arg4 arg5 arg6 arg7 arg8 arg9 arg10 arg11 arg12 arg13 arg14 arg15 arg16 arg17 arg18 arg19 x0 x1 x2 x3 x4 x5 x6 x7 x8 x9 x10 x11 x12 x13 x14 x15 x16 x17 ∗ Left c arg20 arg21 arg22 arg23 arg24 L18 L19 LS) -∗ K ⟨⟩))
          ⊢ wp frame (wpE (defs₀ (F := F)) Variants.none c none) E (cc0_mixer_t512 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc0_mixer_t512_eq_skeleton]; unfold cc0_mixer_t512_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold Ins Left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, -, H18⟩, ⟨%d19, %f19, -, H19⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc)
    sl_step
    iapply Hk
    isplitl [H0 H1 H2 H3 H4 H5 H6 H7 H8 H9 H10 H11 H12 H13 H14 H15 H16 H17]
    · isplitl [H0]; · iexists _; isplitr; (· ipureintro; exact harg2.read_unread _); iexact H0
      isplitl [H1]; · iexists _; isplitr; (· ipureintro; exact harg3.read_unread _); iexact H1
      isplitl [H2]; · iexists _; isplitr; (· ipureintro; exact harg4.read_unread _); iexact H2
      isplitl [H3]; · iexists _; isplitr; (· ipureintro; exact harg5.read_unread _); iexact H3
      isplitl [H4]; · iexists _; isplitr; (· ipureintro; exact harg6.read_unread _); iexact H4
      isplitl [H5]; · iexists _; isplitr; (· ipureintro; exact harg7.read_unread _); iexact H5
      isplitl [H6]; · iexists _; isplitr; (· ipureintro; exact harg8.read_unread _); iexact H6
      isplitl [H7]; · iexists _; isplitr; (· ipureintro; exact harg9.read_unread _); iexact H7
      isplitl [H8]; · iexists _; isplitr; (· ipureintro; exact harg10.read_unread _); iexact H8
      isplitl [H9]; · iexists _; isplitr; (· ipureintro; exact harg11.read_unread _); iexact H9
      isplitl [H10]; · iexists _; isplitr; (· ipureintro; exact harg12.read_unread _); iexact H10
      isplitl [H11]; · iexists _; isplitr; (· ipureintro; exact harg13.read_unread _); iexact H11
      isplitl [H12]; · iexists _; isplitr; (· ipureintro; exact harg14.read_unread _); iexact H12
      isplitl [H13]; · iexists _; isplitr; (· ipureintro; exact harg15.read_unread _); iexact H13
      isplitl [H14]; · iexists _; isplitr; (· ipureintro; exact harg16.read_unread _); iexact H14
      isplitl [H15]; · iexists _; isplitr; (· ipureintro; exact harg17.read_unread _); iexact H15
      isplitl [H16]; · iexists _; isplitr; (· ipureintro; exact harg18.read_unread _); iexact H16
      iexists _; isplitr; (· ipureintro; exact harg19.read_unread _); iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    iexists _; iexact HS2

-- (the run's term is large: the definition's last pass over it needs more than the usual budget)
set_option maxHeartbeats 1000000 in
/-- The body at a later tile, the carried row at what the tile before left (`xs`): the lists of stores each output and the carried row end with, and that the body
runs to a continuation that is handed them. -/
noncomputable def runB (hc : ¬first i) (xs : Vec F S1x1024 .f32) :
    Σ' (L18 : List (View.Piece (Elt F) S1x512x1024 .f32)), Σ' (L19 : List (View.Piece (Elt F) S1x1x1024 .f32)), { LS : List (View.Piece (Elt F) S1x1024 .f32) //
      ∀ (E : Set ℕ) (K : PUnit → sProp 𝕄),
        iprop(Ins c arg2 arg3 arg4 arg5 arg6 arg7 arg8 arg9 arg10 arg11 arg12 arg13 arg14 arg15 arg16 arg17 arg18 arg19 x0 x1 x2 x3 x4 x5 x6 x7 x8 x9 x10 x11 x12 x13 x14 x15 x16 x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs
            ∗ (iprop(Ins c arg2 arg3 arg4 arg5 arg6 arg7 arg8 arg9 arg10 arg11 arg12 arg13 arg14 arg15 arg16 arg17 arg18 arg19 x0 x1 x2 x3 x4 x5 x6 x7 x8 x9 x10 x11 x12 x13 x14 x15 x16 x17 ∗ Left c arg20 arg21 arg22 arg23 arg24 L18 L19 LS) -∗ K ⟨⟩))
          ⊢ wp frame (wpE (defs₀ (F := F)) Variants.none c none) E (cc0_mixer_t512 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc0_mixer_t512_eq_skeleton]; unfold cc0_mixer_t512_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold Ins Left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%d18, %f18, -, H18⟩, ⟨%d19, %f19, -, H19⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg24.eq_unread hfs2
    sl_exec (disch := first | sl_exact hc)
    sl_step
    iapply Hk
    isplitl [H0 H1 H2 H3 H4 H5 H6 H7 H8 H9 H10 H11 H12 H13 H14 H15 H16 H17]
    · isplitl [H0]; · iexists _; isplitr; (· ipureintro; exact harg2.read_unread _); iexact H0
      isplitl [H1]; · iexists _; isplitr; (· ipureintro; exact harg3.read_unread _); iexact H1
      isplitl [H2]; · iexists _; isplitr; (· ipureintro; exact harg4.read_unread _); iexact H2
      isplitl [H3]; · iexists _; isplitr; (· ipureintro; exact harg5.read_unread _); iexact H3
      isplitl [H4]; · iexists _; isplitr; (· ipureintro; exact harg6.read_unread _); iexact H4
      isplitl [H5]; · iexists _; isplitr; (· ipureintro; exact harg7.read_unread _); iexact H5
      isplitl [H6]; · iexists _; isplitr; (· ipureintro; exact harg8.read_unread _); iexact H6
      isplitl [H7]; · iexists _; isplitr; (· ipureintro; exact harg9.read_unread _); iexact H7
      isplitl [H8]; · iexists _; isplitr; (· ipureintro; exact harg10.read_unread _); iexact H8
      isplitl [H9]; · iexists _; isplitr; (· ipureintro; exact harg11.read_unread _); iexact H9
      isplitl [H10]; · iexists _; isplitr; (· ipureintro; exact harg12.read_unread _); iexact H10
      isplitl [H11]; · iexists _; isplitr; (· ipureintro; exact harg13.read_unread _); iexact H11
      isplitl [H12]; · iexists _; isplitr; (· ipureintro; exact harg14.read_unread _); iexact H12
      isplitl [H13]; · iexists _; isplitr; (· ipureintro; exact harg15.read_unread _); iexact H13
      isplitl [H14]; · iexists _; isplitr; (· ipureintro; exact harg16.read_unread _); iexact H14
      isplitl [H15]; · iexists _; isplitr; (· ipureintro; exact harg17.read_unread _); iexact H15
      isplitl [H16]; · iexists _; isplitr; (· ipureintro; exact harg18.read_unread _); iexact H16
      iexists _; isplitr; (· ipureintro; exact harg19.read_unread _); iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    iexists _; iexact HS2

end

end Cert.MixerIdeal.Hand

end
-- ==== Proof.MixerBody.lean ====
module

public import proofs.«01_k».proof.Proof.MixerRuns

/-! What the branch-merge call leaves point by point (`outsAt0`), the proof data of its pipeline, the body's obligation
and the run of the whole call, with the frame claim from it. -/

@[expose] public section

set_option maxRecDepth 16384

noncomputable section

namespace Cert.MixerIdeal.Hand

open Cert.MixerIdeal Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at the memrefs of a point -/

/-- The staging memrefs of the two outputs, through which their contents are stated. -/
abbrev VO18 : View sig .tc .vmem S1x512x1024 .f32 := (Memref.whole cc0_stg18_0 : Memref sig .tc .vmem S1x512x1024 .f32).view
abbrev VO19 : View sig .tc .vmem S1x1x1024 .f32 := (Memref.whole cc0_stg19_0 : Memref sig .tc .vmem S1x1x1024 .f32).view
/-- The three scratch buffers; the last is the carried row. -/
abbrev sc0 : Memref sig .tc .vmem S512x1024 .f32 := Memref.whole cc0_scratch0
abbrev sc1 : Memref sig .tc .vmem S512x1024 .f32 := Memref.whole cc0_scratch1
abbrev sc2 : Memref sig .tc .vmem S1x1024 .f32 := Memref.whole cc0_scratch2

/-- Each window's staging memref at point `t`, as the pipeline passes it. -/
abbrev ms0 (t : Fin cfg0.N) : Memref sig .tc .vmem S1x512x1024 .f32 := win0_0.stage (cfg0.slots t 0)
abbrev ms1 (t : Fin cfg0.N) : Memref sig .tc .vmem S1x512x1024 .f32 := win0_1.stage (cfg0.slots t 1)
abbrev ms2 (t : Fin cfg0.N) : Memref sig .tc .vmem S1x512x1024 .f32 := win0_2.stage (cfg0.slots t 2)
abbrev ms3 (t : Fin cfg0.N) : Memref sig .tc .vmem S1x6x1024 .f32 := win0_3.stage (cfg0.slots t 3)
abbrev ms4 (t : Fin cfg0.N) : Memref sig .tc .vmem S1x1024 .f32 := win0_4.stage (cfg0.slots t 4)
abbrev ms5 (t : Fin cfg0.N) : Memref sig .tc .vmem S1024x3584 .bf16 := win0_5.stage (cfg0.slots t 5)
abbrev ms6 (t : Fin cfg0.N) : Memref sig .tc .vmem S4x256x512 .bf16 := win0_6.stage (cfg0.slots t 6)
abbrev ms7 (t : Fin cfg0.N) : Memref sig .tc .vmem S1x1024 .f32 := win0_7.stage (cfg0.slots t 7)
abbrev ms8 (t : Fin cfg0.N) : Memref sig .tc .vmem S1x1024 .f32 := win0_8.stage (cfg0.slots t 8)
abbrev ms9 (t : Fin cfg0.N) : Memref sig .tc .vmem S1x1024 .f32 := win0_9.stage (cfg0.slots t 9)
abbrev ms10 (t : Fin cfg0.N) : Memref sig .tc .vmem S1x1x1024 .f32 := win0_10.stage (cfg0.slots t 10)
abbrev ms11 (t : Fin cfg0.N) : Memref sig .tc .vmem S4x512x512 .bf16 := win0_11.stage (cfg0.slots t 11)
abbrev ms12 (t : Fin cfg0.N) : Memref sig .tc .vmem S512x512 .f32 := win0_12.stage (cfg0.slots t 12)
abbrev ms13 (t : Fin cfg0.N) : Memref sig .tc .vmem S4x128x128 .bf16 := win0_13.stage (cfg0.slots t 13)
abbrev ms14 (t : Fin cfg0.N) : Memref sig .tc .vmem S1x512 .f32 := win0_14.stage (cfg0.slots t 14)
abbrev ms15 (t : Fin cfg0.N) : Memref sig .tc .vmem S1024x1024 .bf16 := win0_15.stage (cfg0.slots t 15)
abbrev ms16 (t : Fin cfg0.N) : Memref sig .tc .vmem S512x1024 .bf16 := win0_16.stage (cfg0.slots t 16)
abbrev ms17 (t : Fin cfg0.N) : Memref sig .tc .vmem S1024x1024 .bf16 := win0_17.stage (cfg0.slots t 17)
abbrev ms18 (t : Fin cfg0.N) : Memref sig .tc .vmem S1x512x1024 .f32 := win0_18.stage (cfg0.slots t 18)
abbrev ms19 (t : Fin cfg0.N) : Memref sig .tc .vmem S1x1x1024 .f32 := win0_19.stage (cfg0.slots t 19)

/-- The body's run at point `t`, the first tile of a sequence. -/
abbrev KA (c : Dev nD) (t : Fin cfg0.N) (h0 : t.val % 8 = 0) :=
  runA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) (ms17 t) (hstage0_17 ((cfg0.slots t 17).cast nbuf0_17)) (ms18 t) (hstage0_18 ((cfg0.slots t 18).cast nbuf0_18)) (ms19 t) (hstage0_19 ((cfg0.slots t 19).cast nbuf0_19))
    sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) ((first_iff t).mpr h0)

/-- The body's run at point `t`, a later tile, over the row the tile before left. -/
abbrev KB (c : Dev nD) (t : Fin cfg0.N) (h0 : ¬t.val % 8 = 0) (xs : Vec F S1x1024 .f32) :=
  runB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) (ms17 t) (hstage0_17 ((cfg0.slots t 17).cast nbuf0_17)) (ms18 t) (hstage0_18 ((cfg0.slots t 18).cast nbuf0_18)) (ms19 t) (hstage0_19 ((cfg0.slots t 19).cast nbuf0_19))
    sc0 (Memref.isWhole_whole _) sc1 (Memref.isWhole_whole _) sc2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (fun h => h0 ((first_iff t).mp h)) xs

/-- The inputs' staging memrefs at their blocks. -/
abbrev InsAt (c : Dev nD) (t : Fin cfg0.N) : sProp 𝕄 := Ins c (ms0 t) (ms1 t) (ms2 t) (ms3 t) (ms4 t) (ms5 t) (ms6 t) (ms7 t) (ms8 t) (ms9 t) (ms10 t) (ms11 t) (ms12 t) (ms13 t) (ms14 t) (ms15 t) (ms16 t) (ms17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- What the two outputs and the carried row hold when their stores are the given lists. -/
def got (L18 : List (View.Piece (Elt F) S1x512x1024 .f32)) (L19 : List (View.Piece (Elt F) S1x1x1024 .f32)) (LS : List (View.Piece (Elt F) S1x1024 .f32)) : Vec F S1x512x1024 .f32 × Vec F S1x1x1024 .f32 × Vec F S1x1024 .f32 :=
  (VO18.read (Elt F) (VO18.writes (Elt F) VO18.junk L18), VO19.read (Elt F) (VO19.writes (Elt F) VO19.junk L19),
    sc2.view.read (Elt F) (sc2.view.writes (Elt F) sc2.view.junk LS))

/-- The stores cover the two outputs' blocks and the carried row. -/
structure Covers (L18 : List (View.Piece (Elt F) S1x512x1024 .f32)) (L19 : List (View.Piece (Elt F) S1x1x1024 .f32)) (LS : List (View.Piece (Elt F) S1x1024 .f32)) : Prop where
  c18 : ∀ y : S1x512x1024.Idx, ∃ pc ∈ L18, y ∈ pc.1.set
  c19 : ∀ y : S1x1x1024.Idx, ∃ pc ∈ L19, y ∈ pc.1.set
  cs : ∀ y : S1x1024.Idx, ∃ pc ∈ LS, y ∈ pc.1.set

theorem coversA (c : Dev nD) (t : Fin cfg0.N) (h0 : t.val % 8 = 0) :
    Covers (KA m c t h0).1 (KA m c t h0).2.1 (KA m c t h0).2.2.1 where
  c18 := View.cover_of_tiledL _ S1x512x1024.size (by sl_kernel_rfl)
  c19 := View.cover_of_tiledL _ S1x1x1024.size (by sl_kernel_rfl)
  cs := View.cover_of_tiledL _ S1x1024.size (by sl_kernel_rfl)

theorem coversB (c : Dev nD) (t : Fin cfg0.N) (h0 : ¬t.val % 8 = 0) (xs : Vec F S1x1024 .f32) :
    Covers (KB m c t h0 xs).1 (KB m c t h0 xs).2.1 (KB m c t h0 xs).2.2.1 where
  c18 := View.cover_of_tiledL _ S1x512x1024.size (by sl_kernel_rfl)
  c19 := View.cover_of_tiledL _ S1x1x1024.size (by sl_kernel_rfl)
  cs := View.cover_of_tiledL _ S1x1024.size (by sl_kernel_rfl)

/-- What a first tile leaves. -/
def outA (c : Dev nD) (t : Fin cfg0.N) (h0 : t.val % 8 = 0) : Vec F S1x512x1024 .f32 × Vec F S1x1x1024 .f32 × Vec F S1x1024 .f32 :=
  got (KA m c t h0).1 (KA m c t h0).2.1 (KA m c t h0).2.2.1

/-- What a later tile leaves over the carried row `xs`. -/
def outB (c : Dev nD) (t : Fin cfg0.N) (h0 : ¬t.val % 8 = 0) (xs : Vec F S1x1024 .f32) : Vec F S1x512x1024 .f32 × Vec F S1x1x1024 .f32 × Vec F S1x1024 .f32 :=
  got (KB m c t h0 xs).1 (KB m c t h0 xs).2.1 (KB m c t h0 xs).2.2.1

/-! ## Point by point -/

/-- What the outputs and the carried row hold after point `n`. -/
def outsAt0 (c : Dev nD) : (n : ℕ) → n < cfg0.N → Vec F S1x512x1024 .f32 × Vec F S1x1x1024 .f32 × Vec F S1x1024 .f32
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn)).2.2

theorem outsAt0_A (c : Dev nD) (t : Fin cfg0.N) (h0 : t.val % 8 = 0) : outsAt0 m c t.val t.isLt = outA m c t h0 := by
  obtain ⟨n, hn⟩ := t
  cases n with
  | zero => rfl
  | succ n => exact dif_pos h0

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)).2.2 := by
  obtain ⟨n, hn⟩ := t
  cases n with
  | zero => exact absurd (Nat.zero_mod _) h0
  | succ n => exact dif_neg h0

/-- The scratch at anything but the carried row, which is as `R` says, and the generator register at some state. -/
abbrev Scr (c : Dev nD) (R : sProp 𝕄) : sProp 𝕄 :=
  iprop(iprop((∃ d, owns (c : Thread nD τ) sc0 fullShare d) ∗ (∃ d, owns (c : Thread nD τ) sc1 fullShare d) ∗ R) ∗ (∃ r, prngReg c r))

theorem scr_any (c : Dev nD) :
    (Pipeline.ΦA spec0 c : sProp 𝕄) = Scr c iprop(∃ d, owns (c : Thread nD τ) sc2 fullShare d) := by
  unfold Pipeline.ΦA; rw [scopedRest0_eq]; simp only [Scr, sc0, sc1, sc2, owns_whole]; try rfl

/-- The invariant before position `n`: every scratch buffer at anything before the first point, afterwards the
carried row at what the point before left. -/
def PhiS (c : Dev nD) : (n : ℕ) → n ≤ cfg0.N → sProp 𝕄
  | 0, _ => Pipeline.ΦA spec0 c
  | n + 1, hn => Scr c (owns (c : Thread nD τ) sc2 fullShare ((outsAt0 m c n hn).2.2))

theorem PhiS_pos (c : Dev nD) (n : ℕ) (h : n ≤ cfg0.N) (hz : n ≠ 0) :
    PhiS m c n h = Scr c (owns (c : Thread nD τ) sc2 fullShare ((outsAt0 m c (n - 1) (by omega)).2.2)) := by
  cases n with
  | zero => exact absurd rfl hz
  | succ n => rfl

/-- At any position the contents of the carried row may be forgotten. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_pos m c (n + 1) h (Nat.succ_ne_zero n), scr_any]
    unfold Scr
    iintro ⟨⟨H0, H1, H2⟩, Hg⟩
    isplitl [H0 H1 H2]
    · isplitl [H0]; · iexact H0
      isplitl [H1]; · iexact H1
      iexists _; iexact H2
    iexact Hg

/-! ## The pipeline's proof data -/

/-- The arrays as the region finds them; after the body each input's buffer at its block and the outputs' at
`outsAt0`; the invariant `PhiS`; nothing owed; the shares of an array staged by several windows dealt among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after18 (c : Dev nD) (t : Fin cfg0.N) : (dats m 0 c).after 18 t = (outsAt0 m c t.val t.isLt).1 := by dsimp only [dats]
theorem after19 (c : Dev nD) (t : Fin cfg0.N) : (dats m 0 c).after 19 t = (outsAt0 m c t.val t.isLt).2.1 := by dsimp only [dats]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t))

/-- Each input's staging buffer holds its block, so what the body is called with is what its run asks for. -/
theorem bodyPre_ins (c : Dev nD) (t : Fin cfg0.N) :
    bodyPre m c t ⊢ iprop(PhiS m c t.val (Nat.le_of_lt t.isLt) ∗ (dats m 0 c).owesAt () t.castSucc ∗ InsAt m c t
      ∗ (∃ d, owns (c : Thread nD τ) (ms18 t) fullShare d) ∗ (∃ d, owns (c : Thread nD τ) (ms19 t) fullShare d)) := by
  unfold bodyPre InsAt Ins
  rw [PhiS_castSucc m c t]
  simp only [before0_0_of m (dats m 0 c) (A_eq m c 0) (fun t => by dsimp only [dats]) t,
    before0_1_of m (dats m 0 c) (A_eq m c 1) (fun t => by dsimp only [dats]) t,
    before0_2_of m (dats m 0 c) (A_eq m c 2) (fun t => by dsimp only [dats]) t,
    before0_3_of m (dats m 0 c) (A_eq m c 3) (fun t => by dsimp only [dats]) t,
    before0_4_of m (dats m 0 c) (A_eq m c 4) (fun t => by dsimp only [dats]) t,
    before0_5_of m (dats m 0 c) (A_eq m c 5) (fun t => by dsimp only [dats]) t,
    before0_6_of m (dats m 0 c) (A_eq m c 6) (fun t => by dsimp only [dats]) t,
    before0_7_of m (dats m 0 c) (A_eq m c 7) (fun t => by dsimp only [dats]) t,
    before0_8_of m (dats m 0 c) (A_eq m c 8) (fun t => by dsimp only [dats]) t,
    before0_9_of m (dats m 0 c) (A_eq m c 9) (fun t => by dsimp only [dats]) t,
    before0_10_of m (dats m 0 c) (A_eq m c 10) (fun t => by dsimp only [dats]) t,
    before0_11_of m (dats m 0 c) (A_eq m c 11) (fun t => by dsimp only [dats]) t,
    before0_12_of m (dats m 0 c) (A_eq m c 12) (fun t => by dsimp only [dats]) t,
    before0_13_of m (dats m 0 c) (A_eq m c 13) (fun t => by dsimp only [dats]) t,
    before0_14_of m (dats m 0 c) (A_eq m c 14) (fun t => by dsimp only [dats]) t,
    before0_15_of m (dats m 0 c) (A_eq m c 15) (fun t => by dsimp only [dats]) t,
    before0_16_of m (dats m 0 c) (A_eq m c 16) (fun t => by dsimp only [dats]) t,
    before0_17_of m (dats m 0 c) (A_eq m c 17) (fun t => by dsimp only [dats]) t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  isplitl [HΦ]; · iexact HΦ
  isplitl [Ho]; · iexact Ho
  isplitl [H0 H1 H2 H3 H4 H5 H6 H7 H8 H9 H10 H11 H12 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  isplitl [H18]; · iexists _; iexact H18
  iexists _; iexact H19

/-- What the body's run leaves is what it returns, when its stores cover the outputs and `outsAt0` is read off them. -/
theorem bodyPost_of (c : Dev nD) (t : Fin cfg0.N) (L18 : List (View.Piece (Elt F) S1x512x1024 .f32)) (L19 : List (View.Piece (Elt F) S1x1x1024 .f32)) (LS : List (View.Piece (Elt F) S1x1024 .f32))
    (hc : Covers L18 L19 LS) (ho : outsAt0 m c t.val t.isLt = got L18 L19 LS) :
    iprop(iprop(InsAt m c t ∗ Left c (ms18 t) (ms19 t) sc0 sc1 sc2 L18 L19 LS)
      ∗ (dats m 0 c).owesAt () t.castSucc ∗ (∃ r, prngReg c r)) ⊢ bodyPost m c t := by
  unfold bodyPost InsAt Ins Left
  rw [show (dats m 0 c).owesAt () t.succ = (dats m 0 c).owesAt () t.castSucc from rfl,
    show (dats m 0 c).Φ t.succ = PhiS m c (t.val + 1) t.isLt from rfl, PhiS_pos m c _ _ (Nat.succ_ne_zero _)]
  simp only [Nat.add_sub_cancel]
  have hs : outsAt0 m c (t.val.succ - 1) t.isLt = got L18 L19 LS := ho
  rw [after18, after19, ho]
  unfold Scr got; dsimp only [dats]
  iintro ⟨⟨⟨H0, H1, H2, H3, H4, H5, H6, H7, H8, H9, H10, H11, H12, H13, H14, H15, H16, H17⟩, ⟨%e18, H18⟩, ⟨%e19, H19⟩, HS0, HS1, ⟨%es, HS2⟩⟩, Ho, Hg⟩
  isplitl [HS0 HS1 HS2 Hg]
  · isplitl [HS0 HS1 HS2]
    · isplitl [HS0]; · iexact HS0
      isplitl [HS1]; · iexact HS1
      unfold owns; iexists _; isplitr
      swap; · iexact HS2
      ipureintro; exact (View.read_writes_of_cover sc2.view es sc2.view sc2.view.junk LS hc.cs : _ = (got L18 L19 LS).2.2).trans (congrArg (fun p => p.2.2) hs).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ hc.c18
  unfold owns; iexists _; isplitr
  swap; · iexact H19
  ipureintro; exact View.read_writes_of_cover _ _ _ _ _ hc.c19

/-- At any position every scratch buffer is owned at some contents. -/
theorem PhiS_scr (c : Dev nD) (n : ℕ) (h : n ≤ cfg0.N) : PhiS m c n h ⊢
    iprop(((∃ d, owns (c : Thread nD τ) sc0 fullShare d) ∗ (∃ d, owns (c : Thread nD τ) sc1 fullShare d)
      ∗ (∃ d, owns (c : Thread nD τ) sc2 fullShare d)) ∗ ∃ r, prngReg c r) := by
  have e := PhiS_any m c n h
  rw [scr_any] at e
  unfold Scr at e
  exact e

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  refine (bodyPre_ins m c t).trans ?_
  unfold bodyAt0
  by_cases h0 : t.val % 8 = 0
  · iintro ⟨HΦ, Ho, Hi, H18, H19⟩
    ihave HΦ := (PhiS_scr m c t.val (Nat.le_of_lt t.isLt)) $$ HΦ
    icases HΦ with ⟨⟨HS0, HS1, HS2⟩, Hg⟩
    iapply ((KA m c t h0).2.2.2 Set.univ _)
    isplitl [Hi]; · iexact Hi
    isplitl [H18]; · iexact H18
    isplitl [H19]; · iexact H19
    isplitl [HS0]; · iexact HS0
    isplitl [HS1]; · iexact HS1
    isplitl [HS2]; · iexact HS2
    iintro Hl
    iapply (bodyPost_of m c t _ _ _ (coversA m c t h0) (outsAt0_A m c t h0))
    isplitl [Hl]; · iexact Hl
    isplitl [Ho]; · iexact Ho
    iexact Hg
  · rw [PhiS_pos m c t.val _ (fun hz => h0 (by rw [hz]))]
    unfold Scr
    iintro ⟨⟨⟨HS0, HS1, HS2⟩, Hg⟩, Ho, Hi, H18, H19⟩
    iapply ((KB m c t h0 _).2.2.2 Set.univ _)
    isplitl [Hi]; · iexact Hi
    isplitl [H18]; · iexact H18
    isplitl [H19]; · iexact H19
    isplitl [HS0]; · iexact HS0
    isplitl [HS1]; · iexact HS1
    isplitl [HS2]; · iexact HS2
    iintro Hl
    iapply (bodyPost_of m c t _ _ _ (coversB m c t h0 _) (outsAt0_B m c t h0))
    isplitl [Hl]; · iexact Hl
    isplitl [Ho]; · iexact Ho
    iexact Hg

theorem defs₀_row (t : Fin cfg0.N) :
    defs₀ (F := F) .tc cfg0.body (cfg0.bodyArgs t (cfg0.slots t)) = bodyAt0 t := by
  unfold defs₀; rw [Defs.onTc_tc]

/-- The library's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

/-! ## The run and the frame -/

set_option backward.isDefEq.respectTransparency.types false in
/-- The whole call ends with every array of the pipeline as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16))
      ∧ r.2.sem = fun _ => 0) :=
  θ_run_and (frame_of m ρ (dats m) (A_eq m) (run_main m ρ))
    ((θ_run defs _ _).mono (fun _ h => h.2) (run_main_quiescent m ρ))

end Cert.MixerIdeal.Hand

end
-- ==== Proof.MixerSpec.lean ====
module

public import proofs.«01_k».proof.Proof.FrontSpec

/-! What the branch-merge layer computes for one batch entry, from its rows and weights: the backward recurrence, the
pooling over windows of a grid row, and the gated merge of the two branches. Both programs are read as this. -/

@[expose] public section
noncomputable section
namespace Cert.Rows
open Idealize.ShloMosaic

/-- The rectifier by the hyperbolic tangent, and what it multiplies its argument by. -/
def geluFactor (x : EReal) : EReal :=
  Ideal.ofBits .f32 1056964608#32 * (1 + Ideal.tanh (Ideal.ofBits .f32 1061962282#32 * (x + Ideal.ofBits .f32 1027024659#32 * (x * (x * x)))))
def gelu (x : EReal) : EReal := x * geluFactor x

/-- One entry of the merged row: the residual, and the modulated product of the two gated branches with the last matrix. -/
def mixOut (x md : EReal) (hs zg g1 g2 : Fin 1024 → EReal) (yp : Fin 512 → EReal) (wlo : Fin 1024 → Fin 1024 → EReal)
    (wpo : Fin 512 → Fin 1024 → EReal) (wo : Fin 1024 → EReal) : EReal :=
  x + md * ∑ k, (Ideal.logistic (g1 k) * (∑ i, hs i * gelu (zg i) * wlo i k) + Ideal.logistic (g2 k) * (∑ j, yp j * wpo j k)) * wo k

/-- Half the width of a group's window, whether a place lies in the window about another, and how many do. -/
def half (q : Fin 4) : ℕ := 2 ^ q.val
def inWin (q : Fin 4) (c k : ℕ) : Prop := c ≤ k + half q ∧ k < c + half q
instance (q : Fin 4) (c k : ℕ) : Decidable (inWin q c k) := by unfold inWin; infer_instance
def count (q : Fin 4) (c : ℕ) : ℕ := min (c + half q) 64 - (c - half q)

/-- A channel's group, its place in the group, and the channel at a place of its group. -/
def cgrp (j : Fin 512) : Fin 4 := ⟨j.val / 128, by omega⟩
def cplc (j : Fin 512) : Fin 128 := ⟨j.val % 128, by omega⟩
def chan (q : Fin 4) (i : Fin 128) : Fin 512 := ⟨128 * q.val + i.val, by omega⟩

/-- A pooled channel, the sum over its window given. -/
def poolOut (q : Fin 4) (c : ℕ) (S P w : Fin 128 → EReal) (sc : EReal) : EReal :=
  (∑ i, (Ideal.div (S i) ((count q c : ℝ) : EReal) - P i) * w i) * sc

/-- A batch entry's rows, modulation and starting state, and the weights. -/
structure MixIn where
  X : Fin 4096 → Fin 1024 → EReal
  uc : Fin 4096 → Fin 1024 → EReal
  hf : Fin 4096 → Fin 1024 → EReal
  M : Fin 6 → Fin 1024 → EReal
  G : Fin 1024 → EReal
  W : Fin 1024 → Fin 4608 → EReal
  wr : Fin 16 → Fin 64 → Fin 64 → EReal
  br : Fin 1024 → EReal
  wi : Fin 16 → Fin 64 → Fin 64 → EReal
  bi : Fin 1024 → EReal
  lam : Fin 1024 → EReal
  h0 : Fin 1024 → EReal
  pw : Fin 4 → Fin 128 → Fin 128 → EReal
  ps : Fin 512 → EReal
  wlo : Fin 1024 → Fin 1024 → EReal
  wpo : Fin 512 → Fin 1024 → EReal
  wo : Fin 1024 → Fin 1024 → EReal

namespace MixIn
variable (I : MixIn)

/-- The two gates at a token. -/
def GR (s : Fin 4096) (l : Fin 1024) : EReal := gate (fun k => I.uc s (FrontIn.mate l k)) (fun k => I.wr (FrontIn.head l) k (FrontIn.place l)) (I.br l)
def GI (s : Fin 4096) (l : Fin 1024) : EReal := gate (fun k => I.uc s (FrontIn.mate l k)) (fun k => I.wi (FrontIn.head l) k (FrontIn.place l)) (I.bi l)

/-- The recurrence's factor and input at a token. -/
def FA (s : Fin 4096) (l : Fin 1024) : EReal := decay (I.GR s l) (soft (I.lam l))
def FB (s : Fin 4096) (l : Fin 1024) : EReal := drive (I.GR s l) (soft (I.lam l)) (I.GI s l) (I.uc s l)

/-- The token a step of the backward recurrence takes in. -/
def tok (n : ℕ) : Fin 4096 := ⟨4095 - n, by omega⟩

/-- The state after `n` steps from the last token. -/
def H (n : ℕ) (l : Fin 1024) : EReal := recur (fun i => I.FA (tok i) l) (fun i => I.FB (tok i) l) (I.h0 l) n

/-- The two directions' states together. -/
def HS (s : Fin 4096) (l : Fin 1024) : EReal := I.H (4096 - s.val) l + I.hf s l

/-- The projected row. -/
def Z (s : Fin 4096) (j : Fin 4608) : EReal := proj (modRow (I.X s) I.G (I.M 1) (I.M 0)) (fun k => I.W k j)

/-- The pooled channels of a token, the sum over the window, and the pooling branch's row. -/
def P (s : Fin 4096) (j : Fin 512) : EReal := I.Z s ⟨2048 + j.val, by omega⟩
def S (q : Fin 4) (s : Fin 4096) (j : Fin 512) : EReal :=
  ∑ k : Fin 64, if inWin q (s.val % 64) k.val then I.P ⟨64 * (s.val / 64) + k.val, by omega⟩ j else 0
def Y (s : Fin 4096) (j : Fin 512) : EReal :=
  poolOut (cgrp j) (s.val % 64) (fun i => I.S (cgrp j) s (chan (cgrp j) i)) (fun i => I.P s (chan (cgrp j) i)) (fun i => I.pw (cgrp j) i (cplc j)) (I.ps j)

/-- The layer's result. -/
def out (s : Fin 4096) (l : Fin 1024) : EReal :=
  mixOut (I.X s l) (I.M 2 l) (I.HS s) (fun i => I.Z s ⟨1024 + i.val, by omega⟩) (fun k => I.Z s ⟨2560 + k.val, by omega⟩)
    (fun k => I.Z s ⟨3584 + k.val, by omega⟩) (I.Y s) I.wlo I.wpo (fun k => I.wo k l)

end MixIn

/-! ## Numbers -/

/-- A quotient by a number that is not zero is a product with its inverse. -/
theorem div_real (x : EReal) (n : ℝ) (h : n ≠ 0) : Ideal.div x (n : EReal) = x * Ideal.div 1 (n : EReal) := by
  unfold Ideal.div
  simp [EReal.coe_eq_zero, h]

theorem count_pos (q : Fin 4) (c : ℕ) (h : c < 64) : 0 < count q c := by
  have : 0 < half q := by unfold half; positivity
  unfold count; omega

/-! ## Sums over a block of 64 -/

/-- A sum against a table that is zero outside one block of 64 is the sum over the block. -/
theorem sum_block8 (x : Fin 512 → EReal) (p : ℕ → Prop) [DecidablePred p] (j : Fin 8) :
    ∑ k : Fin 512, (if k.val / 64 = j.val ∧ p (k.val % 64) then 1 else 0) * x k
      = ∑ k : Fin 64, if p k.val then x ⟨64 * j.val + k.val, by omega⟩ else 0 := by
  have h : ∑ q : Fin 8, ∑ k : Fin 64, (if q = j ∧ p k.val then 1 else 0) * x ⟨64 * q.val + k.val, by omega⟩
      = ∑ k : Fin 512, (if k.val / 64 = j.val ∧ p (k.val % 64) then 1 else 0) * x k := by
    refine Fin.sum_mul_add_congr fun q k hl => ?_
    have e1 : (q.val * 64 + k.val) / 64 = q.val := by omega
    have e2 : (q.val * 64 + k.val) % 64 = k.val := by omega
    simp only [e1, e2, Fin.ext_iff]
    congr 2
    exact Fin.ext (by show 64 * q.val + k.val = q.val * 64 + k.val; omega)
  rw [← h, Finset.sum_eq_single j]
  · refine Finset.sum_congr rfl fun k _ => ?_
    by_cases hp : p k.val <;> simp [hp]
  · intro q _ hq
    simp [hq]
  · intro hq
    exact absurd (Finset.mem_univ _) hq

end Cert.Rows
end
-- ==== Proof.MixerPay.lean ====
module

public import proofs.«01_k».proof.Proof.Gen.MixerIdeal.Skeleton
public import proofs.«01_k».proof.Proof.FrontTile
public import proofs.«01_k».proof.Proof.MixerSpec
public import Idealize.ShloMosaic.Lib.Pointwise

/-! The branch-merge kernel's stored values read at one index. -/

@[expose] public section
set_option maxRecDepth 16384
noncomputable section
namespace Cert.MixerIdeal.Hand
open Cert.MixerIdeal Cert.MixerIdeal.Gen Cert.Rows Idealize.ShloMosaic Idealize.ShloMosaic.TcCoe Idealize.SL.Sem
open Cert.FrontIdeal.Hand (lane lane_zero lane_one lane_two lane_three gR gI gA gB rows rows_lt)

/-! ## Copies -/

theorem pay3_at (v : Vec Ideal S1x1x1024 .f32) (l : Fin 1024) : k0_pay3 v (ix2 0 l) = v (ix3 0 0 l) := by
  pointwise [k0_pay3]

theorem pay4_at (v : Vec Ideal S1x512x1024 .f32) (r : Fin 512) (l : Fin 1024) : k0_pay4 v (ix2 r l) = v (ix3 0 r l) := by
  pointwise [k0_pay4]

theorem pay5_eq (v : Vec Ideal S1x1024 .f32) : k0_pay5 v = v := by
  funext j; idx_vars j; pointwise [k0_pay5]

theorem pay6_eq (v : Vec Ideal S1x1024 .f32) : k0_pay6 v = v := by
  funext j; idx_vars j; pointwise [k0_pay6]

theorem pay36_at (v : Vec Ideal S8x1024 .f32) (h : Vec Ideal S1x8x1024 .f32) (r : Fin 8) (l : Fin 1024) :
    k0_pay36 (F := Ideal) v h (ix2 r l) = v (ix2 r l) + h (ix3 0 r l) := by
  pointwise [k0_pay36]

theorem pay37_at (v : Vec Ideal S8x1024 .f32) (l : Fin 1024) : k0_pay37 (F := Ideal) v (ix2 0 l) = v (ix2 0 l) := by
  pointwise [k0_pay37]

theorem pay38_at (v : Vec Ideal S1x1024 .f32) (l : Fin 1024) : k0_pay38 v (ix2 0 l) = v (ix2 0 l) := by
  pointwise [k0_pay38]

theorem pay39_at (v : Vec Ideal S1x1024 .f32) (l : Fin 1024) : k0_pay39 v (ix3 0 0 l) = v (ix2 0 l) := by
  pointwise [k0_pay39]

theorem pay40_at (v : Vec Ideal S1x6x1024 .f32) (k : Fin 6) (l : Fin 1024) : k0_pay40 v (ix2 k l) = v (ix3 0 k l) := by
  pointwise [k0_pay40]

theorem pay41_at (v : Vec Ideal S1x512x1024 .f32) (r : Fin 512) (l : Fin 1024) : k0_pay41 v (ix2 r l) = v (ix3 0 r l) := by
  pointwise [k0_pay41]

/-- The softplus of minus the parameter is spelled as in the recurrence's kernel. -/
theorem pay7_eq (v : Vec Ideal S1x1024 .f32) : k0_pay7 v = Cert.FrontIdeal.Gen.k0_pay14 v := by
  funext j; idx_vars j
  obtain rfl : j0 = (0 : Fin 1) := Subsingleton.elim _ _
  refine Eq.trans ?_ (Cert.FrontIdeal.Hand.pay14_at v j1).symm
  pointwise [k0_pay7, soft]
  simp only [zero_sub]
  rfl

/-! ## The gates of the four groups of heads -/

section
variable (v : Vec Ideal S1x512x1024 .f32) (br bi sp : Vec Ideal S1x1024 .f32) (wg : Vec Ideal S1x256x512 .bf16) (r : Fin 512) (l : Fin 256)

theorem pay14_at : k0_pay14 (F := Ideal) sp (k0_pay11 v br wg) (ix2 r l) = gA (k0_pay4 v) br sp wg r l 0 := by
  pointwise [k0_pay14, k0_pay13, k0_pay12, k0_pay11, k0_pay9, k0_pay8, k0_pay5, gA, gR, gate, decay, nla]
  simp only [zero_sub, lane_zero]

theorem pay15_at : k0_pay15 (F := Ideal) (k0_pay4 v) sp (k0_pay10 v bi wg) (k0_pay11 v br wg) (ix2 r l) = gB (k0_pay4 v) br bi sp wg r l 0 := by
  pointwise [k0_pay15, k0_pay13, k0_pay12, k0_pay11, k0_pay10, k0_pay9, k0_pay8, k0_pay6, k0_pay5, gB, gR, gI, gate, drive, factor, decay, nla]
  simp only [zero_sub, lane_zero]

theorem pay22_at : k0_pay22 (F := Ideal) (k0_pay19 br sp (k0_pay8 v) wg) (ix2 r l) = gA (k0_pay4 v) br sp wg r l 1 := by
  pointwise [k0_pay22, k0_pay19, k0_pay18, k0_pay16, k0_pay8, gA, gR, gate, decay, nla]
  simp only [zero_sub, lane_one]

theorem pay23_at :
    k0_pay23 (F := Ideal) (k0_pay4 v) (k0_pay17 bi (k0_pay8 v) wg) (k0_pay20 br sp (k0_pay8 v) wg) (k0_pay21 br sp (k0_pay8 v) wg) (Scalar.ofBits .f32 0x3F800000#32) (ix2 r l)
      = gB (k0_pay4 v) br bi sp wg r l 1 := by
  pointwise [k0_pay23, k0_pay21, k0_pay20, k0_pay19, k0_pay18, k0_pay17, k0_pay16, k0_pay8, gB, gR, gI, gate, drive, factor, decay, nla]
  simp only [zero_sub, lane_one]

theorem pay29_at : k0_pay29 (F := Ideal) br sp (k0_pay8 v) wg (ix2 r l) = gA (k0_pay4 v) br sp wg r l 2 := by
  pointwise [k0_pay29, k0_pay27, k0_pay26, k0_pay24, k0_pay8, gA, gR, gate, decay, nla]
  simp only [zero_sub, lane_two]

theorem pay30_at :
    k0_pay30 (F := Ideal) (k0_pay4 v) (k0_pay25 bi (k0_pay8 v) wg) (k0_pay28 br sp (k0_pay8 v) wg) (ix2 r l) = gB (k0_pay4 v) br bi sp wg r l 2 := by
  pointwise [k0_pay30, k0_pay28, k0_pay27, k0_pay26, k0_pay25, k0_pay24, k0_pay8, gB, gR, gI, gate, drive, factor, decay, nla]
  simp only [zero_sub, lane_two]

theorem pay34_at : k0_pay34 (F := Ideal) br sp (k0_pay8 v) wg (ix2 r l) = gA (k0_pay4 v) br sp wg r l 3 := by
  pointwise [k0_pay34, k0_pay33, k0_pay32, k0_pay31, k0_pay8, gA, gR, gate, decay, nla]
  simp only [zero_sub, lane_three]

theorem pay35_at : k0_pay35 (F := Ideal) (k0_pay4 v) br bi sp (k0_pay8 v) wg (ix2 r l) = gB (k0_pay4 v) br bi sp wg r l 3 := by
  pointwise [k0_pay35, k0_pay33, k0_pay32, k0_pay31, k0_pay8, gB, gR, gI, gate, drive, factor, decay, nla]
  simp only [zero_sub, lane_three]

end

/-! ## The scan of a slab, from its last row -/

/-- A slab's lane as a sequence of rows, the last first. -/
def back (a : Vec Ideal S8x1024 .f32) (l : Fin 1024) (n : ℕ) : EReal := a (ix2 ⟨7 - n % 8, by omega⟩ l)

theorem back_lt (a : Vec Ideal S8x1024 .f32) (l : Fin 1024) (n : ℕ) (h : n < 8) : back a l n = a (ix2 ⟨7 - n, by omega⟩ l) := by
  unfold back; congr 2; exact Fin.ext (by show 7 - n % 8 = 7 - n; omega)

/-- Row `r` of a slab's states: `8 - r` steps of the recurrence from the carried row. -/
theorem pay2_at (x : Vec Ideal S1x1024 .f32) (a b : Vec Ideal S8x1024 .f32) (r : Fin 8) (l : Fin 1024) (ha : ∀ r, Ok (a (ix2 r l))) :
    k0_pay2 (F := Ideal) x a b (ix2 r l) = recur (back a l) (back b l) (x (ix2 0 l)) (7 - r.val + 1) := by
  rw [← three_dbl (back a l) (back b l) (fun i => ha _) (7 - r.val) (by omega)]
  pointwise [k0_pay2]
  unfold dblA dblB back
  fin_cases r <;> simp [Scalar.select, IntOp.cmpi]

/-! ## The rows after the recurrence -/

theorem pay42_at (md : Vec Ideal S1x6x1024 .f32) (x : Vec Ideal S1x512x1024 .f32) (g : Vec Ideal S1x1024 .f32) (r : Fin 512) (l : Fin 1024) :
    k0_pay42 (F := Ideal) md x g (ix2 r l)
      = modRow (fun l => x (ix3 0 r l)) (fun l => g (ix2 0 l)) (fun l => md (ix3 0 1 l)) (fun l => md (ix3 0 0 l)) l := by
  pointwise [k0_pay42, k0_pay41, k0_pay40, modRow, normRow, rowScale]

section
variable (h : Vec Ideal S512x1024 .bf16) (r : Fin 512)

theorem pay43_at (w : Vec Ideal S1024x1024 .bf16) (hs : Vec Ideal S512x1024 .f32) (wlo : Vec Ideal S1024x1024 .bf16) (l : Fin 1024) :
    k0_pay43 (F := Ideal) h w hs wlo (ix2 r l)
      = ∑ i : Fin 1024, hs (ix2 r i) * gelu (proj (fun k => h (ix2 r k)) (fun k => w (ix2 k i))) * wlo (ix2 i l) := by
  pointwise [k0_pay43, gelu, geluFactor, proj]

theorem pay44_at (w : Vec Ideal S1024x512 .bf16) (j : Fin 512) :
    k0_pay44 (F := Ideal) h w (ix2 r j) = proj (fun k => h (ix2 r k)) (fun k => w (ix2 k j)) := by
  pointwise [k0_pay44, proj]

theorem pay45_at (w : Vec Ideal S1024x512 .bf16) (j : Fin 512) :
    k0_pay45 (F := Ideal) h w (ix2 r j) = k0_pay44 (F := Ideal) h w (ix2 r j) := by
  pointwise [k0_pay45]

theorem pay46_at (w : Vec Ideal S1024x512 .bf16) (j : Fin 512) :
    k0_pay46 (F := Ideal) h w (ix2 r j) = k0_pay44 (F := Ideal) h w (ix2 r j) - k0_pay44 (F := Ideal) h w (ix2 r j) := by
  pointwise [k0_pay46, k0_pay45]

end

/-! ### The pooled channels -/

theorem chan_zero (l : Fin 128) : chan 0 l = ⟨l.val, by omega⟩ := Fin.ext (by simp [chan])
theorem chan_one (l : Fin 128) : chan 1 l = ⟨128 + l.val, by omega⟩ := Fin.ext (by simp [chan])
theorem chan_two (l : Fin 128) : chan 2 l = ⟨256 + l.val, by omega⟩ := Fin.ext (by simp [chan])
theorem chan_three (l : Fin 128) : chan 3 l = ⟨384 + l.val, by omega⟩ := Fin.ext (by simp [chan])

/-- A group's pooled channel from the channels `P` split in `H` and `L`, the group's table, inverse counts and map. -/
def pooled (P H L : Vec Ideal S512x512 .f32) (q : Fin 4) (pm : Vec Ideal S1x512x512 .bf16) (pv : Vec Ideal S512x128 .f32) (pw : Vec Ideal S1x128x128 .bf16)
    (r : Fin 512) (l : Fin 128) : EReal :=
  ∑ i : Fin 128, (((∑ k : Fin 512, pm (ix3 0 r k) * H (ix2 k (chan q i))) + (∑ k : Fin 512, pm (ix3 0 r k) * L (ix2 k (chan q i)))) * pv (ix2 r i) - P (ix2 r (chan q i)))
    * pw (ix3 0 i l)

section
variable (P : Vec Ideal S512x512 .f32) (H L : Vec Ideal S512x512 .bf16) (pm : Vec Ideal S1x512x512 .bf16) (pv : Vec Ideal S512x128 .f32) (pw : Vec Ideal S1x128x128 .bf16)
  (r : Fin 512) (l : Fin 128)

theorem pay49_at (h : Vec Ideal S512x1024 .bf16) (w : Vec Ideal S1024x512 .bf16) :
    k0_pay49 (F := Ideal) P (k0_pay47 h w pm) (k0_pay48 h w pm) pv pw (ix2 r l) = pooled P (k0_pay45 h w) (k0_pay46 h w) 0 pm pv pw r l := by
  unfold pooled
  simp only [chan_zero]
  pointwise [k0_pay49, k0_pay47, k0_pay48]

theorem pay50_at : k0_pay50 (F := Ideal) P H L pm pm pv pw (ix2 r l) = pooled P H L 1 pm pv pw r l := by
  unfold pooled
  simp only [chan_one]
  pointwise [k0_pay50]

end

/-- The four groups side by side, scaled. -/
theorem pay52_at (P : Vec Ideal S512x512 .f32) (H L : Vec Ideal S512x512 .bf16) (y0 y1 : Vec Ideal S512x128 .f32)
    (pm2 : Vec Ideal S1x512x512 .bf16) (pv2 : Vec Ideal S512x128 .f32) (pw2 : Vec Ideal S1x128x128 .bf16)
    (pm3 : Vec Ideal S1x512x512 .bf16) (pv3 : Vec Ideal S512x128 .f32) (pw3 : Vec Ideal S1x128x128 .bf16) (ps : Vec Ideal S1x512 .f32) (r : Fin 512) (j : Fin 512) :
    k0_pay52 (F := Ideal) P H L y0 y1 (k0_pay51 H pm2) pm2 pv2 pw2 pm3 pm3 pv3 pw3 ps (ix2 r j)
      = (if h : j.val < 128 then y0 (ix2 r ⟨j.val, h⟩)
        else if h' : j.val - 128 < 128 then y1 (ix2 r ⟨j.val - 128, h'⟩)
        else if h'' : j.val - 128 - 128 < 128 then pooled P H L 2 pm2 pv2 pw2 r ⟨j.val - 128 - 128, h''⟩
        else pooled P H L 3 pm3 pv3 pw3 r ⟨j.val - 128 - 128 - 128, by omega⟩) * ps (ix2 0 j) := by
  unfold pooled
  simp only [chan_two, chan_three]
  pointwise [k0_pay52, k0_pay51]

/-- The stored row. -/
theorem pay1_at (md : Vec Ideal S6x1024 .f32) (x : Vec Ideal S512x1024 .f32) (h : Vec Ideal S512x1024 .bf16) (lru : Vec Ideal S512x1024 .f32) (y : Vec Ideal S512x512 .bf16)
    (wpo : Vec Ideal S512x1024 .bf16) (w : Vec Ideal S1024x2048 .bf16) (wo : Vec Ideal S1024x1024 .bf16) (r : Fin 512) (l : Fin 1024) :
    k0_pay1 (F := Ideal) md x h lru y wpo w wo (ix3 0 r l)
      = x (ix2 r l) + md (ix2 2 l) * ∑ k : Fin 1024,
        (Ideal.logistic (proj (fun i => h (ix2 r i)) (fun i => w (ix2 i ⟨k.val, by omega⟩))) * lru (ix2 r k)
          + Ideal.logistic (proj (fun i => h (ix2 r i)) (fun i => w (ix2 i ⟨1024 + k.val, by omega⟩))) * (∑ j : Fin 512, y (ix2 r j) * wpo (ix2 j k))) * wo (ix2 k l) := by
  pointwise [k0_pay1, proj]

end Cert.MixerIdeal.Hand
end
-- ==== Proof.MixerLoop.lean ====
module

public import proofs.«01_k».proof.Proof.MixerPay
public import proofs.«01_k».proof.Proof.Gen.MixerIdeal.Loops
public import Idealize.ShloMosaic.Lib.WritesUnit

/-! The branch-merge kernel's loop over slabs of eight rows, the last first: the carried row is the state of the
recurrence, and the scratch of inputs is overwritten slab by slab with the states, the other direction's rows added. -/

@[expose] public section
set_option maxRecDepth 16384
noncomputable section
namespace Cert.MixerIdeal.Hand
open Cert.MixerIdeal Cert.MixerIdeal.Gen Cert.Rows Idealize.ShloMosaic Idealize.ShloMosaic.TcCoe Idealize.SL.Sem

variable (𝒱 : Variants) (c : Dev nD) (bd : Option 𝒱.V) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1024x3584 .bf16) (harg7 : arg7.IsWhole) (arg8 : Memref sig .tc .vmem S4x256x512 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1x1024 .f32) (harg12 : arg12.IsWhole) (arg13 : Memref sig .tc .vmem S4x512x512 .bf16) (harg13 : arg13.IsWhole) (arg14 : Memref sig .tc .vmem S512x512 .f32) (harg14 : arg14.IsWhole) (arg15 : Memref sig .tc .vmem S4x128x128 .bf16) (harg15 : arg15.IsWhole) (arg16 : Memref sig .tc .vmem S1x512 .f32) (harg16 : arg16.IsWhole) (arg17 : Memref sig .tc .vmem S1024x1024 .bf16) (harg17 : arg17.IsWhole) (arg18 : Memref sig .tc .vmem S512x1024 .bf16) (harg18 : arg18.IsWhole) (arg19 : Memref sig .tc .vmem S1024x1024 .bf16) (harg19 : arg19.IsWhole) (arg20 : Memref sig .tc .vmem S1x512x1024 .f32) (harg20 : arg20.IsWhole) (arg21 : Memref sig .tc .vmem S1x1x1024 .f32) (harg21 : arg21.IsWhole) (arg22 : Memref sig .tc .vmem S512x1024 .f32) (harg22 : arg22.IsWhole) (arg23 : Memref sig .tc .vmem S512x1024 .f32) (harg23 : arg23.IsWhole) (arg24 : Memref sig .tc .vmem S1x1024 .f32) (harg24 : arg24.IsWhole)
variable (Xh : BufTy.Contents (Elt Ideal) arg4.view.ty) (X1 : BufTy.Contents (Elt Ideal) arg22.view.ty) (G : BufTy.Contents (Elt Ideal) arg23.view.ty) (init : Vec Ideal S1x1024 .f32)

/-- The loop's carried row and stores before trip `k`. -/
abbrev loopSt (k : ℕ) : Vec Ideal S1x1024 .f32 × List (View.Piece (Elt Ideal) S512x1024 .f32) :=
  st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 Xh X1 G init k

theorem trips_eq : k0_t1_loop.trips = 64 := by decide +kernel

/-- A slab read from a scratch of rows. -/
theorem slab_read (v : Memref sig .tc .vmem S512x1024 .f32) (X : BufTy.Contents (Elt Ideal) v.view.ty) (k : Fin k0_t1_loop.trips) (r : Fin 8) (l : Fin 1024) (hr : 504 - 8 * k.val + r.val < 512) :
    (View.readAt (Elt Ideal) v.view (Rect.unit (s := S512x1024) (k0_off1 k) S8x1024.size (k0_off1_inb k)).toLoadRect X : Vec Ideal S8x1024 .f32) (ix2 r l)
      = v.view.read (Elt Ideal) X (ix2 ⟨504 - 8 * k.val + r.val, hr⟩ l) := by
  refine congrArg (v.view.read (Elt Ideal) X) (funext fun a => Fin.ext ?_)
  show k0_off1 k a + 1 * (ix2 r l a).val = _
  rw [k0_off1_eq]
  fin_cases a <;> simp

/-- A slab read from the staged rows. -/
theorem row_read (v : Memref sig .tc .vmem S1x512x1024 .f32) (X : BufTy.Contents (Elt Ideal) v.view.ty) (k : Fin k0_t1_loop.trips) (r : Fin 8) (l : Fin 1024) (hr : 504 - 8 * k.val + r.val < 512) :
    (View.readAt (Elt Ideal) v.view (Rect.unit (s := S1x512x1024) (k0_off2 k) S1x8x1024.size (k0_off2_inb k)).toLoadRect X : Vec Ideal S1x8x1024 .f32) (ix3 0 r l)
      = v.view.read (Elt Ideal) X (ix3 0 ⟨504 - 8 * k.val + r.val, hr⟩ l) := by
  refine congrArg (v.view.read (Elt Ideal) X) (funext fun a => Fin.ext ?_)
  show k0_off2 k a + 1 * (ix3 0 r l a).val = _
  rw [k0_off2_eq]
  fin_cases a <;> simp

/-- A tile's rows as a sequence, the last first. -/
def rev (A : Fin 1024 → ℕ → EReal) (l : Fin 1024) (n : ℕ) : EReal := A l (511 - n)

/-- The states of a slab over the carried row. -/
theorem slab_at (A B : Fin 1024 → ℕ → EReal) (a b : Vec Ideal S8x1024 .f32) (k : ℕ) (hk : k < 64) (l : Fin 1024)
    (ha : ∀ (r : Fin 8) (l : Fin 1024), a (ix2 r l) = A l (504 - 8 * k + r.val)) (hb : ∀ (r : Fin 8) (l : Fin 1024), b (ix2 r l) = B l (504 - 8 * k + r.val))
    (ok : ∀ l n, Ok (A l n)) (x : Vec Ideal S1x1024 .f32) (h : EReal)
    (hx : x (ix2 0 l) = recur (rev A l) (rev B l) h (8 * k)) (r : Fin 8) :
    k0_pay2 (F := Ideal) x a b (ix2 r l) = recur (rev A l) (rev B l) h (8 * k + (7 - r.val + 1)) := by
  rw [pay2_at _ _ _ _ _ (fun r => by rw [ha r]; exact ok _ _), hx]
  refine Eq.trans ?_ (recur_add _ _ _ _ _).symm
  refine recur_congr _ _ (fun n hn => ?_) (fun n hn => ?_)
  · rw [back_lt _ _ _ (by omega), ha]
    exact congrArg (A l) (by show 504 - 8 * k + (7 - n) = 511 - (8 * k + n); omega)
  · rw [back_lt _ _ _ (by omega), hb]
    exact congrArg (B l) (by show 504 - 8 * k + (7 - n) = 511 - (8 * k + n); omega)

variable {𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24} {Xh X1 G init}

/-- Before trip `k`, `8 k` steps are done, and the scratch's last `8 k` rows hold the states after them with the
other direction's rows added, the others the inputs. -/
theorem loop_at (A B : Fin 1024 → ℕ → EReal)
    (hA : ∀ (r : Fin 512) (l : Fin 1024), arg22.view.read (Elt Ideal) X1 (ix2 r l) = A l r.val)
    (hB : ∀ (r : Fin 512) (l : Fin 1024), arg23.view.read (Elt Ideal) G (ix2 r l) = B l r.val)
    (ok : ∀ l n, Ok (A l n)) : ∀ k : ℕ, k ≤ 64 →
    (∀ l : Fin 1024, (loopSt 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 Xh X1 G init k).1 (ix2 0 l) = recur (rev A l) (rev B l) (init (ix2 0 l)) (8 * k))
    ∧ ∀ (r : Fin 512) (l : Fin 1024), arg23.view.read (Elt Ideal) (arg23.view.writes (Elt Ideal) G (loopSt 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 Xh X1 G init k).2) (ix2 r l)
        = if 512 - 8 * k ≤ r.val then recur (rev A l) (rev B l) (init (ix2 0 l)) (512 - r.val) + arg4.view.read (Elt Ideal) Xh (ix3 0 r l) else B l r.val
  | 0, _ => ⟨fun l => rfl, fun r l => by
      rw [if_neg (by omega)]
      exact hB r l⟩
  | k + 1, hk => by
    have ht : k < k0_t1_loop.trips := by rw [trips_eq]; omega
    obtain ⟨ih1, ih2⟩ := loop_at A B hA hB ok k (by omega)
    unfold loopSt at ih1 ih2 ⊢
    rw [show k + 1 = (⟨k, ht⟩ : Fin k0_t1_loop.trips).val + 1 from rfl, st_k0_t1_succ]
    unfold tripR_k0_t1 tripL_k0_t1 trip_k0_t1
    dsimp only
    have ha : ∀ (r : Fin 8) (l : Fin 1024), (View.readAt (Elt Ideal) arg22.view (Rect.unit (s := S512x1024) (k0_off1 ⟨k, ht⟩) S8x1024.size (k0_off1_inb ⟨k, ht⟩)).toLoadRect X1 : Vec Ideal S8x1024 .f32) (ix2 r l) = A l (504 - 8 * k + r.val) := fun r l => by
      rw [slab_read arg22 X1 ⟨k, ht⟩ r l (by show 504 - 8 * k + r.val < 512; omega), hA]
    have hb : ∀ (r : Fin 8) (l : Fin 1024), (View.readAt (Elt Ideal) arg23.view (Rect.unit (s := S512x1024) (k0_off1 ⟨k, ht⟩) S8x1024.size (k0_off1_inb ⟨k, ht⟩)).toLoadRect
        (arg23.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 Xh X1 G init k).2) : Vec Ideal S8x1024 .f32) (ix2 r l) = B l (504 - 8 * k + r.val) := fun r l => by
      rw [slab_read arg23 _ ⟨k, ht⟩ r l (by show 504 - 8 * k + r.val < 512; omega), ih2, if_neg (by show ¬512 - 8 * k ≤ 504 - 8 * k + r.val; omega)]
    constructor
    · intro l
      refine (pay37_at _ l).trans ?_
      exact slab_at A B _ _ k (by omega) l ha hb ok _ _ (ih1 l) 0
    · intro r l
      rw [View.writes_append]
      by_cases hr : 504 - 8 * k ≤ r.val ∧ r.val < 504 - 8 * k + 8
      · rw [if_pos (by omega)]
        refine (View.read_writes_cons_rows_of_mem arg23.view _ (k0_off1_inb ⟨k, ht⟩) _ [] (ix2 r l) (ix2 (⟨r.val - (504 - 8 * k), by omega⟩ : Fin 8) l) (k0_off1_eq ⟨k, ht⟩)
          (by show r.val = 504 - 8 * k + (r.val - (504 - 8 * k)); omega) rfl).trans ?_
        refine (pay36_at _ _ _ l).trans ?_
        refine congrArg₂ (· + ·) ?_ ?_
        · refine (slab_at A B _ _ k (by omega) l ha hb ok _ _ (ih1 l) _).trans (congrArg (recur _ _ _) ?_)
          show 8 * k + (7 - (r.val - (504 - 8 * k)) + 1) = 512 - r.val
          omega
        · rw [row_read arg4 Xh ⟨k, ht⟩ _ l (by show 504 - 8 * k + (r.val - (504 - 8 * k)) < 512; omega)]
          refine congrArg (fun z => arg4.view.read (Elt Ideal) Xh (ix3 0 z l)) (Fin.ext ?_)
          show 504 - 8 * k + (r.val - (504 - 8 * k)) = r.val
          omega
      · refine (View.read_writes_cons_rows_of_not_mem arg23.view _ (o := 504 - 8 * k) (W := 8) (k0_off1_inb ⟨k, ht⟩) _ [] (ix2 r l) (k0_off1_eq ⟨k, ht⟩) rfl (by show r.val < _ ∨ _ ≤ r.val; omega)).trans ?_
        refine (ih2 r l).trans ?_
        refine if_congr ?_ rfl rfl
        show 512 - 8 * k ≤ r.val ↔ 512 - 8 * (k + 1) ≤ r.val
        omega

end Cert.MixerIdeal.Hand
end
-- ==== Proof.MixerTile.lean ====
module

public import proofs.«01_k».proof.Proof.MixerBody
public import proofs.«01_k».proof.Proof.MixerLoop
public import Idealize.ShloMosaic.Lib.Pipeline.ValueKit
public import Idealize.ShloMosaic.Lib.Pipeline.ReadBack

/-! What one tile of the branch-merge kernel leaves, from its blocks and the carried row. -/

@[expose] public section
set_option maxRecDepth 16384
noncomputable section
namespace Cert.MixerIdeal.Hand
open Cert.MixerIdeal Cert.MixerIdeal.Gen Cert.Rows Idealize.ShloMosaic Idealize.ShloMosaic.TcCoe Idealize.SL.Sem
open Cert.FrontIdeal.Hand (lane grp plc wgq facA facB facA_lane facB_lane tilA tilB tilA_ok ld_group)

/-! ## The two scratches of factors and inputs -/

variable (u : Vec Ideal S1x512x1024 .f32) (br bi lam : Vec Ideal S1x1024 .f32) (wg : Vec Ideal S4x256x512 .bf16)

/-- A group's weights, loaded. -/
abbrev ldg (q : Fin 4) (inb : ∀ a, (![q.val, 0, 0] : Fin 3 → ℕ) a + (![1, 256, 512] : Fin 3 → ℕ) a ≤ S4x256x512.size a) : Vec Ideal S1x256x512 .bf16 :=
  View.ld wg (Rect.unit (s := S4x256x512) ![q.val, 0, 0] ![1, 256, 512] inb)

/-- The factors' four stores. -/
abbrev storesA : List (View.Piece (Elt Ideal) S512x1024 .f32) :=
  [⟨Rect.unit ![0, 768] ![512, 256] inb_S512x1024_S512x256_0_768, k0_pay34 (k0_pay5 br) (k0_pay7 lam) (k0_pay8 u) (ldg wg 3 inb_S4x256x512_S1x256x512_3_0_0)⟩,
   ⟨Rect.unit ![0, 512] ![512, 256] inb_S512x1024_S512x256_0_512, k0_pay29 (k0_pay5 br) (k0_pay7 lam) (k0_pay8 u) (ldg wg 2 inb_S4x256x512_S1x256x512_2_0_0)⟩,
   ⟨Rect.unit ![0, 256] ![512, 256] inb_S512x1024_S512x256_0_256, k0_pay22 (k0_pay19 (k0_pay5 br) (k0_pay7 lam) (k0_pay8 u) (ldg wg 1 inb_S4x256x512_S1x256x512_1_0_0))⟩,
   ⟨Rect.unit ![0, 0] ![512, 256] inb_S512x1024_S512x256_0_0, k0_pay14 (k0_pay7 lam) (k0_pay11 u br (ldg wg 0 inb_S4x256x512_S1x256x512_0_0_0))⟩]

/-- The inputs' four stores. -/
abbrev storesB : List (View.Piece (Elt Ideal) S512x1024 .f32) :=
  [⟨Rect.unit ![0, 768] ![512, 256] inb_S512x1024_S512x256_0_768, k0_pay35 (k0_pay4 u) (k0_pay5 br) (k0_pay6 bi) (k0_pay7 lam) (k0_pay8 u) (ldg wg 3 inb_S4x256x512_S1x256x512_3_0_0)⟩,
   ⟨Rect.unit ![0, 512] ![512, 256] inb_S512x1024_S512x256_0_512, k0_pay30 (k0_pay4 u) (k0_pay25 (k0_pay6 bi) (k0_pay8 u) (ldg wg 2 inb_S4x256x512_S1x256x512_2_0_0))
      (k0_pay28 (k0_pay5 br) (k0_pay7 lam) (k0_pay8 u) (ldg wg 2 inb_S4x256x512_S1x256x512_2_0_0))⟩,
   ⟨Rect.unit ![0, 256] ![512, 256] inb_S512x1024_S512x256_0_256, k0_pay23 (k0_pay4 u) (k0_pay17 (k0_pay6 bi) (k0_pay8 u) (ldg wg 1 inb_S4x256x512_S1x256x512_1_0_0))
      (k0_pay20 (k0_pay5 br) (k0_pay7 lam) (k0_pay8 u) (ldg wg 1 inb_S4x256x512_S1x256x512_1_0_0))
      (k0_pay21 (k0_pay5 br) (k0_pay7 lam) (k0_pay8 u) (ldg wg 1 inb_S4x256x512_S1x256x512_1_0_0)) (Scalar.ofBits .f32 0x3F800000#32)⟩,
   ⟨Rect.unit ![0, 0] ![512, 256] inb_S512x1024_S512x256_0_0, k0_pay15 (k0_pay4 u) (k0_pay7 lam) (k0_pay10 u bi (ldg wg 0 inb_S4x256x512_S1x256x512_0_0_0))
      (k0_pay11 u br (ldg wg 0 inb_S4x256x512_S1x256x512_0_0_0))⟩]

/-- The rectangles of four column blocks are everything. -/
theorem cover_four (q0 q1 q2 q3 : Vec Ideal S512x256 .f32) (y : S512x1024.Idx) :
    ∃ p ∈ ([⟨Rect.unit ![0, 768] ![512, 256] inb_S512x1024_S512x256_0_768, q3⟩, ⟨Rect.unit ![0, 512] ![512, 256] inb_S512x1024_S512x256_0_512, q2⟩,
       ⟨Rect.unit ![0, 256] ![512, 256] inb_S512x1024_S512x256_0_256, q1⟩, ⟨Rect.unit ![0, 0] ![512, 256] inb_S512x1024_S512x256_0_0, q0⟩] : List (View.Piece (Elt Ideal) S512x1024 .f32)), y ∈ p.1.set :=
  View.cover_of_tiledL (s := S512x1024) _ ![512, 256] (by sl_kernel_rfl) _

/-- Four column blocks that agree with one function read it everywhere. -/
theorem read_four (V : View sig .tc .vmem S512x1024 .f32) (f : V.ty.Contents (Elt Ideal)) (G : Fin 512 → Fin 1024 → EReal)
    (q0 q1 q2 q3 : Vec Ideal S512x256 .f32) (h0 : ∀ r l, q0 (ix2 r l) = G r (lane 0 l)) (h1 : ∀ r l, q1 (ix2 r l) = G r (lane 1 l))
    (h2 : ∀ r l, q2 (ix2 r l) = G r (lane 2 l)) (h3 : ∀ r l, q3 (ix2 r l) = G r (lane 3 l)) (r : Fin 512) (l : Fin 1024) :
    V.read (Elt Ideal) (V.writes (Elt Ideal) f
      [⟨Rect.unit ![0, 768] ![512, 256] inb_S512x1024_S512x256_0_768, q3⟩, ⟨Rect.unit ![0, 512] ![512, 256] inb_S512x1024_S512x256_0_512, q2⟩,
       ⟨Rect.unit ![0, 256] ![512, 256] inb_S512x1024_S512x256_0_256, q1⟩, ⟨Rect.unit ![0, 0] ![512, 256] inb_S512x1024_S512x256_0_0, q0⟩]) (ix2 r l) = G r l :=
  (congrFun (View.read_writes_eq_canon V f _ (cover_four q0 q1 q2 q3)) (ix2 r l)).trans
    ((congrFun (View.read_writes_eq_canon _ _ _ (cover_four q0 q1 q2 q3)) (ix2 r l)).symm.trans
      (Cert.FrontIdeal.Hand.read_four (View.whole Cert.FrontIdeal.cc0_scratch1) (View.whole Cert.FrontIdeal.cc0_scratch1).junk G q0 q1 q2 q3 h0 h1 h2 h3 r l))

theorem storesA_tile (V : View sig .tc .vmem S512x1024 .f32) (f : V.ty.Contents (Elt Ideal)) (r : Fin 512) (l : Fin 1024) :
    V.read (Elt Ideal) (V.writes (Elt Ideal) f (storesA u br lam wg)) (ix2 r l) = tilA br lam wg (k0_pay4 u) l r.val := by
  refine Eq.trans ?_ (dif_pos r.isLt).symm
  refine read_four V f (facA br lam wg (k0_pay4 u)) _ _ _ _ ?_ ?_ ?_ ?_ r l <;> intro r l
  · rw [pay14_at, pay7_eq]; exact facA_lane _ _ _ _ _ _ _ _ (ld_group _ _ _ _ rfl)
  · rw [pay5_eq, pay22_at, pay7_eq]; exact facA_lane _ _ _ _ _ _ _ _ (ld_group _ _ _ _ rfl)
  · rw [pay5_eq, pay29_at, pay7_eq]; exact facA_lane _ _ _ _ _ _ _ _ (ld_group _ _ _ _ rfl)
  · rw [pay5_eq, pay34_at, pay7_eq]; exact facA_lane _ _ _ _ _ _ _ _ (ld_group _ _ _ _ rfl)

theorem storesB_tile (V : View sig .tc .vmem S512x1024 .f32) (f : V.ty.Contents (Elt Ideal)) (r : Fin 512) (l : Fin 1024) :
    V.read (Elt Ideal) (V.writes (Elt Ideal) f (storesB u br bi lam wg)) (ix2 r l) = tilB br bi lam wg (k0_pay4 u) l r.val := by
  refine Eq.trans ?_ (dif_pos r.isLt).symm
  refine read_four V f (facB br bi lam wg (k0_pay4 u)) _ _ _ _ ?_ ?_ ?_ ?_ r l <;> intro r l
  · rw [pay15_at, pay7_eq]; exact facB_lane _ _ _ _ _ _ _ _ _ (ld_group _ _ _ _ rfl)
  · rw [pay5_eq, pay6_eq, pay23_at, pay7_eq]; exact facB_lane _ _ _ _ _ _ _ _ _ (ld_group _ _ _ _ rfl)
  · rw [pay5_eq, pay6_eq, pay30_at, pay7_eq]; exact facB_lane _ _ _ _ _ _ _ _ _ (ld_group _ _ _ _ rfl)
  · rw [pay5_eq, pay6_eq, pay35_at, pay7_eq]; exact facB_lane _ _ _ _ _ _ _ _ _ (ld_group _ _ _ _ rfl)

/-- What later stores over the inputs' four leave. -/
theorem canon_over (V : View sig .tc .vmem S512x1024 .f32) (f : V.ty.Contents (Elt Ideal)) (L : List (View.Piece (Elt Ideal) S512x1024 .f32)) (y : S512x1024.Idx) :
    View.canon (L ++ storesB u br bi lam wg) y = V.read (Elt Ideal) (V.writes (Elt Ideal) (V.writes (Elt Ideal) f (storesB u br bi lam wg)) L) y := by
  rw [← View.writes_append]
  refine (congrFun (View.read_writes_eq_canon V f _ fun y => ?_) y).symm
  obtain ⟨p, hp, hy⟩ := cover_four _ _ _ _ y
  exact ⟨p, List.mem_append_right _ hp, hy⟩

/-! ## The tile -/

variable (m : (ℓ : Loc nD τ sig) → Buf (Elt Ideal) ℓ) (c : Dev nD) (t : Fin cfg0.N)

abbrev tA := tilA (iblk m c 7 t) (iblk m c 9 t) (iblk m c 6 t) (k0_pay4 (iblk m c 1 t))
abbrev tB := tilB (iblk m c 7 t) (iblk m c 8 t) (iblk m c 9 t) (iblk m c 6 t) (k0_pay4 (iblk m c 1 t))

/-- The modulated rows, and the projection's columns of the pooled channels. -/
abbrev tH : Vec Ideal S512x1024 .bf16 := k0_pay42 (iblk m c 3 t) (iblk m c 0 t) (iblk m c 4 t)
abbrev tW : Vec Ideal S1024x512 .bf16 := View.ld (iblk m c 5 t) (Rect.unit (s := S1024x3584) ![0, 1024] ![1024, 512] inb_S1024x3584_S1024x512_0_1024)
abbrev tP : Vec Ideal S512x512 .f32 := k0_pay44 (tH m c t) (tW m c t)

/-- A group's table, inverse counts and map. -/
abbrev ldm (q : Fin 4) (inb : ∀ a, (![q.val, 0, 0] : Fin 3 → ℕ) a + (![1, 512, 512] : Fin 3 → ℕ) a ≤ S4x512x512.size a) : Vec Ideal S1x512x512 .bf16 :=
  View.ld (iblk m c 11 t) (Rect.unit (s := S4x512x512) ![q.val, 0, 0] ![1, 512, 512] inb)
abbrev ldv (o : ℕ) (inb : ∀ a, (![0, o] : Fin 2 → ℕ) a + (![512, 128] : Fin 2 → ℕ) a ≤ S512x512.size a) : Vec Ideal S512x128 .f32 :=
  View.ld (iblk m c 12 t) (Rect.unit (s := S512x512) ![0, o] ![512, 128] inb)
abbrev ldp (q : Fin 4) (inb : ∀ a, (![q.val, 0, 0] : Fin 3 → ℕ) a + (![1, 128, 128] : Fin 3 → ℕ) a ≤ S4x128x128.size a) : Vec Ideal S1x128x128 .bf16 :=
  View.ld (iblk m c 13 t) (Rect.unit (s := S4x128x128) ![q.val, 0, 0] ![1, 128, 128] inb)

/-- The pooling branch's rows. -/
def tY : Vec Ideal S512x512 .bf16 :=
  k0_pay52 (k0_pay44 (tH m c t) (tW m c t)) (k0_pay45 (tH m c t) (tW m c t)) (k0_pay46 (tH m c t) (tW m c t))
    (k0_pay49 (k0_pay44 (tH m c t) (tW m c t)) (k0_pay47 (tH m c t) (tW m c t) (ldm m c t 0 inb_S4x512x512_S1x512x512_0_0_0)) (k0_pay48 (tH m c t) (tW m c t) (ldm m c t 0 inb_S4x512x512_S1x512x512_0_0_0))
      (ldv m c t 0 inb_S512x512_S512x128_0_0) (ldp m c t 0 inb_S4x128x128_S1x128x128_0_0_0))
    (k0_pay50 (k0_pay44 (tH m c t) (tW m c t)) (k0_pay45 (tH m c t) (tW m c t)) (k0_pay46 (tH m c t) (tW m c t)) (ldm m c t 1 inb_S4x512x512_S1x512x512_1_0_0) (ldm m c t 1 inb_S4x512x512_S1x512x512_1_0_0)
      (ldv m c t 128 inb_S512x512_S512x128_0_128) (ldp m c t 1 inb_S4x128x128_S1x128x128_1_0_0))
    (k0_pay51 (k0_pay45 (tH m c t) (tW m c t)) (ldm m c t 2 inb_S4x512x512_S1x512x512_2_0_0)) (ldm m c t 2 inb_S4x512x512_S1x512x512_2_0_0)
    (ldv m c t 256 inb_S512x512_S512x128_0_256) (ldp m c t 2 inb_S4x128x128_S1x128x128_2_0_0)
    (ldm m c t 3 inb_S4x512x512_S1x512x512_3_0_0) (ldm m c t 3 inb_S4x512x512_S1x512x512_3_0_0)
    (ldv m c t 384 inb_S512x512_S512x128_0_384) (ldp m c t 3 inb_S4x128x128_S1x128x128_3_0_0) (iblk m c 14 t)

/-- A column of the projection of a tile's row. -/
def tZ (r : Fin 512) (j : Fin 3584) : EReal :=
  proj (fun k => tH m c t (ix2 r k)) (fun k => (iblk m c 5 t : Vec Ideal S1024x3584 .bf16) (ix2 k j))

/-- The stored row over the two directions' states. -/
def tileOut (hs : Fin 1024 → EReal) (r : Fin 512) (l : Fin 1024) : EReal :=
  mixOut ((iblk m c 0 t : Vec Ideal S1x512x1024 .f32) (ix3 0 r l)) ((iblk m c 3 t : Vec Ideal S1x6x1024 .f32) (ix3 0 2 l)) hs
    (fun i => tZ m c t r ⟨i.val, by omega⟩) (fun k => tZ m c t r ⟨1536 + k.val, by omega⟩) (fun k => tZ m c t r ⟨2560 + k.val, by omega⟩)
    (fun j => tY m c t (ix2 r j)) (fun i k => (iblk m c 15 t : Vec Ideal S1024x1024 .bf16) (ix2 i k))
    (fun j k => (iblk m c 16 t : Vec Ideal S512x1024 .bf16) (ix2 j k)) (fun k => (iblk m c 17 t : Vec Ideal S1024x1024 .bf16) (ix2 k l))

/-- A slice of columns, loaded. -/
theorem ld_cols (X : Vec Ideal S1024x3584 .bf16) (o n : ℕ) (inb : ∀ a, (![0, o] : Fin 2 → ℕ) a + (![1024, n] : Fin 2 → ℕ) a ≤ S1024x3584.size a) (k : Fin 1024) (j : Fin n) (j' : Fin 3584) (hj : j'.val = o + j.val) :
    (View.ld X (Rect.unit (s := S1024x3584) ![0, o] ![1024, n] inb) : Vec Ideal ⟨2, ![1024, n]⟩ .bf16) (ix2 k j) = X (ix2 k j') := by
  refine congrArg X (funext fun a => Fin.ext ?_)
  show (![0, o] : Fin 2 → ℕ) a + 1 * (ix2 k j a).val = _
  fin_cases a
  · show 0 + 1 * k.val = k.val
    omega
  · show o + 1 * j.val = j'.val
    omega

/-- The merged row from its parts. -/
theorem mix_of {x md x' md' : EReal} (hs zg g1 g2 a b lru : Fin 1024 → EReal) (yp : Fin 512 → EReal) (wlo : Fin 1024 → Fin 1024 → EReal) (wpo : Fin 512 → Fin 1024 → EReal) (wo : Fin 1024 → EReal)
    (hx : x = x') (hm : md = md') (ha : ∀ k, a k = g1 k) (hb : ∀ k, b k = g2 k) (hl : ∀ k, lru k = ∑ i, hs i * gelu (zg i) * wlo i k) :
    x + md * ∑ k, (Ideal.logistic (a k) * lru k + Ideal.logistic (b k) * (∑ j, yp j * wpo j k)) * wo k = mixOut x' md' hs zg g1 g2 yp wlo wpo wo := by
  obtain rfl := funext ha
  obtain rfl := funext hb
  obtain rfl := funext hl
  rw [hx, hm]
  rfl

/-- A column of the projection, from a loaded slice of columns. -/
theorem proj_cols (z : Fin 1024 → EReal) (X : Vec Ideal S1024x3584 .bf16) (o n : ℕ) (inb : ∀ a, (![0, o] : Fin 2 → ℕ) a + (![1024, n] : Fin 2 → ℕ) a ≤ S1024x3584.size a) (j : Fin n) (j' : Fin 3584) (hj : j'.val = o + j.val) :
    proj z (fun k => (View.ld X (Rect.unit (s := S1024x3584) ![0, o] ![1024, n] inb) : Vec Ideal ⟨2, ![1024, n]⟩ .bf16) (ix2 k j)) = proj z (fun k => X (ix2 k j')) :=
  congrArg (proj z) (funext fun k => ld_cols X o n inb k j j' hj)

theorem lru_at (h : Vec Ideal S512x1024 .bf16) (X : Vec Ideal S1024x3584 .bf16) (C : Vec Ideal S512x1024 .f32) (wlo : Vec Ideal S1024x1024 .bf16) (hs : Fin 1024 → EReal) (r : Fin 512) (l : Fin 1024) (hC : ∀ i, C (ix2 r i) = hs i) :
    k0_pay43 (F := Ideal) h (View.ld X (Rect.unit (s := S1024x3584) ![0, 0] ![1024, 1024] inb_S1024x3584_S1024x1024_0_0)) C wlo (ix2 r l)
      = ∑ i : Fin 1024, hs i * gelu (proj (fun k => h (ix2 r k)) (fun k => X (ix2 k ⟨i.val, by omega⟩))) * wlo (ix2 i l) := by
  refine (pay43_at _ _ _ _ _ _).trans (Finset.sum_congr rfl fun i _ => ?_)
  rw [hC i]
  exact congrArg (fun z => hs i * gelu z * wlo (ix2 i l)) (proj_cols _ X 0 1024 _ i _ (Nat.zero_add _).symm)

theorem rest_out (C : Vec Ideal S512x1024 .f32) (hs : Fin 1024 → EReal) (r : Fin 512) (l : Fin 1024) (hC : ∀ i, C (ix2 r i) = hs i) :
    k0_pay1 (F := Ideal) (k0_pay40 (iblk m c 3 t)) (k0_pay41 (iblk m c 0 t)) (tH m c t)
      (k0_pay43 (tH m c t) (View.ld (iblk m c 5 t) (Rect.unit (s := S1024x3584) ![0, 0] ![1024, 1024] inb_S1024x3584_S1024x1024_0_0)) C (iblk m c 15 t))
      (tY m c t) (iblk m c 16 t) (View.ld (iblk m c 5 t) (Rect.unit (s := S1024x3584) ![0, 1536] ![1024, 2048] inb_S1024x3584_S1024x2048_0_1536)) (iblk m c 17 t) (ix3 0 r l)
      = tileOut m c t hs r l := by
  refine (pay1_at _ _ _ _ _ _ _ _ r l).trans ?_
  unfold tileOut tZ
  refine mix_of _ _ _ _ _ _ _ _ _ _ _ (pay41_at _ _ _) (pay40_at _ _ _) (fun k => ?_) (fun k => ?_) (fun k => ?_)
  · exact proj_cols _ _ 1536 2048 _ _ _ rfl
  · exact proj_cols _ _ 1536 2048 _ _ _ (by dsimp only; omega)
  · exact lru_at _ _ _ _ _ _ _ hC

/-! ### A later tile, over the carried row -/

theorem outB_carry (h0 : ¬t.val % 8 = 0) (xs : Vec Ideal S1x1024 .f32) (l : Fin 1024) :
    (outB m c t h0 xs).2.2 (ix2 0 l) = recur (rev (tA m c t) l) (rev (tB m c t) l) (xs (ix2 0 l)) 512 := by
  unfold outB got KB runB
  dsimp only
  frame_out
  refine (pay38_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _
  · exact storesB_tile _ _ _ _ _ _ _ _ _
  · rw [read_unread_whole]

theorem outB_last (h0 : ¬t.val % 8 = 0) (xs : Vec Ideal S1x1024 .f32) (l : Fin 1024) :
    (outB m c t h0 xs).2.1 (ix3 0 0 l) = recur (rev (tA m c t) l) (rev (tB m c t) l) (xs (ix2 0 l)) 512 := by
  unfold outB got KB runB
  dsimp only
  frame_out
  refine (pay39_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _
  · exact storesB_tile _ _ _ _ _ _ _ _ _
  · rw [read_unread_whole]

theorem outB_out (h0 : ¬t.val % 8 = 0) (xs : Vec Ideal S1x1024 .f32) (r : Fin 512) (l : Fin 1024) :
    (outB m c t h0 xs).1 (ix3 0 r l)
      = tileOut m c t (fun i => recur (rev (tA m c t) i) (rev (tB m c t) i) (xs (ix2 0 i)) (512 - r.val) + (iblk m c 2 t : Vec Ideal S1x512x1024 .f32) (ix3 0 r i)) r l := by
  unfold outB got KB runB
  dsimp only
  frame_out
  refine rest_out m c t _ _ r l fun i => ?_
  refine (canon_over _ _ _ _ _ sc1.view (View.whole cc0_scratch1).junk _ _).trans ?_
  refine (((loop_at (arg23 := sc1) (tA m c t) (tB m c t) (fun r l => ?_) (fun r l => ?_) (fun l n => tilA_ok _ _ _ _ _ _) 64 le_rfl).2 r i).trans (if_pos (by omega))).trans (congrArg₂ (· + ·) (congrArg (fun z => recur _ _ z _) ?_) ?_)
  · exact storesA_tile _ _ _ _ _ _ _ _
  · exact storesB_tile _ _ _ _ _ _ _ _ _
  · rw [read_unread_whole]
  · rw [Memref.IsWhole.read_unread]

/-! ### A first tile, over the row the sequence starts from -/

theorem outA_carry (h0 : t.val % 8 = 0) (l : Fin 1024) :
    (outA m c t h0).2.2 (ix2 0 l) = recur (rev (tA m c t) l) (rev (tB m c t) l) (iblk m c 10 t (ix3 0 0 l)) 512 := by
  unfold outA got KA runA
  dsimp only
  frame_out
  refine (pay38_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _
  · exact storesB_tile _ _ _ _ _ _ _ _ _
  · exact pay3_at _ _

theorem outA_last (h0 : t.val % 8 = 0) (l : Fin 1024) :
    (outA m c t h0).2.1 (ix3 0 0 l) = recur (rev (tA m c t) l) (rev (tB m c t) l) (iblk m c 10 t (ix3 0 0 l)) 512 := by
  unfold outA got KA runA
  dsimp only
  frame_out
  refine (pay39_at _ _).trans (((loop_at (tA m c t) (tB m c t) (fun r l => ?_) (fun r l => ?_) (fun l n => tilA_ok _ _ _ _ _ _) 64 le_rfl).1 l).trans (congrArg (fun z => recur _ _ z _) ?_))
  · exact storesA_tile _ _ _ _ _ _ _ _
  · exact storesB_tile _ _ _ _ _ _ _ _ _
  · exact pay3_at _ _

theorem outA_out (h0 : t.val % 8 = 0) (r : Fin 512) (l : Fin 1024) :
    (outA m c t h0).1 (ix3 0 r l)
      = tileOut m c t (fun i => recur (rev (tA m c t) i) (rev (tB m c t) i) (iblk m c 10 t (ix3 0 0 i)) (512 - r.val) + (iblk m c 2 t : Vec Ideal S1x512x1024 .f32) (ix3 0 r i)) r l := by
  unfold outA got KA runA
  dsimp only
  frame_out
  refine rest_out m c t _ _ r l fun i => ?_
  refine (canon_over _ _ _ _ _ sc1.view (View.whole cc0_scratch1).junk _ _).trans ?_
  refine (((loop_at (arg23 := sc1) (tA m c t) (tB m c t) (fun r l => ?_) (fun r l => ?_) (fun l n => tilA_ok _ _ _ _ _ _) 64 le_rfl).2 r i).trans (if_pos (by omega))).trans (congrArg₂ (· + ·) (congrArg (fun z => recur _ _ z _) ?_) ?_)
  · exact storesA_tile _ _ _ _ _ _ _ _
  · exact storesB_tile _ _ _ _ _ _ _ _ _
  · exact pay3_at _ _
  · rw [Memref.IsWhole.read_unread]

end Cert.MixerIdeal.Hand
end
-- ==== Proof.MixerTables.lean ====
module

public import proofs.«01_k».proof.Proof.MixerTile
public import proofs.«01_k».proof.Proof.MixerSpec
public import proofs.«01_k».proof.Proof.FrontValue
public import Idealize.ShloMosaic.Lib.StableHlo.RunRead

/-! The arrays the branch-merge call makes before its kernel: the windows' tables, the inverse counts and the packed
gate weights, read at an index. -/

@[expose] public section
set_option maxRecDepth 16384
noncomputable section
namespace Cert.MixerIdeal.Hand
open Cert.MixerIdeal Cert.MixerIdeal.Gen Cert.Rows Idealize.ShloMosaic Idealize.ShloMosaic.TcCoe Idealize.SL.Sem
variable (m : (ℓ : Loc nD τ sig) → Buf (Elt Ideal) ℓ) (c : Dev nD) (t : Fin cfg0.N)

/-- A word clipped between 0 and 64. -/
def clipw (w : BitVec 32) : BitVec 32 := IntOp.minsi 64#32 (IntOp.maxsi 0#32 w)
/-- The bounds of the window about a place. -/
def loW (h : BitVec 32) (w : BitVec 32) : BitVec 32 := clipw (IntOp.subi (IntOp.remsi .host w 64#32) h)
/-- (the window's end) -/
def hiW (h : BitVec 32) (w : BitVec 32) : BitVec 32 := clipw (IntOp.subi (IntOp.addi (IntOp.remsi .host w 64#32) (2#32 * h)) h)
/-- Whether a row's window holds a column, as a word. -/
def memW (h w k : BitVec 32) : BitVec 1 :=
  IntOp.andi (IntOp.andi (IntOp.cmpi .eq (IntOp.divsi .host w 64#32) (IntOp.divsi .host k 64#32)) (IntOp.cmpi .sge (IntOp.remsi .host k 64#32) (loW h w)))
    (IntOp.cmpi .slt (IntOp.remsi .host k 64#32) (hiW h w))

set_option maxHeartbeats 4000000 in
/-- The table of windows as words. -/
theorem pm_read (q : Fin 4) (r k : Fin 512) :
    (V m c main_v125 : Vec Ideal S4x512x512 .bf16) (ix3 q r k) = (FloatOps.uitofp (F := Ideal) .f32 (memW (BitVec.ofNat 32 (2 ^ q.val)) (BitVec.ofNat 32 r.val) (BitVec.ofNat 32 k.val)) : EReal) := by
  obtain rfl | rfl | rfl | rfl : q = 0 ∨ q = 1 ∨ q = 2 ∨ q = 3 := by omega
  all_goals
    unfold V
    simp only [List.flatten_cons, List.flatten_nil, List.append_nil, StableHlo.after_append]
    after_reads_simp
    pointwise
    after_reads_simp
    pointwise
    rfl

set_option maxHeartbeats 4000000 in
/-- The inverse counts as words. -/
theorem pv_read (q : Fin 4) (r : Fin 512) (i : Fin 128) (j : Fin 512) (hj : j.val = 128 * q.val + i.val) :
    (V m c main_v126 : Vec Ideal S512x512 .f32) (ix2 r j)
      = Ideal.div 1 (FloatOps.sitofp (F := Ideal) .f32 (IntOp.subi (hiW (BitVec.ofNat 32 (2 ^ q.val)) (BitVec.ofNat 32 r.val)) (loW (BitVec.ofNat 32 (2 ^ q.val)) (BitVec.ofNat 32 r.val)))) := by
  have hi := i.isLt
  unfold V
  simp only [List.flatten_cons, List.flatten_nil, List.append_nil, StableHlo.after_append]
  after_reads_simp
  pointwise
  after_reads_simp
  pointwise
  obtain rfl | rfl | rfl | rfl : q = 0 ∨ q = 1 ∨ q = 2 ∨ q = 3 := by omega
  · have hj' : j.val = 0 + i.val := hj
    refine (dif_pos (by omega)).trans rfl
  · have hj' : j.val = 128 + i.val := hj
    refine (dif_neg (by omega)).trans ((dif_pos (by omega)).trans rfl)
  · have hj' : j.val = 256 + i.val := hj
    refine (dif_neg (by omega)).trans ((dif_neg (by omega)).trans ((dif_pos (by omega)).trans rfl))
  · have hj' : j.val = 384 + i.val := hj
    refine (dif_neg (by omega)).trans ((dif_neg (by omega)).trans ((dif_neg (by omega)).trans rfl))

/-! ### The words as numbers -/

theorem div64 : ∀ r : Fin 512, IntOp.divsi .host (BitVec.ofNat 32 r.val) 64#32 = BitVec.ofNat 32 (r.val / 64) := by decide +kernel
theorem rem64 : ∀ r : Fin 512, IntOp.remsi .host (BitVec.ofNat 32 r.val) 64#32 = BitVec.ofNat 32 (r.val % 64) := by decide +kernel
theorem eq8 : ∀ a b : Fin 8, IntOp.cmpi .eq (BitVec.ofNat 32 a.val) (BitVec.ofNat 32 b.val) = if b.val = a.val then 1#1 else 0#1 := by decide +kernel

/-- A window's bounds hold a place exactly if it lies in the window. -/
theorem bounds64 : ∀ (q : Fin 4) (a b : Fin 64),
    IntOp.andi (IntOp.cmpi .sge (BitVec.ofNat 32 b.val) (clipw (IntOp.subi (BitVec.ofNat 32 a.val) (BitVec.ofNat 32 (2 ^ q.val)))))
      (IntOp.cmpi .slt (BitVec.ofNat 32 b.val) (clipw (IntOp.subi (IntOp.addi (BitVec.ofNat 32 a.val) (2#32 * BitVec.ofNat 32 (2 ^ q.val))) (BitVec.ofNat 32 (2 ^ q.val)))))
      = if inWin q a.val b.val then 1#1 else 0#1 := by decide +kernel

/-- The bounds' distance is the count. -/
theorem count64 : ∀ (q : Fin 4) (a : Fin 64),
    (IntOp.subi (clipw (IntOp.subi (IntOp.addi (BitVec.ofNat 32 a.val) (2#32 * BitVec.ofNat 32 (2 ^ q.val))) (BitVec.ofNat 32 (2 ^ q.val))))
      (clipw (IntOp.subi (BitVec.ofNat 32 a.val) (BitVec.ofNat 32 (2 ^ q.val))))).toInt = (count q a.val : ℤ) := by decide +kernel

theorem memW_eq (q : Fin 4) (r k : Fin 512) :
    memW (BitVec.ofNat 32 (2 ^ q.val)) (BitVec.ofNat 32 r.val) (BitVec.ofNat 32 k.val) = if k.val / 64 = r.val / 64 ∧ inWin q (r.val % 64) (k.val % 64) then 1#1 else 0#1 := by
  have h1 := eq8 ⟨r.val / 64, by omega⟩ ⟨k.val / 64, by omega⟩
  have h2 := bounds64 q ⟨r.val % 64, by omega⟩ ⟨k.val % 64, by omega⟩
  dsimp only at h1 h2
  unfold memW loW hiW
  rw [div64, div64, rem64, rem64, h1]
  refine (BitVec.and_assoc _ _ _).trans ((congrArg (IntOp.andi _) h2).trans ?_)
  by_cases ha : k.val / 64 = r.val / 64 <;> by_cases hb : inWin q (r.val % 64) (k.val % 64) <;> simp [ha, hb, IntOp.andi]

/-- The table of windows: one where the column is in the row's block and window, zero elsewhere. -/
theorem pm_at (q : Fin 4) (r k : Fin 512) :
    (V m c main_v125 : Vec Ideal S4x512x512 .bf16) (ix3 q r k) = if k.val / 64 = r.val / 64 ∧ inWin q (r.val % 64) (k.val % 64) then (1 : EReal) else 0 := by
  rw [pm_read, memW_eq]
  split
  · show ((1#1).toNat : EReal) = 1
    simp
  · show ((0#1).toNat : EReal) = 0
    simp

/-- The inverse counts. -/
theorem pv_at (q : Fin 4) (r : Fin 512) (i : Fin 128) (j : Fin 512) (hj : j.val = 128 * q.val + i.val) :
    (V m c main_v126 : Vec Ideal S512x512 .f32) (ix2 r j) = Ideal.div 1 ((count q (r.val % 64) : ℝ) : EReal) := by
  rw [pv_read m c q r i j hj]
  unfold loW hiW
  rw [rem64]
  have h := count64 q ⟨r.val % 64, by omega⟩
  dsimp only at h
  refine congrArg (Ideal.div 1) ?_
  show (((IntOp.subi _ _).toInt : ℝ) : EReal) = _
  rw [h, Int.cast_natCast]

/-! ### The gate weights -/

/-- The packed gate weights: the left half holds the first gate's, -/
theorem wg_left (q : Fin 4) (k l : Fin 256) (hd : Fin 16) (hh : hd.val = q.val * 4 + k.val / 64) :
    (V m c main_v151 : Vec Ideal S4x256x512 .bf16) (ix3 q k ⟨l.val, by omega⟩)
      = if k.val / 64 = l.val / 64 then (m ((c.tc : Thread nD τ).loc main_arg6) : Vec Ideal S16x64x64 .f32) (ix3 hd ⟨k.val % 64, by omega⟩ ⟨l.val % 64, by omega⟩) else (0 : EReal) := by
  have e : hd = ⟨q.val * 4 + k.val / 64, by omega⟩ := Fin.ext hh
  rw [e, ← Cert.FrontIdeal.Hand.mul_unit]
  unfold V
  simp only [List.flatten_cons, List.flatten_nil, List.append_nil, StableHlo.after_append]
  after_reads_simp
  pointwise
  after_reads_simp
  pointwise

/-- the right half the second gate's. -/
theorem wg_right (q : Fin 4) (k l : Fin 256) (hd : Fin 16) (hh : hd.val = q.val * 4 + k.val / 64) :
    (V m c main_v151 : Vec Ideal S4x256x512 .bf16) (ix3 q k ⟨256 + l.val, by omega⟩)
      = if k.val / 64 = l.val / 64 then (m ((c.tc : Thread nD τ).loc main_arg8) : Vec Ideal S16x64x64 .f32) (ix3 hd ⟨k.val % 64, by omega⟩ ⟨l.val % 64, by omega⟩) else (0 : EReal) := by
  have e : hd = ⟨q.val * 4 + k.val / 64, by omega⟩ := Fin.ext hh
  rw [e, ← Cert.FrontIdeal.Hand.mul_unit]
  unfold V
  simp only [List.flatten_cons, List.flatten_nil, List.append_nil, StableHlo.after_append]
  after_reads_simp
  pointwise
  after_reads_simp
  pointwise

/-! ### Arrays reshaped or rounded -/

theorem g1_read (l : Fin 1024) :
    (V m c main_v127 : Vec Ideal S1x1024 .f32) (ix2 0 l) = (m ((c.tc : Thread nD τ).loc main_arg4) : Vec Ideal S1024 .f32) (ix1 l) := by
  unfold V
  simp only [List.flatten_cons, List.flatten_nil, List.append_nil, StableHlo.after_append]
  after_reads_simp
  pointwise
theorem br_read (l : Fin 1024) :
    (V m c main_v152 : Vec Ideal S1x1024 .f32) (ix2 0 l) = (m ((c.tc : Thread nD τ).loc main_arg7) : Vec Ideal S1024 .f32) (ix1 l) := by
  unfold V
  simp only [List.flatten_cons, List.flatten_nil, List.append_nil, StableHlo.after_append]
  after_reads_simp
  pointwise
theorem bi_read (l : Fin 1024) :
    (V m c main_v153 : Vec Ideal S1x1024 .f32) (ix2 0 l) = (m ((c.tc : Thread nD τ).loc main_arg9) : Vec Ideal S1024 .f32) (ix1 l) := by
  unfold V
  simp only [List.flatten_cons, List.flatten_nil, List.append_nil, StableHlo.after_append]
  after_reads_simp
  pointwise
theorem lam_read (l : Fin 1024) :
    (V m c main_v154 : Vec Ideal S1x1024 .f32) (ix2 0 l) = (m ((c.tc : Thread nD τ).loc main_arg10) : Vec Ideal S1024 .f32) (ix1 l) := by
  unfold V
  simp only [List.flatten_cons, List.flatten_nil, List.append_nil, StableHlo.after_append]
  after_reads_simp
  pointwise
theorem ps_read (l : Fin 512) :
    (V m c main_v156 : Vec Ideal S1x512 .f32) (ix2 0 l) = (m ((c.tc : Thread nD τ).loc main_arg13) : Vec Ideal S512 .f32) (ix1 l) := by
  unfold V
  simp only [List.flatten_cons, List.flatten_nil, List.append_nil, StableHlo.after_append]
  after_reads_simp
  pointwise
theorem w_read (k : Fin 1024) (j : Fin 3584) :
    (V m c main_v1 : Vec Ideal S1024x3584 .bf16) (ix2 k j) = (m ((c.tc : Thread nD τ).loc main_arg5) : Vec Ideal S1024x4608 .f32) (ix2 k ⟨1024 + j.val, by omega⟩) := by
  unfold V
  simp only [List.flatten_cons, List.flatten_nil, List.append_nil, StableHlo.after_append]
  after_reads_simp
  pointwise
theorem pw_read (q : Fin 4) (i d : Fin 128) :
    (V m c main_v155 : Vec Ideal S4x128x128 .bf16) (ix3 q i d) = (m ((c.tc : Thread nD τ).loc main_arg12) : Vec Ideal S4x128x128 .f32) (ix3 q i d) := by
  unfold V
  simp only [List.flatten_cons, List.flatten_nil, List.append_nil, StableHlo.after_append]
  after_reads_simp
  pointwise
theorem wlo_read (i k : Fin 1024) :
    (V m c main_v157 : Vec Ideal S1024x1024 .bf16) (ix2 i k) = (m ((c.tc : Thread nD τ).loc main_arg14) : Vec Ideal S1024x1024 .f32) (ix2 i k) := by
  unfold V
  simp only [List.flatten_cons, List.flatten_nil, List.append_nil, StableHlo.after_append]
  after_reads_simp
  pointwise
theorem wpo_read (i : Fin 512) (k : Fin 1024) :
    (V m c main_v158 : Vec Ideal S512x1024 .bf16) (ix2 i k) = (m ((c.tc : Thread nD τ).loc main_arg15) : Vec Ideal S512x1024 .f32) (ix2 i k) := by
  unfold V
  simp only [List.flatten_cons, List.flatten_nil, List.append_nil, StableHlo.after_append]
  after_reads_simp
  pointwise
theorem wo_read (i k : Fin 1024) :
    (V m c main_v159 : Vec Ideal S1024x1024 .bf16) (ix2 i k) = (m ((c.tc : Thread nD τ).loc main_arg16) : Vec Ideal S1024x1024 .f32) (ix2 i k) := by
  unfold V
  simp only [List.flatten_cons, List.flatten_nil, List.append_nil, StableHlo.after_append]
  after_reads_simp
  pointwise

end Cert.MixerIdeal.Hand
end
-- ==== Proof.MixerNum.lean ====
module

public import proofs.«01_k».proof.Proof.MixerSpec

/-! Rows of real numbers: a modulated row and its products with real columns are real, so that a difference of such a
number with itself is zero. -/

@[expose] public section
noncomputable section
namespace Cert.Rows
open Idealize.ShloMosaic

/-- A real number among the extended ones. -/
def Num (x : EReal) : Prop := ∃ r : ℝ, x = (r : EReal)

theorem Num.add {x y : EReal} : Num x → Num y → Num (x + y)
  | ⟨a, ha⟩, ⟨b, hb⟩ => ⟨a + b, by rw [ha, hb, EReal.coe_add]⟩
theorem Num.mul {x y : EReal} : Num x → Num y → Num (x * y)
  | ⟨a, ha⟩, ⟨b, hb⟩ => ⟨a * b, by rw [ha, hb, EReal.coe_mul]⟩
theorem Num.sum {n : ℕ} {f : Fin n → EReal} (h : ∀ k, Num (f k)) : Num (∑ k, f k) := by
  choose g hg using h
  refine ⟨∑ k, g k, ?_⟩
  simp only [hg]
  exact (map_sum (⟨⟨fun r : ℝ => (r : EReal), EReal.coe_zero⟩, EReal.coe_add⟩ : ℝ →+ EReal) g Finset.univ).symm
theorem Num.sub_self {x : EReal} : Num x → x - x = 0
  | ⟨a, ha⟩ => by rw [ha, ← EReal.coe_sub, _root_.sub_self, EReal.coe_zero]
theorem Num.one : Num 1 := ⟨1, rfl⟩

/-- The constants of the row's scale. -/
theorem len_num : Ideal.ofBits .f32 1149239296#32 = ((1024 : ℝ) : EReal) := by
  simp [Ideal.ofBits, Ideal.ieee, -EReal.coe_mul]
  norm_num
theorem eps_num : ∃ r : ℝ, 0 < r ∧ Ideal.ofBits .f32 897988541#32 = (r : EReal) := by
  refine ⟨_, ?_, by simp [Ideal.ofBits, Ideal.ieee, -EReal.coe_mul]; rfl⟩
  positivity

/-- A real row's scale is real. -/
theorem rowScale_num {n : ℕ} {x : Fin n → EReal} (hx : ∀ k, Num (x k)) : Num (rowScale x) := by
  choose g hg using hx
  obtain ⟨e, he, hE⟩ := eps_num
  unfold rowScale
  have hs : ∑ l, x l * x l = ((∑ l, g l * g l : ℝ) : EReal) := by
    simp only [hg, ← EReal.coe_mul]
    exact (map_sum (⟨⟨fun r : ℝ => (r : EReal), EReal.coe_zero⟩, EReal.coe_add⟩ : ℝ →+ EReal) (fun l => g l * g l) Finset.univ).symm
  have h0 : 0 ≤ ∑ l, g l * g l := Finset.sum_nonneg fun l _ => mul_self_nonneg (g l)
  have hd : Ideal.div ((∑ l, g l * g l : ℝ) : EReal) ((1024 : ℝ) : EReal) = (((∑ l, g l * g l) / 1024 : ℝ) : EReal) := by
    unfold Ideal.div
    rw [if_neg (EReal.coe_ne_zero.mpr (by norm_num)), ← EReal.coe_inv, ← EReal.coe_mul, div_eq_mul_inv]
  rw [hs, len_num, hd, hE, ← EReal.coe_add]
  have hp : 0 < (∑ l, g l * g l) / 1024 + e := by positivity
  refine ⟨(Real.sqrt ((∑ l, g l * g l) / 1024 + e))⁻¹, ?_⟩
  show (if _ < _ then _ else if _ = _ then _ else _) = _
  rw [if_neg (not_lt.mpr hp.le), if_neg hp.ne']

/-- A modulated real row is real. -/
theorem modRow_num {n : ℕ} {x g a b : Fin n → EReal} (hx : ∀ k, Num (x k)) (hg : ∀ k, Num (g k)) (ha : ∀ k, Num (a k)) (hb : ∀ k, Num (b k)) (l : Fin n) :
    Num (modRow x g a b l) := by
  unfold modRow normRow
  exact ((((hx l).mul (rowScale_num hx)).mul (hg l)).mul (Num.one.add (ha l))).add (hb l)

/-- A real row's product with a real column is real. -/
theorem proj_num {n : ℕ} {x w : Fin n → EReal} (hx : ∀ k, Num (x k)) (hw : ∀ k, Num (w k)) : Num (proj x w) :=
  Num.sum fun k => (hx k).mul (hw k)

end Cert.Rows
end
-- ==== Proof.MixerValue.lean ====
module

public import proofs.«01_k».proof.Proof.MixerTables
public import proofs.«01_k».proof.Proof.MixerNum

/-! The branch-merge kernel's tiles: its blocks as the layer's inputs, the tiles joined along each sequence from the last
token back, and the row each point writes. -/

@[expose] public section
set_option maxRecDepth 16384
noncomputable section
namespace Cert.MixerIdeal.Hand
open Cert.MixerIdeal Cert.MixerIdeal.Gen Cert.Rows Idealize.ShloMosaic Idealize.ShloMosaic.TcCoe Idealize.SL.Sem
open Cert.FrontIdeal.Hand (lane grp plc lane_grp wgq facA facB tilA tilB gR gI gA gB mod_congr)

variable (m : (ℓ : Loc nD τ sig) → Buf (Elt Ideal) ℓ)

/-! ## The blocks at a point -/

/-- The windows' block indices at a point: batch `t / 8`, and the tiles from the last to the first. -/
theorem idx : ∀ t : Fin cfg0.N, win0_0.index t = ![t.val / 8, 7 - t.val % 8, 0] ∧ win0_1.index t = ![t.val / 8, 7 - t.val % 8, 0]
    ∧ win0_2.index t = ![t.val / 8, 7 - t.val % 8, 0] ∧ win0_3.index t = ![t.val / 8, 0, 0] ∧ win0_4.index t = ![0, 0]
    ∧ win0_5.index t = ![0, 0] ∧ win0_6.index t = ![0, 0, 0] ∧ win0_7.index t = ![0, 0] ∧ win0_8.index t = ![0, 0] ∧ win0_9.index t = ![0, 0]
    ∧ win0_10.index t = ![t.val / 8, 0, 0] ∧ win0_11.index t = ![0, 0, 0] ∧ win0_12.index t = ![0, 0] ∧ win0_13.index t = ![0, 0, 0]
    ∧ win0_14.index t = ![0, 0] ∧ win0_15.index t = ![0, 0] ∧ win0_16.index t = ![0, 0] ∧ win0_17.index t = ![0, 0]
    ∧ win0_18.index t = ![t.val / 8, 7 - t.val % 8, 0] ∧ win0_19.index t = ![t.val / 8, 0, 0] :=
  (by decide +kernel : ∀ t : Fin grid0.N, _)

/-! What each window's block holds. -/

theorem blk0 (c : Dev nD) (t : Fin cfg0.N) (r : Fin 512) (l : Fin 1024) (b : Fin 4) (s : Fin 4096) (hb : b.val = t.val / 8) (hs : s.val = (7 - t.val % 8) * 512 + r.val) :
    (iblk m c 0 t : Vec Ideal S1x512x1024 .f32) (ix3 0 r l) = m ((c.tc : Thread nD τ).loc main_arg0) (ix3 b s l) := by
  refine Eq.trans ?_ (congrFun (V_main_arg0 m c) _)
  blk_ext [iblk, idx t]
theorem blk1 (c : Dev nD) (t : Fin cfg0.N) (r : Fin 512) (l : Fin 1024) (b : Fin 4) (s : Fin 4096) (hb : b.val = t.val / 8) (hs : s.val = (7 - t.val % 8) * 512 + r.val) :
    (iblk m c 1 t : Vec Ideal S1x512x1024 .f32) (ix3 0 r l) = m ((c.tc : Thread nD τ).loc main_arg1) (ix3 b s l) := by
  refine Eq.trans ?_ (congrFun (V_main_arg1 m c) _)
  blk_ext [iblk, idx t]
theorem blk2 (c : Dev nD) (t : Fin cfg0.N) (r : Fin 512) (l : Fin 1024) (b : Fin 4) (s : Fin 4096) (hb : b.val = t.val / 8) (hs : s.val = (7 - t.val % 8) * 512 + r.val) :
    (iblk m c 2 t : Vec Ideal S1x512x1024 .f32) (ix3 0 r l) = m ((c.tc : Thread nD τ).loc main_arg2) (ix3 b s l) := by
  refine Eq.trans ?_ (congrFun (V_main_arg2 m c) _)
  blk_ext [iblk, idx t]
theorem blk3 (c : Dev nD) (t : Fin cfg0.N) (k : Fin 6) (l : Fin 1024) (b : Fin 8) (hb : b.val = t.val / 8) :
    (iblk m c 3 t : Vec Ideal S1x6x1024 .f32) (ix3 0 k l) = m ((c.tc : Thread nD τ).loc main_arg3) (ix3 b k l) := by
  refine Eq.trans ?_ (congrFun (V_main_arg3 m c) _)
  blk_ext [iblk, idx t]
theorem blk10 (c : Dev nD) (t : Fin cfg0.N) (l : Fin 1024) (b : Fin 4) (hb : b.val = t.val / 8) :
    (iblk m c 10 t : Vec Ideal S1x1x1024 .f32) (ix3 0 0 l) = m ((c.tc : Thread nD τ).loc main_arg11) (ix3 b 0 l) := by
  refine Eq.trans ?_ (congrFun (V_main_arg11 m c) _)
  blk_ext [iblk, idx t]
theorem blk4 (c : Dev nD) (t : Fin cfg0.N) (l : Fin 1024) :
    (iblk m c 4 t : Vec Ideal S1x1024 .f32) (ix2 0 l) = (V m c main_v127 : Vec Ideal S1x1024 .f32) (ix2 0 l) := by
  blk_ext [iblk, idx t]
theorem blk5 (c : Dev nD) (t : Fin cfg0.N) (k : Fin 1024) (j : Fin 3584) :
    (iblk m c 5 t : Vec Ideal S1024x3584 .bf16) (ix2 k j) = (V m c main_v1 : Vec Ideal S1024x3584 .bf16) (ix2 k j) := by
  blk_ext [iblk, idx t]
theorem blk6 (c : Dev nD) (t : Fin cfg0.N) (q : Fin 4) (k : Fin 256) (l : Fin 512) :
    (iblk m c 6 t : Vec Ideal S4x256x512 .bf16) (ix3 q k l) = (V m c main_v151 : Vec Ideal S4x256x512 .bf16) (ix3 q k l) := by
  blk_ext [iblk, idx t]
theorem blk7 (c : Dev nD) (t : Fin cfg0.N) (l : Fin 1024) :
    (iblk m c 7 t : Vec Ideal S1x1024 .f32) (ix2 0 l) = (V m c main_v152 : Vec Ideal S1x1024 .f32) (ix2 0 l) := by
  blk_ext [iblk, idx t]
theorem blk8 (c : Dev nD) (t : Fin cfg0.N) (l : Fin 1024) :
    (iblk m c 8 t : Vec Ideal S1x1024 .f32) (ix2 0 l) = (V m c main_v153 : Vec Ideal S1x1024 .f32) (ix2 0 l) := by
  blk_ext [iblk, idx t]
theorem blk9 (c : Dev nD) (t : Fin cfg0.N) (l : Fin 1024) :
    (iblk m c 9 t : Vec Ideal S1x1024 .f32) (ix2 0 l) = (V m c main_v154 : Vec Ideal S1x1024 .f32) (ix2 0 l) := by
  blk_ext [iblk, idx t]
theorem blk11 (c : Dev nD) (t : Fin cfg0.N) (q : Fin 4) (r k : Fin 512) :
    (iblk m c 11 t : Vec Ideal S4x512x512 .bf16) (ix3 q r k) = (V m c main_v125 : Vec Ideal S4x512x512 .bf16) (ix3 q r k) := by
  blk_ext [iblk, idx t]
theorem blk12 (c : Dev nD) (t : Fin cfg0.N) (r j : Fin 512) :
    (iblk m c 12 t : Vec Ideal S512x512 .f32) (ix2 r j) = (V m c main_v126 : Vec Ideal S512x512 .f32) (ix2 r j) := by
  blk_ext [iblk, idx t]
theorem blk13 (c : Dev nD) (t : Fin cfg0.N) (q : Fin 4) (i d : Fin 128) :
    (iblk m c 13 t : Vec Ideal S4x128x128 .bf16) (ix3 q i d) = (V m c main_v155 : Vec Ideal S4x128x128 .bf16) (ix3 q i d) := by
  blk_ext [iblk, idx t]
theorem blk14 (c : Dev nD) (t : Fin cfg0.N) (l : Fin 512) :
    (iblk m c 14 t : Vec Ideal S1x512 .f32) (ix2 0 l) = (V m c main_v156 : Vec Ideal S1x512 .f32) (ix2 0 l) := by
  blk_ext [iblk, idx t]
theorem blk15 (c : Dev nD) (t : Fin cfg0.N) (i k : Fin 1024) :
    (iblk m c 15 t : Vec Ideal S1024x1024 .bf16) (ix2 i k) = (V m c main_v157 : Vec Ideal S1024x1024 .bf16) (ix2 i k) := by
  blk_ext [iblk, idx t]
theorem blk16 (c : Dev nD) (t : Fin cfg0.N) (i : Fin 512) (k : Fin 1024) :
    (iblk m c 16 t : Vec Ideal S512x1024 .bf16) (ix2 i k) = (V m c main_v158 : Vec Ideal S512x1024 .bf16) (ix2 i k) := by
  blk_ext [iblk, idx t]
theorem blk17 (c : Dev nD) (t : Fin cfg0.N) (i k : Fin 1024) :
    (iblk m c 17 t : Vec Ideal S1024x1024 .bf16) (ix2 i k) = (V m c main_v159 : Vec Ideal S1024x1024 .bf16) (ix2 i k) := by
  blk_ext [iblk, idx t]

/-! ## The layer's inputs for a batch entry -/

/-- The inputs of batch entry `b`. -/
def inp (c : Dev nD) (b : Fin 4) : MixIn where
  X s l := (m ((c.tc : Thread nD τ).loc main_arg0) : Vec Ideal S4x4096x1024 .f32) (ix3 b s l)
  uc s l := (m ((c.tc : Thread nD τ).loc main_arg1) : Vec Ideal S4x4096x1024 .f32) (ix3 b s l)
  hf s l := (m ((c.tc : Thread nD τ).loc main_arg2) : Vec Ideal S4x4096x1024 .f32) (ix3 b s l)
  M k l := (m ((c.tc : Thread nD τ).loc main_arg3) : Vec Ideal S8x6x1024 .f32) (ix3 ⟨b.val, by omega⟩ k l)
  G l := (m ((c.tc : Thread nD τ).loc main_arg4) : Vec Ideal S1024 .f32) (ix1 l)
  W k l := (m ((c.tc : Thread nD τ).loc main_arg5) : Vec Ideal S1024x4608 .f32) (ix2 k l)
  wr h k l := (m ((c.tc : Thread nD τ).loc main_arg6) : Vec Ideal S16x64x64 .f32) (ix3 h k l)
  br l := (m ((c.tc : Thread nD τ).loc main_arg7) : Vec Ideal S1024 .f32) (ix1 l)
  wi h k l := (m ((c.tc : Thread nD τ).loc main_arg8) : Vec Ideal S16x64x64 .f32) (ix3 h k l)
  bi l := (m ((c.tc : Thread nD τ).loc main_arg9) : Vec Ideal S1024 .f32) (ix1 l)
  lam l := (m ((c.tc : Thread nD τ).loc main_arg10) : Vec Ideal S1024 .f32) (ix1 l)
  h0 l := (m ((c.tc : Thread nD τ).loc main_arg11) : Vec Ideal S4x1x1024 .f32) (ix3 b 0 l)
  pw q i d := (m ((c.tc : Thread nD τ).loc main_arg12) : Vec Ideal S4x128x128 .f32) (ix3 q i d)
  ps j := (m ((c.tc : Thread nD τ).loc main_arg13) : Vec Ideal S512 .f32) (ix1 j)
  wlo i k := (m ((c.tc : Thread nD τ).loc main_arg14) : Vec Ideal S1024x1024 .f32) (ix2 i k)
  wpo i k := (m ((c.tc : Thread nD τ).loc main_arg15) : Vec Ideal S512x1024 .f32) (ix2 i k)
  wo i k := (m ((c.tc : Thread nD τ).loc main_arg16) : Vec Ideal S1024x1024 .f32) (ix2 i k)

variable (c : Dev nD) (t : Fin cfg0.N)

/-- The batch entry of a point, and the token of a tile's row. -/
def ptB : Fin 4 := ⟨t.val / 8, by have := lt_of_lt_of_eq t.isLt N_0; omega⟩
abbrev ptI : MixIn := inp m c (ptB t)
def row (r : Fin 512) : Fin 4096 := ⟨(7 - t.val % 8) * 512 + r.val, by omega⟩

/-! ## The recurrence -/

theorem uc_row (r : Fin 512) (l : Fin 1024) : k0_pay4 (F := Ideal) (iblk m c 1 t) (ix2 r l) = (ptI m c t).uc (row t r) l :=
  (pay4_at _ r l).trans (blk1 m c t r l (ptB t) (row t r) rfl rfl)

/-- Two conditionals that agree where they take their first value. -/
theorem if_congr_of {p : Prop} [Decidable p] {a b d : EReal} (h : p → a = b) : (if p then a else d) = if p then b else d := by
  split
  · exact h ‹_›
  · rfl

/-- A sum against a group's weights is the sum over the lane's own head. -/
theorem gate_sum (r : Fin 512) (l : Fin 1024) (w : Fin 256 → EReal) (W : Fin 16 → Fin 64 → Fin 64 → EReal)
    (hw : ∀ (k : Fin 256) (hd : Fin 16), hd.val = (grp l).val * 4 + k.val / 64 →
      w k = if k.val / 64 = (plc l).val / 64 then W hd ⟨k.val % 64, by omega⟩ ⟨(plc l).val % 64, by omega⟩ else 0) :
    ∑ k : Fin 256, k0_pay4 (F := Ideal) (iblk m c 1 t) (ix2 r (lane (grp l) k)) * w k
      = ∑ k : Fin 64, (ptI m c t).uc (row t r) (FrontIn.mate l k) * W (FrontIn.head l) k (FrontIn.place l) := by
  have hg : (grp l).val = l.val / 256 := rfl
  have hp : (plc l).val = l.val % 256 := rfl
  have e1 : ∀ (k : Fin 256), k.val / 64 = (plc l).val / 64 → (⟨(grp l).val * 4 + k.val / 64, by omega⟩ : Fin 16) = FrontIn.head l :=
    fun k hk => Fin.ext (by show _ = l.val / 64; dsimp only; omega)
  have e2 : (⟨(plc l).val % 64, by omega⟩ : Fin 64) = FrontIn.place l := Fin.ext (by show (plc l).val % 64 = l.val % 64; omega)
  have e3 : ∀ k : Fin 64, lane (grp l) ⟨64 * ((plc l).val / 64) + k.val, by omega⟩ = FrontIn.mate l k := fun k =>
    Fin.ext (by show 256 * (grp l).val + (64 * ((plc l).val / 64) + k.val) = 64 * (l.val / 64) + k.val; omega)
  rw [Finset.sum_congr rfl fun k _ => congrArg (k0_pay4 (F := Ideal) (iblk m c 1 t) (ix2 r (lane (grp l) k)) * ·) ((hw k ⟨(grp l).val * 4 + k.val / 64, by omega⟩ rfl).trans
    (if_congr_of (fun hk => by rw [e1 k hk, e2])))]
  refine (sum_block (fun k => k0_pay4 (F := Ideal) (iblk m c 1 t) (ix2 r (lane (grp l) k))) (fun k => W (FrontIn.head l) k (FrontIn.place l)) ⟨(plc l).val / 64, by omega⟩).trans ?_
  refine Finset.sum_congr rfl fun k _ => congrArg (· * _) ?_
  rw [← uc_row]
  exact congrArg (fun z => k0_pay4 (F := Ideal) (iblk m c 1 t) (ix2 r z)) (e3 k)

/-- The first gate of a tile is the batch entry's, -/
theorem gR_row (r : Fin 512) (l : Fin 1024) :
    gR (k0_pay4 (F := Ideal) (iblk m c 1 t)) (iblk m c 7 t) (wgq (iblk m c 6 t) (grp l)) r (plc l) (grp l) = (ptI m c t).GR (row t r) l := by
  unfold gR MixIn.GR gate
  rw [lane_grp]
  refine congrArg₂ (fun z w => Ideal.logistic (z + w)) ?_ ((blk7 m c t l).trans (br_read m c l))
  exact gate_sum m c t r l _ _ fun k hd hh => (blk6 m c t (grp l) k _).trans (wg_left m c (grp l) k (plc l) hd hh)

/-- and the second. -/
theorem gI_row (r : Fin 512) (l : Fin 1024) :
    gI (k0_pay4 (F := Ideal) (iblk m c 1 t)) (iblk m c 8 t) (wgq (iblk m c 6 t) (grp l)) r (plc l) (grp l) = (ptI m c t).GI (row t r) l := by
  unfold gI MixIn.GI gate
  rw [lane_grp]
  refine congrArg₂ (fun z w => Ideal.logistic (z + w)) ?_ ((blk8 m c t l).trans (bi_read m c l))
  exact gate_sum m c t r l _ _ fun k hd hh => (blk6 m c t (grp l) k _).trans (wg_right m c (grp l) k (plc l) hd hh)

theorem lam_row (l : Fin 1024) : (iblk m c 9 t : Vec Ideal S1x1024 .f32) (ix2 0 l) = (ptI m c t).lam l := (blk9 m c t l).trans (lam_read m c l)

/-- The tile's factors are the batch entry's, -/
theorem tA_row (l : Fin 1024) (r : Fin 512) : tA m c t l r.val = (ptI m c t).FA (row t r) l := by
  unfold tA tilA facA gA MixIn.FA
  rw [dif_pos r.isLt, gR_row, Cert.FrontIdeal.Hand.pay14_at, lane_grp, lam_row]

/-- and its inputs. -/
theorem tB_row (l : Fin 1024) (r : Fin 512) : tB m c t l r.val = (ptI m c t).FB (row t r) l := by
  unfold tB tilB facB gB MixIn.FB
  rw [dif_pos r.isLt, gR_row, gI_row, Cert.FrontIdeal.Hand.pay14_at, lane_grp, lam_row, uc_row]

/-- A step of the tile takes in the token of the sequence's step. -/
theorem row_tok (n : ℕ) (hn : n < 512) : row t ⟨511 - n, by omega⟩ = MixIn.tok (t.val % 8 * 512 + n) :=
  Fin.ext (by show (7 - t.val % 8) * 512 + (511 - n) = 4095 - (t.val % 8 * 512 + n); omega)

/-- A tile's recurrence from the state it starts with is the batch entry's state. -/
theorem recur_tile (l : Fin 1024) (n : ℕ) (hn : n ≤ 512) (x : EReal) (hx : x = (ptI m c t).H (t.val % 8 * 512) l) :
    recur (rev (tA m c t) l) (rev (tB m c t) l) x n = (ptI m c t).H (t.val % 8 * 512 + n) l := by
  unfold MixIn.H
  rw [hx]
  unfold MixIn.H
  rw [recur_add]
  refine recur_congr _ n (fun i hi => ?_) (fun i hi => ?_)
  · exact (tA_row m c t l ⟨511 - i, by omega⟩).trans (by rw [row_tok t i (by omega)])
  · exact (tB_row m c t l ⟨511 - i, by omega⟩).trans (by rw [row_tok t i (by omega)])

/-- The state a first tile starts from. -/
theorem start_A (h0 : t.val % 8 = 0) (l : Fin 1024) : (iblk m c 10 t : Vec Ideal S1x1x1024 .f32) (ix3 0 0 l) = (ptI m c t).H (t.val % 8 * 512) l := by
  rw [h0, blk10 m c t l (ptB t) rfl]
  rfl

/-- After point `n` the carried row is the batch entry's state there. -/
theorem carry_at : ∀ (n : ℕ) (hn : n < cfg0.N) (l : Fin 1024),
    (outsAt0 m c n hn).2.2 (ix2 0 l) = (ptI m c ⟨n, hn⟩).H (n % 8 * 512 + 512) l := by
  intro n
  induction n with
  | zero =>
    intro hn l
    rw [outsAt0_A m c ⟨0, hn⟩ (Nat.zero_mod _), outA_carry]
    exact recur_tile m c ⟨0, hn⟩ l 512 le_rfl _ (start_A m c _ (Nat.zero_mod _) l)
  | succ n ih =>
    intro hn l
    by_cases h0 : (n + 1) % 8 = 0
    · rw [outsAt0_A m c ⟨n + 1, hn⟩ h0, outA_carry]
      exact recur_tile m c ⟨n + 1, hn⟩ l 512 le_rfl _ (start_A m c _ h0 l)
    · rw [outsAt0_B m c ⟨n + 1, hn⟩ h0, outB_carry]
      refine recur_tile m c ⟨n + 1, hn⟩ l 512 le_rfl _ ((ih (by omega) l).trans ?_)
      have eb : ptB ⟨n, by omega⟩ = ptB ⟨n + 1, hn⟩ := Fin.ext (by show n / 8 = (n + 1) / 8; omega)
      have en : n % 8 * 512 + 512 = (n + 1) % 8 * 512 := by omega
      unfold ptI
      rw [eb, en]

/-- The state a later tile starts from. -/
theorem start_B (h0 : ¬t.val % 8 = 0) (l : Fin 1024) (hp : t.val - 1 < cfg0.N) :
    (outsAt0 m c (t.val - 1) hp).2.2 (ix2 0 l) = (ptI m c t).H (t.val % 8 * 512) l := by
  rw [carry_at]
  have eb : ptB ⟨t.val - 1, hp⟩ = ptB t := Fin.ext (by show (t.val - 1) / 8 = t.val / 8; omega)
  have en : (t.val - 1) % 8 * 512 + 512 = t.val % 8 * 512 := by omega
  unfold ptI
  rw [eb, en]

/-! ## The projection and the pooled channels -/

theorem tH_row (r : Fin 512) (k : Fin 1024) : tH m c t (ix2 r k) = modRow ((ptI m c t).X (row t r)) (ptI m c t).G ((ptI m c t).M 1) ((ptI m c t).M 0) k :=
  (pay42_at _ _ _ r k).trans (mod_congr k (fun l => blk0 m c t r l (ptB t) (row t r) rfl rfl) (fun l => (blk4 m c t l).trans (g1_read m c l)) (fun l => blk3 m c t 1 l _ rfl) (fun l => blk3 m c t 0 l _ rfl))

theorem tZ_row (r : Fin 512) (j : Fin 3584) (j' : Fin 4608) (hj : j'.val = 1024 + j.val) : tZ m c t r j = (ptI m c t).Z (row t r) j' := by
  have e : j' = ⟨1024 + j.val, by omega⟩ := Fin.ext hj
  rw [e]
  unfold tZ MixIn.Z
  exact congrArg₂ proj (funext fun k => tH_row m c t r k) (funext fun k => (blk5 m c t k j).trans (w_read m c k j))

theorem tP_row (r j : Fin 512) : tP m c t (ix2 r j) = (ptI m c t).P (row t r) j := by
  refine (pay44_at _ r _ j).trans ?_
  refine (proj_cols (fun k => tH m c t (ix2 r k)) _ 1024 512 _ j ⟨1024 + j.val, by omega⟩ rfl).trans ?_
  exact tZ_row m c t r ⟨1024 + j.val, by omega⟩ ⟨2048 + j.val, by omega⟩ (by dsimp only; omega)

/-- Real rows, modulation, gain and weights. -/
def Real4 (I : MixIn) : Prop := (∀ s l, Num (I.X s l)) ∧ (∀ k l, Num (I.M k l)) ∧ (∀ l, Num (I.G l)) ∧ ∀ k j, Num (I.W k j)

theorem P_num {I : MixIn} (h : Real4 I) (s : Fin 4096) (j : Fin 512) : Num (I.P s j) :=
  proj_num (modRow_num (h.1 s) h.2.2.1 (h.2.1 1) (h.2.1 0)) fun k => h.2.2.2 k _

/-- What is left of the projection after rounding is nothing. -/
theorem tL_row (h : Real4 (ptI m c t)) (r j : Fin 512) : k0_pay46 (F := Ideal) (tH m c t) (tW m c t) (ix2 r j) = 0 := by
  refine (pay46_at _ r _ j).trans ?_
  rw [show k0_pay44 (F := Ideal) (tH m c t) (tW m c t) (ix2 r j) = (ptI m c t).P (row t r) j from tP_row m c t r j]
  exact (P_num h _ _).sub_self

/-- A group's table, inverse counts and map, loaded. -/
theorem ldm_at (q : Fin 4) (inb) (r k : Fin 512) : ldm m c t q inb (ix3 0 r k) = if k.val / 64 = r.val / 64 ∧ inWin q (r.val % 64) (k.val % 64) then (1 : EReal) else 0 := by
  refine Eq.trans (congrArg (iblk m c 11 t : Vec Ideal S4x512x512 .bf16) (funext fun a => Fin.ext ?_)) ((blk11 m c t q r k).trans (pm_at m c q r k))
  fin_cases a
  · show q.val + 1 * 0 = q.val
    omega
  · show 0 + 1 * r.val = r.val
    omega
  · show 0 + 1 * k.val = k.val
    omega

theorem ldv_at (q : Fin 4) (o : ℕ) (ho : o = 128 * q.val) (inb) (r : Fin 512) (i : Fin 128) : ldv m c t o inb (ix2 r i) = Ideal.div 1 ((count q (r.val % 64) : ℝ) : EReal) := by
  refine Eq.trans (congrArg (iblk m c 12 t : Vec Ideal S512x512 .f32) (funext fun a => Fin.ext ?_)) ((blk12 m c t r ⟨128 * q.val + i.val, by omega⟩).trans (pv_at m c q r i _ rfl))
  fin_cases a
  · show 0 + 1 * r.val = r.val
    omega
  · show o + 1 * i.val = 128 * q.val + i.val
    omega

theorem ldp_at (q : Fin 4) (inb) (i d : Fin 128) : ldp m c t q inb (ix3 0 i d) = (ptI m c t).pw q i d := by
  refine Eq.trans (congrArg (iblk m c 13 t : Vec Ideal S4x128x128 .bf16) (funext fun a => Fin.ext ?_)) ((blk13 m c t q i d).trans (pw_read m c q i d))
  fin_cases a
  · show q.val + 1 * 0 = q.val
    omega
  · show 0 + 1 * i.val = i.val
    omega
  · show 0 + 1 * d.val = d.val
    omega

/-- A group's sum over the windows of a row. -/
theorem win_sum (q : Fin 4) (r j : Fin 512) (H : Vec Ideal S512x512 .bf16) (hH : ∀ r j, H (ix2 r j) = (ptI m c t).P (row t r) j)
    (pm : Vec Ideal S1x512x512 .bf16) (hpm : ∀ r k, pm (ix3 0 r k) = if k.val / 64 = r.val / 64 ∧ inWin q (r.val % 64) (k.val % 64) then (1 : EReal) else 0) :
    ∑ k : Fin 512, pm (ix3 0 r k) * H (ix2 k j) = (ptI m c t).S q (row t r) j := by
  simp only [hH, hpm]
  refine (sum_block8 (fun k => (ptI m c t).P (row t k) j) (inWin q (r.val % 64)) ⟨r.val / 64, by omega⟩).trans ?_
  have e1 : (row t r).val % 64 = r.val % 64 := by show ((7 - t.val % 8) * 512 + r.val) % 64 = _; omega
  have e2 : (row t r).val / 64 = (7 - t.val % 8) * 8 + r.val / 64 := by show ((7 - t.val % 8) * 512 + r.val) / 64 = _; omega
  unfold MixIn.S
  refine Finset.sum_congr rfl fun k _ => ?_
  rw [e1]
  have e3 : row t ⟨64 * (r.val / 64) + k.val, by omega⟩ = ⟨64 * ((row t r).val / 64) + k.val, by omega⟩ :=
    Fin.ext (by show (7 - t.val % 8) * 512 + (64 * (r.val / 64) + k.val) = 64 * ((row t r).val / 64) + k.val; omega)
  dsimp only
  rw [e3]

/-- A pooled channel of a group. -/
theorem pooled_row (h : Real4 (ptI m c t)) (q : Fin 4) (pm : Vec Ideal S1x512x512 .bf16) (pv : Vec Ideal S512x128 .f32) (pw : Vec Ideal S1x128x128 .bf16)
    (hpm : ∀ r k, pm (ix3 0 r k) = if k.val / 64 = r.val / 64 ∧ inWin q (r.val % 64) (k.val % 64) then (1 : EReal) else 0)
    (hpv : ∀ r i, pv (ix2 r i) = Ideal.div 1 ((count q (r.val % 64) : ℝ) : EReal)) (hpw : ∀ i d, pw (ix3 0 i d) = (ptI m c t).pw q i d)
    (r j : Fin 512) (d : Fin 128) (hj : j.val = 128 * q.val + d.val) :
    pooled (k0_pay44 (tH m c t) (tW m c t)) (k0_pay45 (tH m c t) (tW m c t)) (k0_pay46 (tH m c t) (tW m c t)) q pm pv pw r d * (iblk m c 14 t : Vec Ideal S1x512 .f32) (ix2 0 j)
      = (ptI m c t).Y (row t r) j := by
  have eq : cgrp j = q := Fin.ext (by show j.val / 128 = q.val; omega)
  have ed : cplc j = d := Fin.ext (by show j.val % 128 = d.val; omega)
  have er : (row t r).val % 64 = r.val % 64 := by show ((7 - t.val % 8) * 512 + r.val) % 64 = _; omega
  unfold pooled MixIn.Y poolOut
  rw [eq, ed, er]
  refine congrArg₂ (· * ·) (Finset.sum_congr rfl fun i _ => ?_) ((blk14 m c t j).trans (ps_read m c j))
  rw [win_sum m c t q r (chan q i) _ (fun r j => (pay45_at _ r _ j).trans (tP_row m c t r j)) pm hpm, hpv, hpw]
  rw [show k0_pay44 (F := Ideal) (tH m c t) (tW m c t) (ix2 r (chan q i)) = (ptI m c t).P (row t r) (chan q i) from tP_row m c t r _]
  have hz : ∑ k : Fin 512, pm (ix3 0 r k) * k0_pay46 (F := Ideal) (tH m c t) (tW m c t) (ix2 k (chan q i)) = 0 :=
    Finset.sum_eq_zero fun k _ => by rw [tL_row m c t h, mul_zero]
  rw [hz, add_zero, ← div_real _ _ (by exact_mod_cast (count_pos q (r.val % 64) (by omega)).ne')]

/-- The pooling branch's row. -/
theorem tY_row (h : Real4 (ptI m c t)) (r j : Fin 512) : tY m c t (ix2 r j) = (ptI m c t).Y (row t r) j := by
  unfold tY
  refine (pay52_at _ _ _ _ _ _ _ _ _ _ _ _ r j).trans ?_
  by_cases h1 : j.val < 128
  · rw [dif_pos h1, pay49_at]
    exact pooled_row m c t h 0 _ _ _ (ldm_at m c t 0 _) (ldv_at m c t 0 0 rfl _) (ldp_at m c t 0 _) r j _ (Nat.zero_add _).symm
  rw [dif_neg h1]
  by_cases h2 : j.val - 128 < 128
  · rw [dif_pos h2, pay50_at]
    exact pooled_row m c t h 1 _ _ _ (ldm_at m c t 1 _) (ldv_at m c t 1 128 rfl _) (ldp_at m c t 1 _) r j _ (by show j.val = 128 + (j.val - 128); omega)
  rw [dif_neg h2]
  by_cases h3 : j.val - 128 - 128 < 128
  · rw [dif_pos h3]
    exact pooled_row m c t h 2 _ _ _ (ldm_at m c t 2 _) (ldv_at m c t 2 256 rfl _) (ldp_at m c t 2 _) r j _ (by show j.val = 256 + (j.val - 128 - 128); omega)
  rw [dif_neg h3]
  exact pooled_row m c t h 3 _ _ _ (ldm_at m c t 3 _) (ldv_at m c t 3 384 rfl _) (ldp_at m c t 3 _) r j _ (by show j.val = 384 + (j.val - 128 - 128 - 128); omega)

/-- The stored row is the layer's. -/
theorem tile_row (h : Real4 (ptI m c t)) (hs : Fin 1024 → EReal) (r : Fin 512) (l : Fin 1024) (hh : ∀ i, hs i = (ptI m c t).HS (row t r) i) :
    tileOut m c t hs r l = (ptI m c t).out (row t r) l := by
  obtain rfl := funext hh
  unfold tileOut MixIn.out
  have e0 : (fun i : Fin 1024 => tZ m c t r ⟨i.val, by omega⟩) = fun i => (ptI m c t).Z (row t r) ⟨1024 + i.val, by omega⟩ := funext fun i => tZ_row m c t r _ _ rfl
  have e1 : (fun k : Fin 1024 => tZ m c t r ⟨1536 + k.val, by omega⟩) = fun k => (ptI m c t).Z (row t r) ⟨2560 + k.val, by omega⟩ := funext fun k => tZ_row m c t r _ _ (by dsimp only; omega)
  have e2 : (fun k : Fin 1024 => tZ m c t r ⟨2560 + k.val, by omega⟩) = fun k => (ptI m c t).Z (row t r) ⟨3584 + k.val, by omega⟩ := funext fun k => tZ_row m c t r _ _ (by dsimp only; omega)
  have e3 : (fun j : Fin 512 => tY m c t (ix2 r j)) = (ptI m c t).Y (row t r) := funext fun j => tY_row m c t h r j
  have e4 : (fun i k : Fin 1024 => (iblk m c 15 t : Vec Ideal S1024x1024 .bf16) (ix2 i k)) = (ptI m c t).wlo := funext fun i => funext fun k => (blk15 m c t i k).trans (wlo_read m c i k)
  have e5 : (fun (j : Fin 512) (k : Fin 1024) => (iblk m c 16 t : Vec Ideal S512x1024 .bf16) (ix2 j k)) = (ptI m c t).wpo := funext fun i => funext fun k => (blk16 m c t i k).trans (wpo_read m c i k)
  have e6 : (fun k : Fin 1024 => (iblk m c 17 t : Vec Ideal S1024x1024 .bf16) (ix2 k l)) = fun k => (ptI m c t).wo k l := funext fun k => (blk17 m c t k l).trans (wo_read m c k l)
  have e7 : (iblk m c 0 t : Vec Ideal S1x512x1024 .f32) (ix3 0 r l) = (ptI m c t).X (row t r) l := blk0 m c t r l (ptB t) (row t r) rfl rfl
  have e8 : (iblk m c 3 t : Vec Ideal S1x6x1024 .f32) (ix3 0 2 l) = (ptI m c t).M 2 l := blk3 m c t 2 l _ rfl
  rw [e0, e1, e2, e3, e4, e5, e6, e7, e8]

/-! ## What a point writes -/

/-- The two directions' states of a row. -/
theorem hs_row (r : Fin 512) (x : Fin 1024 → EReal) (hx : ∀ l, x l = (ptI m c t).H (t.val % 8 * 512) l) (i : Fin 1024) :
    recur (rev (tA m c t) i) (rev (tB m c t) i) (x i) (512 - r.val) + (iblk m c 2 t : Vec Ideal S1x512x1024 .f32) (ix3 0 r i) = (ptI m c t).HS (row t r) i := by
  rw [recur_tile m c t i (512 - r.val) (by omega) _ (hx i), blk2 m c t r i (ptB t) (row t r) rfl rfl]
  unfold MixIn.HS
  have e : 4096 - (row t r).val = t.val % 8 * 512 + (512 - r.val) := by show 4096 - ((7 - t.val % 8) * 512 + r.val) = _; omega
  rw [e]
  rfl

theorem row_out (h : Real4 (ptI m c t)) (r : Fin 512) (l : Fin 1024) : (outsAt0 m c t.val t.isLt).1 (ix3 0 r l) = (ptI m c t).out (row t r) l := by
  by_cases h0 : t.val % 8 = 0
  · rw [outsAt0_A m c t h0, outA_out]
    exact tile_row m c t h _ r l (hs_row m c t r _ (start_A m c t h0))
  · rw [outsAt0_B m c t h0, outB_out]
    exact tile_row m c t h _ r l (hs_row m c t r _ fun l => start_B m c t h0 l _)

theorem last_out (l : Fin 1024) : (outsAt0 m c t.val t.isLt).2.1 (ix3 0 0 l) = (ptI m c t).H (t.val % 8 * 512 + 512) l := by
  by_cases h0 : t.val % 8 = 0
  · rw [outsAt0_A m c t h0, outA_last]
    exact recur_tile m c t l _ le_rfl _ (start_A m c t h0 l)
  · rw [outsAt0_B m c t h0, outB_last]
    exact recur_tile m c t l _ le_rfl _ (start_B m c t h0 l _)

end Cert.MixerIdeal.Hand
end
-- ==== Proof.MixerFinal.lean ====
module

public import proofs.«01_k».proof.Proof.MixerValue

/-! The branch-merge kernel's two result arrays: the written blocks put together, and the run that ends with them. -/

@[expose] public section
set_option maxRecDepth 16384
noncomputable section
namespace Cert.MixerIdeal.Hand
open Cert.MixerIdeal Cert.MixerIdeal.Gen Cert.Rows Idealize.ShloMosaic Idealize.ShloMosaic.TcCoe Idealize.SL.Sem

variable (m : (ℓ : Loc nD τ sig) → Buf (Elt Ideal) ℓ) (ρ : Dev nD → PrngReg)

/-! ### Window 18 -/

/-- What the array ends holding. -/
def G18 (c : Dev nD) : Vec Ideal S4x4096x1024 .f32 := fun i => (inp m c (i 0)).out (i 1) (i 2)

theorem flushed18_eq (c : Dev nD) (h : ∀ b, Real4 (inp m c b)) (t : Fin cfg0.N) :
    (dats m 0 c).flushed 18 t = ((cfg0.win 18).blk t).view.read (Elt Ideal) (G18 m c) := by
  show (cfg0.win 18).cut (grid0.coords t) ((dats m 0 c).after 18 t) = _
  rw [after18]
  have ei : win0_18.index t = ![t.val / 8, 7 - t.val % 8, 0] := by simp only [idx t]
  have i0 : win0_18.index t (0 : Fin 3) = t.val / 8 := congrFun ei 0
  have i1 : win0_18.index t (1 : Fin 3) = 7 - t.val % 8 := congrFun ei 1
  have i2 : win0_18.index t (2 : Fin 3) = 0 := congrFun ei 2
  funext y
  have hy0 : (y 0).val < 1 := (y 0).isLt
  have hy1 : (y 1).val < 512 := (y 1).isLt
  have hy2 : (y 2).val < 1024 := (y 2).isLt
  have hl : (cfg0.win 18).xinj (grid0.coords t) y = ix3 0 ⟨(y 1).val, hy1⟩ ⟨(y 2).val, hy2⟩ := by
    funext a; apply Fin.ext
    match a with
    | ⟨0, _⟩ => show (y 0).val = 0; omega
    | ⟨1, _⟩ => show (y 1).val = (y 1).val; omega
    | ⟨2, _⟩ => rfl
  have he : ((cfg0.win 18).blk t).view.emb y = ix3 (ptB t) (row t ⟨(y 1).val, hy1⟩) ⟨(y 2).val, hy2⟩ := by
    funext a; apply Fin.ext
    match a with
    | ⟨0, _⟩ => show win0_18.index t (0 : Fin 3) * 1 + 1 * (y 0).val = t.val / 8; omega
    | ⟨1, _⟩ => show win0_18.index t (1 : Fin 3) * 512 + 1 * (y 1).val = (7 - t.val % 8) * 512 + (y 1).val; omega
    | ⟨2, _⟩ => show win0_18.index t (2 : Fin 3) * 1024 + 1 * (y 2).val = (y 2).val; omega
  show (outsAt0 m c t.val t.isLt).1 ((cfg0.win 18).xinj (grid0.coords t) y) = G18 m c (((cfg0.win 18).blk t).view.emb y)
  rw [hl, he, row_out m c t (h (ptB t))]
  rfl

theorem mem_blk18 (t : Fin cfg0.N) (i : S4x4096x1024.Idx) :
    i ∈ ((cfg0.win 18).blk t).view.set ↔ ∀ a : Fin 3, win0_18.index t a * S1x512x1024.size a ≤ (i a).val ∧ (i a).val < win0_18.index t a * S1x512x1024.size a + S1x512x1024.size a := by
  show i ∈ ((View.whole main_v160_0).slice (win0_18.rect t)).set ↔ _
  rw [View.set_slice_whole, Rect.mem_set_unit]
  exact Iff.rfl

theorem final18 (c : Dev nD) (h : ∀ b, Real4 (inp m c b)) : (dats m 0 c).arrAt 18 cfg0.N = G18 m c :=
  (dats m 0 c).arrAt_eq_of_cover 18 _ (fun t hf => flushed18_eq m c h t) (fun i => by
    have h0 : (i 0).val < 4 := (i 0).isLt
    have h1 : (i 1).val < 4096 := (i 1).isLt
    have h2 : (i 2).val < 1024 := (i 2).isLt
    have hp : 8 * (i 0).val + (7 - (i 1).val / 512) < cfg0.N := lt_of_lt_of_eq (by omega) N_0.symm
    refine ⟨⟨_, hp⟩, flush0_18 _, ?_⟩
    rw [mem_blk18]
    have ei : win0_18.index ⟨_, hp⟩ = ![(8 * (i 0).val + (7 - (i 1).val / 512)) / 8, 7 - (8 * (i 0).val + (7 - (i 1).val / 512)) % 8, 0] := by simp only [idx ⟨_, hp⟩]
    intro a
    match a with
    | ⟨0, _⟩ => show win0_18.index ⟨_, hp⟩ (0 : Fin 3) * 1 ≤ (i 0).val ∧ (i 0).val < win0_18.index ⟨_, hp⟩ (0 : Fin 3) * 1 + 1; rw [congrFun ei 0]; dsimp; omega
    | ⟨1, _⟩ => show win0_18.index ⟨_, hp⟩ (1 : Fin 3) * 512 ≤ (i 1).val ∧ (i 1).val < win0_18.index ⟨_, hp⟩ (1 : Fin 3) * 512 + 512; rw [congrFun ei 1]; dsimp; omega
    | ⟨2, _⟩ => show win0_18.index ⟨_, hp⟩ (2 : Fin 3) * 1024 ≤ (i 2).val ∧ (i 2).val < win0_18.index ⟨_, hp⟩ (2 : Fin 3) * 1024 + 1024; rw [congrFun ei 2]; dsimp; omega)

/-! ### Window 19 -/

/-- What the array ends holding. -/
def G19 (c : Dev nD) : Vec Ideal S4x1x1024 .f32 := fun i => (inp m c (i 0)).H 4096 (i 2)

theorem flushed19_eq (c : Dev nD) (t : Fin cfg0.N) (h7 : t.val % 8 = 7) :
    (dats m 0 c).flushed 19 t = ((cfg0.win 19).blk t).view.read (Elt Ideal) (G19 m c) := by
  show (cfg0.win 19).cut (grid0.coords t) ((dats m 0 c).after 19 t) = _
  rw [after19]
  have ei : win0_19.index t = ![t.val / 8, 0, 0] := by simp only [idx t]
  have i0 : win0_19.index t (0 : Fin 3) = t.val / 8 := congrFun ei 0
  have i1 : win0_19.index t (1 : Fin 3) = 0 := congrFun ei 1
  have i2 : win0_19.index t (2 : Fin 3) = 0 := congrFun ei 2
  funext y
  have hy0 : (y 0).val < 1 := (y 0).isLt
  have hy1 : (y 1).val < 1 := (y 1).isLt
  have hy2 : (y 2).val < 1024 := (y 2).isLt
  have hl : (cfg0.win 19).xinj (grid0.coords t) y = ix3 0 0 ⟨(y 2).val, hy2⟩ := by
    funext a; apply Fin.ext
    match a with
    | ⟨0, _⟩ => show (y 0).val = 0; omega
    | ⟨1, _⟩ => show (y 1).val = 0; omega
    | ⟨2, _⟩ => rfl
  have he : ((cfg0.win 19).blk t).view.emb y = ix3 (ptB t) 0 ⟨(y 2).val, hy2⟩ := by
    funext a; apply Fin.ext
    match a with
    | ⟨0, _⟩ => show win0_19.index t (0 : Fin 3) * 1 + 1 * (y 0).val = t.val / 8; omega
    | ⟨1, _⟩ => show win0_19.index t (1 : Fin 3) * 1 + 1 * (y 1).val = 0; omega
    | ⟨2, _⟩ => show win0_19.index t (2 : Fin 3) * 1024 + 1 * (y 2).val = (y 2).val; omega
  show (outsAt0 m c t.val t.isLt).2.1 ((cfg0.win 19).xinj (grid0.coords t) y) = G19 m c (((cfg0.win 19).blk t).view.emb y)
  rw [hl, he, last_out]
  rw [h7]
  rfl

theorem mem_blk19 (t : Fin cfg0.N) (i : S4x1x1024.Idx) :
    i ∈ ((cfg0.win 19).blk t).view.set ↔ ∀ a : Fin 3, win0_19.index t a * S1x1x1024.size a ≤ (i a).val ∧ (i a).val < win0_19.index t a * S1x1x1024.size a + S1x1x1024.size a := by
  show i ∈ ((View.whole main_v160_1).slice (win0_19.rect t)).set ↔ _
  rw [View.set_slice_whole, Rect.mem_set_unit]
  exact Iff.rfl

theorem final19 (c : Dev nD) : (dats m 0 c).arrAt 19 cfg0.N = G19 m c :=
  (dats m 0 c).arrAt_eq_of_cover 19 _ (fun t hf => flushed19_eq m c t ((flush0_19 t).mp hf)) (fun i => by
    have h0 : (i 0).val < 4 := (i 0).isLt
    have h1 : (i 1).val < 1 := (i 1).isLt
    have h2 : (i 2).val < 1024 := (i 2).isLt
    have hp : 8 * (i 0).val + 7 < cfg0.N := lt_of_lt_of_eq (by omega) N_0.symm
    refine ⟨⟨_, hp⟩, (flush0_19 _).mpr (by dsimp only; omega), ?_⟩
    rw [mem_blk19]
    have ei : win0_19.index ⟨_, hp⟩ = ![(8 * (i 0).val + 7) / 8, 0, 0] := by simp only [idx ⟨_, hp⟩]
    intro a
    match a with
    | ⟨0, _⟩ => show win0_19.index ⟨_, hp⟩ (0 : Fin 3) * 1 ≤ (i 0).val ∧ (i 0).val < win0_19.index ⟨_, hp⟩ (0 : Fin 3) * 1 + 1; rw [congrFun ei 0]; dsimp; omega
    | ⟨1, _⟩ => show win0_19.index ⟨_, hp⟩ (1 : Fin 3) * 1 ≤ (i 1).val ∧ (i 1).val < win0_19.index ⟨_, hp⟩ (1 : Fin 3) * 1 + 1; rw [congrFun ei 1]; dsimp; omega
    | ⟨2, _⟩ => show win0_19.index ⟨_, hp⟩ (2 : Fin 3) * 1024 ≤ (i 2).val ∧ (i 2).val < win0_19.index ⟨_, hp⟩ (2 : Fin 3) * 1024 + 1024; rw [congrFun ei 2]; dsimp; omega)

/-- The run: the two arrays, with the arguments unchanged. -/
theorem run (h : ∀ c b, Real4 (inp m c b)) : θ_run defs (onTc (τ := τ) (main (F := Ideal))) ⟨m, fun _ => 0, ρ⟩ (fun r => ∀ c : Dev nD,
      r.2.mem ((c.tc : Thread nD τ).loc main_v160_0) = G18 m c
      ∧ r.2.mem ((c.tc : Thread nD τ).loc main_v160_1) = G19 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) := by
  refine (θ_run defs _ _).mono (fun r hr c => ?_) (θ_run_and (run_main m ρ) (frame_of m ρ (dats m) (A_eq m) (run_main m ρ)))
  exact ⟨((hr.1 c).1 18).trans (final18 m c (h c)), ((hr.1 c).1 19).trans (final19 m c), hr.2 c⟩

end Cert.MixerIdeal.Hand
end
-- ==== Proof.MixerRefTail.lean ====
module

public import proofs.«01_k».proof.Proof.MixerSpec
public import proofs.«01_k».proof.Proof.Gen.MixerRefIdeal.Step
public import Idealize.ShloMosaic.Lib.Pointwise
public import Idealize.ShloMosaic.Lib.Pipeline.ValueKit

/-! What the branch-merge reference computes after its loop, in stages, each read at its places. -/

@[expose] public section
set_option maxRecDepth 16384
noncomputable section
namespace Cert.MixerRefIdeal.HandRun
open Cert.MixerRefIdeal Cert.MixerRefIdeal.Gen Cert.MixerRefIdeal.Step Cert.Rows Idealize.ShloMosaic Idealize.ShloMosaic.TcCoe Idealize.SL.Sem

/-! ## A window's sum -/

/-- A left fold of additions is the start and the sum. -/
theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A sum over a window's places, zero where the place falls outside, is the sum over the places in the window. -/
theorem sum_places (W lo : ℕ) (c : ℕ) (x : Fin 64 → EReal) :
    ∑ n : Fin W, (if h : lo ≤ c + n.val ∧ c + n.val - lo < 64 then x ⟨c + n.val - lo, h.2⟩ else 0)
      = ∑ k : Fin 64, if c ≤ k.val + lo ∧ k.val + lo < c + W then x k else 0 := by
  have h1 : ∀ n : Fin W, (if h : lo ≤ c + n.val ∧ c + n.val - lo < 64 then x ⟨c + n.val - lo, h.2⟩ else 0)
      = ∑ k : Fin 64, if c + n.val = k.val + lo then x k else 0 := fun n => by
    by_cases h : lo ≤ c + n.val ∧ c + n.val - lo < 64
    · rw [dif_pos h, Finset.sum_eq_single ⟨c + n.val - lo, h.2⟩]
      · rw [if_pos (by show c + n.val = c + n.val - lo + lo; omega)]
      · exact fun k _ hk => if_neg fun e => hk (Fin.ext (by show k.val = c + n.val - lo; omega))
      · exact fun hk => absurd (Finset.mem_univ _) hk
    · rw [dif_neg h]
      exact (Finset.sum_eq_zero fun k _ => if_neg fun e => h (by omega)).symm
  rw [Finset.sum_congr rfl fun n _ => h1 n, Finset.sum_comm]
  refine Finset.sum_congr rfl fun k _ => ?_
  by_cases h : c ≤ k.val + lo ∧ k.val + lo < c + W
  · rw [if_pos h, Finset.sum_eq_single (⟨k.val + lo - c, by omega⟩ : Fin W)]
    · exact if_pos (by show c + (k.val + lo - c) = k.val + lo; omega)
    · exact fun n _ hn => if_neg fun e => hn (Fin.ext (by show n.val = k.val + lo - c; omega))
    · exact fun hn => absurd (Finset.mem_univ _) hn
  · rw [if_neg h]
    exact Finset.sum_eq_zero fun n _ => if_neg fun e => h (by omega)

/-- The host's window sum along the third axis. -/
theorem window_at (W lo hi : ℕ) (x : Vec Ideal S4x64x64x128 .f32) (init : Vec Ideal S_ .f32) (hinit : ∀ k, init k = 0)
    (h : S4x64x64x128.ReduceWindows (![1, 1, W, 1] : Fin 4 → ℕ) ![1, 1, 1, 1] ![0, 0, lo, 0] ![0, 0, hi, 0] S4x64x64x128) (hu : 0 < S_.numel)
    (b : Fin 4) (y c : Fin 64) (i : Fin 128) :
    Host.reduceWindowAdd (F := Ideal) (φ := .f32) (![1, 1, W, 1] : Fin 4 → ℕ) ![1, 1, 1, 1] ![0, 0, lo, 0] ![0, 0, hi, 0] x init h hu (ix4 b y c i)
      = ∑ k : Fin 64, if c.val ≤ k.val + lo ∧ k.val + lo < c.val + W then x (ix4 b y k i) else 0 := by
  unfold Host.reduceWindowAdd
  show Ideal.hostReduceWindowAdd (![1, 1, W, 1] : Fin 4 → ℕ) ![1, 1, 1, 1] ![0, 0, lo, 0] ![0, 0, hi, 0] h x (init (Shape.Idx.first hu)) (ix4 b y c i) = _
  unfold Ideal.hostReduceWindowAdd Host.reduceWindow
  dsimp only
  rw [foldl_sum, hinit, zero_add, ← Fin.sum_univ_def, ← sum_places W lo c.val fun k => x (ix4 b y k i)]
  let E : Fin W ≃ (⟨4, ![1, 1, W, 1]⟩ : Shape).Idx :=
    ⟨fun n => ix4 0 0 n 0, fun w => w 2, fun n => rfl, fun w => funext fun a => by
      match a with
      | ⟨0, _⟩ => exact Subsingleton.elim (α := Fin 1) _ _
      | ⟨1, _⟩ => exact Subsingleton.elim (α := Fin 1) _ _
      | ⟨2, _⟩ => rfl
      | ⟨3, _⟩ => exact Subsingleton.elim (α := Fin 1) _ _⟩
  refine Fintype.sum_equiv ((⟨4, ![1, 1, W, 1]⟩ : Shape).rowMajor.symm.trans E.symm) _ _ fun n => ?_
  obtain ⟨w, hw⟩ : ∃ w, (⟨4, ![1, 1, W, 1]⟩ : Shape).rowMajor.symm n = ix4 (0 : Fin 1) (0 : Fin 1) (w : Fin W) (0 : Fin 1) :=
    ⟨_, (E.apply_symm_apply _).symm⟩
  have hE : ((⟨4, ![1, 1, W, 1]⟩ : Shape).rowMajor.symm.trans E.symm) n = w := by
    show E.symm ((⟨4, ![1, 1, W, 1]⟩ : Shape).rowMajor.symm n) = w
    rw [hw]; rfl
  refine Eq.trans ?_ (congrArg (fun n' : Fin W => if h : lo ≤ c.val + n'.val ∧ c.val + n'.val - lo < 64 then x (ix4 b y ⟨c.val + n'.val - lo, h.2⟩ i) else 0) hE).symm
  have v0 : ((⟨4, ![1, 1, W, 1]⟩ : Shape).rowMajor.symm n 0).val = 0 := by rw [hw]; rfl
  have v1 : ((⟨4, ![1, 1, W, 1]⟩ : Shape).rowMajor.symm n 1).val = 0 := by rw [hw]; rfl
  have v2 : ((⟨4, ![1, 1, W, 1]⟩ : Shape).rowMajor.symm n 2).val = w.val := by rw [hw]; rfl
  have v3 : ((⟨4, ![1, 1, W, 1]⟩ : Shape).rowMajor.symm n 3).val = 0 := by rw [hw]; rfl
  by_cases hp : lo ≤ c.val + w.val ∧ c.val + w.val - lo < 64
  · refine Eq.trans ?_ (dif_pos hp).symm
    refine Eq.trans (dif_pos fun a => ?_) (congrArg x (funext fun a => Fin.ext ?_))
    · match a with
      | ⟨0, _⟩ => show 0 ≤ b.val * 1 + ((⟨4, ![1, 1, W, 1]⟩ : Shape).rowMajor.symm n 0).val ∧ b.val * 1 + ((⟨4, ![1, 1, W, 1]⟩ : Shape).rowMajor.symm n 0).val - 0 < 4; omega
      | ⟨1, _⟩ => show 0 ≤ y.val * 1 + ((⟨4, ![1, 1, W, 1]⟩ : Shape).rowMajor.symm n 1).val ∧ y.val * 1 + ((⟨4, ![1, 1, W, 1]⟩ : Shape).rowMajor.symm n 1).val - 0 < 64; omega
      | ⟨2, _⟩ => show lo ≤ c.val * 1 + ((⟨4, ![1, 1, W, 1]⟩ : Shape).rowMajor.symm n 2).val ∧ c.val * 1 + ((⟨4, ![1, 1, W, 1]⟩ : Shape).rowMajor.symm n 2).val - lo < 64; rw [v2]; omega
      | ⟨3, _⟩ => show 0 ≤ i.val * 1 + ((⟨4, ![1, 1, W, 1]⟩ : Shape).rowMajor.symm n 3).val ∧ i.val * 1 + ((⟨4, ![1, 1, W, 1]⟩ : Shape).rowMajor.symm n 3).val - 0 < 128; omega
    · match a with
      | ⟨0, _⟩ => show b.val * 1 + ((⟨4, ![1, 1, W, 1]⟩ : Shape).rowMajor.symm n 0).val - 0 = b.val; omega
      | ⟨1, _⟩ => show y.val * 1 + ((⟨4, ![1, 1, W, 1]⟩ : Shape).rowMajor.symm n 1).val - 0 = y.val; omega
      | ⟨2, _⟩ => show c.val * 1 + ((⟨4, ![1, 1, W, 1]⟩ : Shape).rowMajor.symm n 2).val - lo = c.val + w.val - lo; rw [v2]; omega
      | ⟨3, _⟩ => show i.val * 1 + ((⟨4, ![1, 1, W, 1]⟩ : Shape).rowMajor.symm n 3).val - 0 = i.val; omega
  · refine Eq.trans ?_ (dif_neg hp).symm
    refine dif_neg fun hin => ?_
    have h2 : lo ≤ c.val * 1 + ((⟨4, ![1, 1, W, 1]⟩ : Shape).rowMajor.symm n 2).val ∧ c.val * 1 + ((⟨4, ![1, 1, W, 1]⟩ : Shape).rowMajor.symm n 2).val - lo < 64 := hin 2
    rw [v2] at h2
    exact hp (by omega)

/-! ## The stages -/

section
variable {F : FTy → Type} [FloatOps F]

/-- The projected rows. -/
def zr (a0 : (⟨S4x4096x1024, .f32⟩ : BufTy).Contents (Elt F)) (a3 : (⟨S8x6x1024, .f32⟩ : BufTy).Contents (Elt F)) (a4 : (⟨S1024, .f32⟩ : BufTy).Contents (Elt F)) (a5 : (⟨S1024x4608, .f32⟩ : BufTy).Contents (Elt F)) : (⟨S4x4096x4608, .f32⟩ : BufTy).Contents (Elt F) :=
  (Host.dotGeneral dot_S4x4096x1024_S1024x4608_S4x4096x4608_2_0_01_1_n_n none (addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a4))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 1, 0] (extractStridedSlice S4x6x1024 ![0, 0, 0] a3 slices_S8x6x1024_S4x6x1024_0_0_0) slices_S4x6x1024_S4x1x1024_0_1_0) shapeCasts_S4x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S4x1x1024 ![0, 0, 0] (extractStridedSlice S4x6x1024 ![0, 0, 0] a3 slices_S8x6x1024_S4x6x1024_0_0_0) slices_S4x6x1024_S4x1x1024_0_0_0) shapeCasts_S4x1x1024_S4x1024)))) a5)

/-- The pooled channels on the grid. -/
def pr (z : (⟨S4x4096x4608, .f32⟩ : BufTy).Contents (Elt F)) : (⟨S4x64x64x512, .f32⟩ : BufTy).Contents (Elt F) :=
  (shapeCast _ (extractStridedSlice S4x4096x512 ![0, 0, 2048] z slices_S4x4096x4608_S4x4096x512_0_0_2048) shapeCasts_S4x4096x512_S4x64x64x512)

/-- The number of places of a window inside the grid row. -/
def cnt (w h : BitVec 32) : (⟨S64, .f32⟩ : BufTy).Contents (Elt F) :=
  (sitofp .f32 (subi (minsi (broadcastInDim S64 ![] bcast_S_S64 (id (constantI S_ 32 64#32))) (maxsi (broadcastInDim S64 ![] bcast_S_S64 (id (constantI S_ 32 0#32))) (subi (addi (iotaInDim S64 32 0) (broadcastInDim S64 ![] bcast_S_S64 (constantI S_ 32 w))) (broadcastInDim S64 ![] bcast_S_S64 (constantI S_ 32 h))))) (minsi (broadcastInDim S64 ![] bcast_S_S64 (id (constantI S_ 32 64#32))) (maxsi (broadcastInDim S64 ![] bcast_S_S64 (id (constantI S_ 32 0#32))) (subi (iotaInDim S64 32 0) (broadcastInDim S64 ![] bcast_S_S64 (constantI S_ 32 h)))))))

/-- The pooled group 0. -/
def g0r (z : (⟨S4x4096x4608, .f32⟩ : BufTy).Contents (Elt F)) (cn : (⟨S64, .f32⟩ : BufTy).Contents (Elt F)) (a12 : (⟨S4x128x128, .f32⟩ : BufTy).Contents (Elt F)) : (⟨S4x64x64x128, .f32⟩ : BufTy).Contents (Elt F) :=
  (Host.dotGeneral dot_S4x64x64x128_S128x128_S4x64x64x128_3_0_012_1_n_n none (subf (Host.divf (Host.reduceWindowAdd ![1, 1, 2, 1] ![1, 1, 1, 1] ![0, 0, 1, 0] ![0, 0, 0, 0] (extractStridedSlice S4x64x64x128 ![0, 0, 0, 0] (pr z) slices_S4x64x64x512_S4x64x64x128_0_0_0_0) (broadcastInDim S_ ![] bcast_S_S_ (constant S_ .f32 0x00000000#32)) reduceWindows_S4x64x64x128_S4x64x64x128_w1s1p0_0_w1s1p0_0_w2s1p1_0_w1s1p0_0 h_S_) (broadcastInDim S4x64x64x128 ![0, 1, 2, 3] bcast_S1x1x64x1_S4x64x64x128_0_1_2_3 (broadcastInDim S1x1x64x1 ![2, 3] bcast_S64x1_S1x1x64x1_2_3 (broadcastInDim S64x1 ![0] bcast_S64_S64x1_0 cn)))) (extractStridedSlice S4x64x64x128 ![0, 0, 0, 0] (pr z) slices_S4x64x64x512_S4x64x64x128_0_0_0_0)) (shapeCast _ (extractStridedSlice S1x128x128 ![0, 0, 0] a12 slices_S4x128x128_S1x128x128_0_0_0) shapeCasts_S1x128x128_S128x128))

/-- The pooled group 1. -/
def g1r (z : (⟨S4x4096x4608, .f32⟩ : BufTy).Contents (Elt F)) (cn : (⟨S64, .f32⟩ : BufTy).Contents (Elt F)) (a12 : (⟨S4x128x128, .f32⟩ : BufTy).Contents (Elt F)) : (⟨S4x64x64x128, .f32⟩ : BufTy).Contents (Elt F) :=
  (Host.dotGeneral dot_S4x64x64x128_S128x128_S4x64x64x128_3_0_012_1_n_n none (subf (Host.divf (Host.reduceWindowAdd ![1, 1, 4, 1] ![1, 1, 1, 1] ![0, 0, 2, 0] ![0, 0, 1, 0] (extractStridedSlice S4x64x64x128 ![0, 0, 0, 128] (pr z) slices_S4x64x64x512_S4x64x64x128_0_0_0_128) (broadcastInDim S_ ![] bcast_S_S_ (constant S_ .f32 0x00000000#32)) reduceWindows_S4x64x64x128_S4x64x64x128_w1s1p0_0_w1s1p0_0_w4s1p2_1_w1s1p0_0 h_S_) (broadcastInDim S4x64x64x128 ![0, 1, 2, 3] bcast_S1x1x64x1_S4x64x64x128_0_1_2_3 (broadcastInDim S1x1x64x1 ![2, 3] bcast_S64x1_S1x1x64x1_2_3 (broadcastInDim S64x1 ![0] bcast_S64_S64x1_0 cn)))) (extractStridedSlice S4x64x64x128 ![0, 0, 0, 128] (pr z) slices_S4x64x64x512_S4x64x64x128_0_0_0_128)) (shapeCast _ (extractStridedSlice S1x128x128 ![1, 0, 0] a12 slices_S4x128x128_S1x128x128_1_0_0) shapeCasts_S1x128x128_S128x128))

/-- The pooled group 2. -/
def g2r (z : (⟨S4x4096x4608, .f32⟩ : BufTy).Contents (Elt F)) (cn : (⟨S64, .f32⟩ : BufTy).Contents (Elt F)) (a12 : (⟨S4x128x128, .f32⟩ : BufTy).Contents (Elt F)) : (⟨S4x64x64x128, .f32⟩ : BufTy).Contents (Elt F) :=
  (Host.dotGeneral dot_S4x64x64x128_S128x128_S4x64x64x128_3_0_012_1_n_n none (subf (Host.divf (Host.reduceWindowAdd ![1, 1, 8, 1] ![1, 1, 1, 1] ![0, 0, 4, 0] ![0, 0, 3, 0] (extractStridedSlice S4x64x64x128 ![0, 0, 0, 256] (pr z) slices_S4x64x64x512_S4x64x64x128_0_0_0_256) (broadcastInDim S_ ![] bcast_S_S_ (constant S_ .f32 0x00000000#32)) reduceWindows_S4x64x64x128_S4x64x64x128_w1s1p0_0_w1s1p0_0_w8s1p4_3_w1s1p0_0 h_S_) (broadcastInDim S4x64x64x128 ![0, 1, 2, 3] bcast_S1x1x64x1_S4x64x64x128_0_1_2_3 (broadcastInDim S1x1x64x1 ![2, 3] bcast_S64x1_S1x1x64x1_2_3 (broadcastInDim S64x1 ![0] bcast_S64_S64x1_0 cn)))) (extractStridedSlice S4x64x64x128 ![0, 0, 0, 256] (pr z) slices_S4x64x64x512_S4x64x64x128_0_0_0_256)) (shapeCast _ (extractStridedSlice S1x128x128 ![2, 0, 0] a12 slices_S4x128x128_S1x128x128_2_0_0) shapeCasts_S1x128x128_S128x128))

/-- The pooled group 3. -/
def g3r (z : (⟨S4x4096x4608, .f32⟩ : BufTy).Contents (Elt F)) (cn : (⟨S64, .f32⟩ : BufTy).Contents (Elt F)) (a12 : (⟨S4x128x128, .f32⟩ : BufTy).Contents (Elt F)) : (⟨S4x64x64x128, .f32⟩ : BufTy).Contents (Elt F) :=
  (Host.dotGeneral dot_S4x64x64x128_S128x128_S4x64x64x128_3_0_012_1_n_n none (subf (Host.divf (Host.reduceWindowAdd ![1, 1, 16, 1] ![1, 1, 1, 1] ![0, 0, 8, 0] ![0, 0, 7, 0] (extractStridedSlice S4x64x64x128 ![0, 0, 0, 384] (pr z) slices_S4x64x64x512_S4x64x64x128_0_0_0_384) (broadcastInDim S_ ![] bcast_S_S_ (constant S_ .f32 0x00000000#32)) reduceWindows_S4x64x64x128_S4x64x64x128_w1s1p0_0_w1s1p0_0_w16s1p8_7_w1s1p0_0 h_S_) (broadcastInDim S4x64x64x128 ![0, 1, 2, 3] bcast_S1x1x64x1_S4x64x64x128_0_1_2_3 (broadcastInDim S1x1x64x1 ![2, 3] bcast_S64x1_S1x1x64x1_2_3 (broadcastInDim S64x1 ![0] bcast_S64_S64x1_0 cn)))) (extractStridedSlice S4x64x64x128 ![0, 0, 0, 384] (pr z) slices_S4x64x64x512_S4x64x64x128_0_0_0_384)) (shapeCast _ (extractStridedSlice S1x128x128 ![3, 0, 0] a12 slices_S4x128x128_S1x128x128_3_0_0) shapeCasts_S1x128x128_S128x128))

/-- The pooling branch before its matrix. -/
def yr (g0 g1 g2 g3 : (⟨S4x64x64x128, .f32⟩ : BufTy).Contents (Elt F)) (a13 : (⟨S512, .f32⟩ : BufTy).Contents (Elt F)) : (⟨S4x4096x512, .f32⟩ : BufTy).Contents (Elt F) :=
  (shapeCast _ (mulf ((concatenate S4x64x64x512 3 [⟨S4x64x64x128, (g0 : (⟨S4x64x64x128, .f32⟩ : BufTy).Contents (Elt F))⟩, ⟨S4x64x64x128, (g1 : (⟨S4x64x64x128, .f32⟩ : BufTy).Contents (Elt F))⟩, ⟨S4x64x64x128, (g2 : (⟨S4x64x64x128, .f32⟩ : BufTy).Contents (Elt F))⟩, ⟨S4x64x64x128, (g3 : (⟨S4x64x64x128, .f32⟩ : BufTy).Contents (Elt F))⟩] concatenates_S4x64x64x128_S4x64x64x128_S4x64x64x128_S4x64x64x128_S4x64x64x512_d3 : (⟨S4x64x64x512, .f32⟩ : BufTy).Contents (Elt F))) (broadcastInDim S4x64x64x512 ![0, 1, 2, 3] bcast_S1x1x1x512_S4x64x64x512_0_1_2_3 (broadcastInDim S1x1x1x512 ![3] bcast_S512_S1x1x1x512_3 a13))) shapeCasts_S4x64x64x512_S4x4096x512)

/-- The states of both directions. -/
def hr (s4 : (⟨S4096x4x1024, .f32⟩ : BufTy).Contents (Elt F)) (a2 : (⟨S4x4096x1024, .f32⟩ : BufTy).Contents (Elt F)) : (⟨S4x4096x1024, .f32⟩ : BufTy).Contents (Elt F) :=
  (addf a2 (Host.reverse [1] (transpose S4x4096x1024 [1, 0, 2] s4 transposes_S4096x4x1024_S4x4096x1024_1_0_2)))

/-- The merge. -/
def fr (a0 : (⟨S4x4096x1024, .f32⟩ : BufTy).Contents (Elt F)) (z : (⟨S4x4096x4608, .f32⟩ : BufTy).Contents (Elt F)) (hs : (⟨S4x4096x1024, .f32⟩ : BufTy).Contents (Elt F)) (y : (⟨S4x4096x512, .f32⟩ : BufTy).Contents (Elt F)) (a3 : (⟨S8x6x1024, .f32⟩ : BufTy).Contents (Elt F)) (a14 : (⟨S1024x1024, .f32⟩ : BufTy).Contents (Elt F)) (a15 : (⟨S512x1024, .f32⟩ : BufTy).Contents (Elt F)) (a16 : (⟨S1024x1024, .f32⟩ : BufTy).Contents (Elt F)) : (⟨S4x4096x1024, .f32⟩ : BufTy).Contents (Elt F) :=
  addf a0 (mulf (broadcastInDim S4x4096x1024 ![0, 1, 2] bcast_S4x1x1024_S4x4096x1024_0_1_2 (broadcastInDim S4x1x1024 ![0, 2] bcast_S4x1024_S4x1x1024_0_2 (shapeCast _ (extractStridedSlice S4x1x1024 ![0, 2, 0] (extractStridedSlice S4x6x1024 ![0, 0, 0] a3 slices_S8x6x1024_S4x6x1024_0_0_0) slices_S4x6x1024_S4x1x1024_0_2_0) shapeCasts_S4x1x1024_S4x1024))) (Host.dotGeneral dot_S4x4096x1024_S1024x1024_S4x4096x1024_2_0_01_1_n_n none (addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 0] (extractStridedSlice S4x4096x2048 ![0, 0, 2560] z slices_S4x4096x4608_S4x4096x2048_0_0_2560) slices_S4x4096x2048_S4x4096x1024_0_0_0))))) (Host.dotGeneral dot_S4x4096x1024_S1024x1024_S4x4096x1024_2_0_01_1_n_n none (mulf hs (mulf (extractStridedSlice S4x4096x1024 ![0, 0, 1024] z slices_S4x4096x4608_S4x4096x1024_0_0_1024) (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf (extractStridedSlice S4x4096x1024 ![0, 0, 1024] z slices_S4x4096x4608_S4x4096x1024_0_0_1024) (mulf (broadcastInDim S4x4096x1024 ![] bcast_S_S4x4096x1024 (constant S_ .f32 0x3D372713#32)) (mulf (mulf (extractStridedSlice S4x4096x1024 ![0, 0, 1024] z slices_S4x4096x4608_S4x4096x1024_0_0_1024) (extractStridedSlice S4x4096x1024 ![0, 0, 1024] z slices_S4x4096x4608_S4x4096x1024_0_0_1024)) (extractStridedSlice S4x4096x1024 ![0, 0, 1024] z slices_S4x4096x4608_S4x4096x1024_0_0_1024)))))))))) a14)) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (extractStridedSlice S4x4096x2048 ![0, 0, 2560] z slices_S4x4096x4608_S4x4096x2048_0_0_2560) slices_S4x4096x2048_S4x4096x1024_0_0_1024))))) (Host.dotGeneral dot_S4x4096x512_S512x1024_S4x4096x1024_2_0_01_1_n_n none y a15))) a16))

/-- The reference's first result is the stages put together. -/
theorem R_eq (s : State F) (a0 : (⟨S4x4096x1024, .f32⟩ : BufTy).Contents (Elt F)) (a2 : (⟨S4x4096x1024, .f32⟩ : BufTy).Contents (Elt F)) (a3 : (⟨S8x6x1024, .f32⟩ : BufTy).Contents (Elt F)) (a4 : (⟨S1024, .f32⟩ : BufTy).Contents (Elt F)) (a5 : (⟨S1024x4608, .f32⟩ : BufTy).Contents (Elt F)) (a12 : (⟨S4x128x128, .f32⟩ : BufTy).Contents (Elt F)) (a13 : (⟨S512, .f32⟩ : BufTy).Contents (Elt F)) (a14 : (⟨S1024x1024, .f32⟩ : BufTy).Contents (Elt F)) (a15 : (⟨S512x1024, .f32⟩ : BufTy).Contents (Elt F)) (a16 : (⟨S1024x1024, .f32⟩ : BufTy).Contents (Elt F)) :
    R_main_v213 s a0 a2 a3 a4 a5 a12 a13 a14 a15 a16
      = fr a0 (zr a0 a3 a4 a5) (hr s.main_v46_4 a2)
          (yr (g0r (zr a0 a3 a4 a5) (cnt 2#32 1#32) a12) (g1r (zr a0 a3 a4 a5) (cnt 4#32 2#32) a12) (g2r (zr a0 a3 a4 a5) (cnt 8#32 4#32) a12) (g3r (zr a0 a3 a4 a5) (cnt 16#32 8#32) a12) a13)
          a3 a14 a15 a16 := rfl

end

/-! ## The stages at their places -/

/-- The sum's start. -/
theorem zero_init (k : S_.Idx) : (broadcastInDim S_ ![] bcast_S_S_ (constant S_ .f32 0x00000000#32 : FVec Ideal S_ .f32) : Vec Ideal S_ .f32) k = 0 := by
  obtain rfl : k = ix0 := funext fun a => a.elim0
  pointwise []

theorem zr_at (a0 : (⟨S4x4096x1024, .f32⟩ : BufTy).Contents (Elt Ideal)) (a3 : (⟨S8x6x1024, .f32⟩ : BufTy).Contents (Elt Ideal)) (a4 : (⟨S1024, .f32⟩ : BufTy).Contents (Elt Ideal)) (a5 : (⟨S1024x4608, .f32⟩ : BufTy).Contents (Elt Ideal)) (b : Fin 4) (s : Fin 4096) (j : Fin 4608) :
    (zr a0 a3 a4 a5 : Vec Ideal S4x4096x4608 .f32) (ix3 b s j)
      = proj (modRow (fun l => (a0 : Vec Ideal S4x4096x1024 .f32) (ix3 b s l)) (fun l => (a4 : Vec Ideal S1024 .f32) (ix1 l)) (fun l => (a3 : Vec Ideal S8x6x1024 .f32) (ix3 ⟨b.val, by omega⟩ 1 l)) (fun l => (a3 : Vec Ideal S8x6x1024 .f32) (ix3 ⟨b.val, by omega⟩ 0 l)))
          (fun k => (a5 : Vec Ideal S1024x4608 .f32) (ix2 k j)) := by
  unfold proj modRow normRow rowScale
  pointwise [zr]

theorem pr_at (z : (⟨S4x4096x4608, .f32⟩ : BufTy).Contents (Elt Ideal)) (b : Fin 4) (y c : Fin 64) (j : Fin 512) :
    (pr z : Vec Ideal S4x64x64x512 .f32) (ix4 b y c j) = (z : Vec Ideal S4x4096x4608 .f32) (ix3 b ⟨64 * y.val + c.val, by omega⟩ ⟨2048 + j.val, by omega⟩) := by
  pointwise [pr]
  simp only [Nat.mul_comm]

/-- The count of a window's places as a word, and that it is the count. -/
def cntw (w h : BitVec 32) (c : Fin 64) : BitVec 32 :=
  IntOp.subi (IntOp.minsi 64#32 (IntOp.maxsi 0#32 (IntOp.subi (IntOp.addi (BitVec.ofNat 32 c.val) w) h)))
    (IntOp.minsi 64#32 (IntOp.maxsi 0#32 (IntOp.subi (BitVec.ofNat 32 c.val) h)))
theorem cntw_eq : ∀ (q : Fin 4) (c : Fin 64), (cntw (BitVec.ofNat 32 (2 * 2 ^ q.val)) (BitVec.ofNat 32 (2 ^ q.val)) c).toInt = (count q c.val : ℤ) := by decide +kernel

/-- The window's count as a number, at each group's constants. -/
theorem cnt_at0 (c : Fin 64) : (cnt 2#32 1#32 : Vec Ideal S64 .f32) (ix1 c) = ((count 0 c.val : ℝ) : EReal) := by
  pointwise [cnt]
  show (((cntw 2#32 1#32 c).toInt : ℝ) : EReal) = _
  have h : (cntw 2#32 1#32 c).toInt = (count 0 c.val : ℤ) := cntw_eq 0 c
  rw [h, Int.cast_natCast]

theorem cnt_at1 (c : Fin 64) : (cnt 4#32 2#32 : Vec Ideal S64 .f32) (ix1 c) = ((count 1 c.val : ℝ) : EReal) := by
  pointwise [cnt]
  show (((cntw 4#32 2#32 c).toInt : ℝ) : EReal) = _
  have h : (cntw 4#32 2#32 c).toInt = (count 1 c.val : ℤ) := cntw_eq 1 c
  rw [h, Int.cast_natCast]

theorem cnt_at2 (c : Fin 64) : (cnt 8#32 4#32 : Vec Ideal S64 .f32) (ix1 c) = ((count 2 c.val : ℝ) : EReal) := by
  pointwise [cnt]
  show (((cntw 8#32 4#32 c).toInt : ℝ) : EReal) = _
  have h : (cntw 8#32 4#32 c).toInt = (count 2 c.val : ℤ) := cntw_eq 2 c
  rw [h, Int.cast_natCast]

theorem cnt_at3 (c : Fin 64) : (cnt 16#32 8#32 : Vec Ideal S64 .f32) (ix1 c) = ((count 3 c.val : ℝ) : EReal) := by
  pointwise [cnt]
  show (((cntw 16#32 8#32 c).toInt : ℝ) : EReal) = _
  have h : (cntw 16#32 8#32 c).toInt = (count 3 c.val : ℤ) := cntw_eq 3 c
  rw [h, Int.cast_natCast]

theorem g0r_at (z : (⟨S4x4096x4608, .f32⟩ : BufTy).Contents (Elt Ideal)) (cn : (⟨S64, .f32⟩ : BufTy).Contents (Elt Ideal)) (a12 : (⟨S4x128x128, .f32⟩ : BufTy).Contents (Elt Ideal)) (b : Fin 4) (y c : Fin 64) (d : Fin 128) :
    (g0r z cn a12 : Vec Ideal S4x64x64x128 .f32) (ix4 b y c d)
      = ∑ i : Fin 128, (Ideal.div (∑ k : Fin 64, if inWin 0 c.val k.val then (z : Vec Ideal S4x4096x4608 .f32) (ix3 b ⟨64 * y.val + k.val, by omega⟩ ⟨2048 + (chan 0 i).val, by omega⟩) else 0) ((cn : Vec Ideal S64 .f32) (ix1 c))
          - (z : Vec Ideal S4x4096x4608 .f32) (ix3 b ⟨64 * y.val + c.val, by omega⟩ ⟨2048 + (chan 0 i).val, by omega⟩)) * (a12 : Vec Ideal S4x128x128 .f32) (ix3 0 i d) := by
  pointwise [g0r, pr_at]
  refine Finset.sum_congr rfl fun i _ => ?_
  rw [window_at _ _ _ _ _ zero_init]
  refine congrArg₂ (· * ·) (congrArg₂ (· - ·) (congrArg (Ideal.div · _) (Finset.sum_congr rfl fun k _ => ?_)) ?_) rfl
  · pointwise [pr_at]
    refine if_congr ?_ ?_ rfl
    · show _ ↔ c.val ≤ k.val + 1 ∧ k.val < c.val + 1
      omega
    · refine congrArg z (congrArg (ix3 b _) (Fin.ext ?_))
      show 2048 + i.val = 2048 + (128 * 0 + i.val)
      omega
  · refine congrArg z (congrArg (ix3 b _) (Fin.ext ?_))
    show 2048 + i.val = 2048 + (128 * 0 + i.val)
    omega

theorem g1r_at (z : (⟨S4x4096x4608, .f32⟩ : BufTy).Contents (Elt Ideal)) (cn : (⟨S64, .f32⟩ : BufTy).Contents (Elt Ideal)) (a12 : (⟨S4x128x128, .f32⟩ : BufTy).Contents (Elt Ideal)) (b : Fin 4) (y c : Fin 64) (d : Fin 128) :
    (g1r z cn a12 : Vec Ideal S4x64x64x128 .f32) (ix4 b y c d)
      = ∑ i : Fin 128, (Ideal.div (∑ k : Fin 64, if inWin 1 c.val k.val then (z : Vec Ideal S4x4096x4608 .f32) (ix3 b ⟨64 * y.val + k.val, by omega⟩ ⟨2048 + (chan 1 i).val, by omega⟩) else 0) ((cn : Vec Ideal S64 .f32) (ix1 c))
          - (z : Vec Ideal S4x4096x4608 .f32) (ix3 b ⟨64 * y.val + c.val, by omega⟩ ⟨2048 + (chan 1 i).val, by omega⟩)) * (a12 : Vec Ideal S4x128x128 .f32) (ix3 1 i d) := by
  pointwise [g1r, pr_at]
  refine Finset.sum_congr rfl fun i _ => ?_
  rw [window_at _ _ _ _ _ zero_init]
  refine congrArg₂ (· * ·) (congrArg₂ (· - ·) (congrArg (Ideal.div · _) (Finset.sum_congr rfl fun k _ => ?_)) ?_) rfl
  · pointwise [pr_at]
    refine if_congr ?_ ?_ rfl
    · show _ ↔ c.val ≤ k.val + 2 ∧ k.val < c.val + 2
      omega
    · refine congrArg z (congrArg (ix3 b _) (Fin.ext ?_))
      show 2048 + (128 + i.val) = 2048 + (128 * 1 + i.val)
      omega
  · refine congrArg z (congrArg (ix3 b _) (Fin.ext ?_))
    show 2048 + (128 + i.val) = 2048 + (128 * 1 + i.val)
    omega

theorem g2r_at (z : (⟨S4x4096x4608, .f32⟩ : BufTy).Contents (Elt Ideal)) (cn : (⟨S64, .f32⟩ : BufTy).Contents (Elt Ideal)) (a12 : (⟨S4x128x128, .f32⟩ : BufTy).Contents (Elt Ideal)) (b : Fin 4) (y c : Fin 64) (d : Fin 128) :
    (g2r z cn a12 : Vec Ideal S4x64x64x128 .f32) (ix4 b y c d)
      = ∑ i : Fin 128, (Ideal.div (∑ k : Fin 64, if inWin 2 c.val k.val then (z : Vec Ideal S4x4096x4608 .f32) (ix3 b ⟨64 * y.val + k.val, by omega⟩ ⟨2048 + (chan 2 i).val, by omega⟩) else 0) ((cn : Vec Ideal S64 .f32) (ix1 c))
          - (z : Vec Ideal S4x4096x4608 .f32) (ix3 b ⟨64 * y.val + c.val, by omega⟩ ⟨2048 + (chan 2 i).val, by omega⟩)) * (a12 : Vec Ideal S4x128x128 .f32) (ix3 2 i d) := by
  pointwise [g2r, pr_at]
  refine Finset.sum_congr rfl fun i _ => ?_
  rw [window_at _ _ _ _ _ zero_init]
  refine congrArg₂ (· * ·) (congrArg₂ (· - ·) (congrArg (Ideal.div · _) (Finset.sum_congr rfl fun k _ => ?_)) ?_) rfl
  · pointwise [pr_at]
    refine if_congr ?_ ?_ rfl
    · show _ ↔ c.val ≤ k.val + 4 ∧ k.val < c.val + 4
      omega
    · refine congrArg z (congrArg (ix3 b _) (Fin.ext ?_))
      show 2048 + (256 + i.val) = 2048 + (128 * 2 + i.val)
      omega
  · refine congrArg z (congrArg (ix3 b _) (Fin.ext ?_))
    show 2048 + (256 + i.val) = 2048 + (128 * 2 + i.val)
    omega

theorem g3r_at (z : (⟨S4x4096x4608, .f32⟩ : BufTy).Contents (Elt Ideal)) (cn : (⟨S64, .f32⟩ : BufTy).Contents (Elt Ideal)) (a12 : (⟨S4x128x128, .f32⟩ : BufTy).Contents (Elt Ideal)) (b : Fin 4) (y c : Fin 64) (d : Fin 128) :
    (g3r z cn a12 : Vec Ideal S4x64x64x128 .f32) (ix4 b y c d)
      = ∑ i : Fin 128, (Ideal.div (∑ k : Fin 64, if inWin 3 c.val k.val then (z : Vec Ideal S4x4096x4608 .f32) (ix3 b ⟨64 * y.val + k.val, by omega⟩ ⟨2048 + (chan 3 i).val, by omega⟩) else 0) ((cn : Vec Ideal S64 .f32) (ix1 c))
          - (z : Vec Ideal S4x4096x4608 .f32) (ix3 b ⟨64 * y.val + c.val, by omega⟩ ⟨2048 + (chan 3 i).val, by omega⟩)) * (a12 : Vec Ideal S4x128x128 .f32) (ix3 3 i d) := by
  pointwise [g3r, pr_at]
  refine Finset.sum_congr rfl fun i _ => ?_
  rw [window_at _ _ _ _ _ zero_init]
  refine congrArg₂ (· * ·) (congrArg₂ (· - ·) (congrArg (Ideal.div · _) (Finset.sum_congr rfl fun k _ => ?_)) ?_) rfl
  · pointwise [pr_at]
    refine if_congr ?_ ?_ rfl
    · show _ ↔ c.val ≤ k.val + 8 ∧ k.val < c.val + 8
      omega
    · refine congrArg z (congrArg (ix3 b _) (Fin.ext ?_))
      show 2048 + (384 + i.val) = 2048 + (128 * 3 + i.val)
      omega
  · refine congrArg z (congrArg (ix3 b _) (Fin.ext ?_))
    show 2048 + (384 + i.val) = 2048 + (128 * 3 + i.val)
    omega

theorem yr_at (g0 g1 g2 g3 : (⟨S4x64x64x128, .f32⟩ : BufTy).Contents (Elt Ideal)) (a13 : (⟨S512, .f32⟩ : BufTy).Contents (Elt Ideal)) (b : Fin 4) (s : Fin 4096) (j : Fin 512) :
    (yr g0 g1 g2 g3 a13 : Vec Ideal S4x4096x512 .f32) (ix3 b s j)
      = ((![g0, g1, g2, g3] (cgrp j) : (⟨S4x64x64x128, .f32⟩ : BufTy).Contents (Elt Ideal)) : Vec Ideal S4x64x64x128 .f32) (ix4 b ⟨s.val / 64, by omega⟩ ⟨s.val % 64, by omega⟩ (cplc j)) * (a13 : Vec Ideal S512 .f32) (ix1 j) := by
  pointwise [yr]
  refine congrArg (· * _) ?_
  have hj := j.isLt
  by_cases h1 : j.val < 128
  · have e : cgrp j = 0 := Fin.ext (by show j.val / 128 = 0; omega)
    have e' : cplc j = ⟨j.val, h1⟩ := Fin.ext (by show j.val % 128 = j.val; omega)
    rw [e, e']
    exact dif_pos h1
  refine (dif_neg h1).trans ?_
  by_cases h2 : j.val - 128 < 128
  · have e : cgrp j = 1 := Fin.ext (by show j.val / 128 = 1; omega)
    have e' : cplc j = ⟨j.val - 128, h2⟩ := Fin.ext (by show j.val % 128 = j.val - 128; omega)
    rw [e, e']
    exact dif_pos h2
  refine (dif_neg h2).trans ?_
  by_cases h3 : j.val - 128 - 128 < 128
  · have e : cgrp j = 2 := Fin.ext (by show j.val / 128 = 2; omega)
    have e' : cplc j = ⟨j.val - 128 - 128, h3⟩ := Fin.ext (by show j.val % 128 = j.val - 128 - 128; omega)
    rw [e, e']
    exact dif_pos h3
  refine (dif_neg h3).trans ?_
  have e : cgrp j = 3 := Fin.ext (by show j.val / 128 = 3; omega)
  have e' : cplc j = ⟨j.val - 128 - 128 - 128, by omega⟩ := Fin.ext (by show j.val % 128 = j.val - 128 - 128 - 128; omega)
  rw [e, e']
  rfl

theorem hr_at (s4 : (⟨S4096x4x1024, .f32⟩ : BufTy).Contents (Elt Ideal)) (a2 : (⟨S4x4096x1024, .f32⟩ : BufTy).Contents (Elt Ideal)) (b : Fin 4) (s : Fin 4096) (l : Fin 1024) :
    (hr s4 a2 : Vec Ideal S4x4096x1024 .f32) (ix3 b s l) = (s4 : Vec Ideal S4096x4x1024 .f32) (ix3 ⟨4095 - s.val, by omega⟩ b l) + (a2 : Vec Ideal S4x4096x1024 .f32) (ix3 b s l) := by
  rw [add_comm]
  pointwise [hr]
  refine congrArg (_ + ·) (congrArg s4 ?_)
  show ix3 s.rev b l = ix3 _ b l
  exact congrArg (ix3 · b l) (Fin.ext (by rw [Fin.val_rev]; show 4096 - (s.val + 1) = 4095 - s.val; omega))

theorem fr_at (a0 : (⟨S4x4096x1024, .f32⟩ : BufTy).Contents (Elt Ideal)) (z : (⟨S4x4096x4608, .f32⟩ : BufTy).Contents (Elt Ideal)) (hs : (⟨S4x4096x1024, .f32⟩ : BufTy).Contents (Elt Ideal)) (y : (⟨S4x4096x512, .f32⟩ : BufTy).Contents (Elt Ideal)) (a3 : (⟨S8x6x1024, .f32⟩ : BufTy).Contents (Elt Ideal)) (a14 : (⟨S1024x1024, .f32⟩ : BufTy).Contents (Elt Ideal)) (a15 : (⟨S512x1024, .f32⟩ : BufTy).Contents (Elt Ideal)) (a16 : (⟨S1024x1024, .f32⟩ : BufTy).Contents (Elt Ideal)) (b : Fin 4) (s : Fin 4096) (l : Fin 1024) :
    (fr a0 z hs y a3 a14 a15 a16 : Vec Ideal S4x4096x1024 .f32) (ix3 b s l)
      = mixOut ((a0 : Vec Ideal S4x4096x1024 .f32) (ix3 b s l)) ((a3 : Vec Ideal S8x6x1024 .f32) (ix3 ⟨b.val, by omega⟩ 2 l)) (fun k => (hs : Vec Ideal S4x4096x1024 .f32) (ix3 b s k))
          (fun k => (z : Vec Ideal S4x4096x4608 .f32) (ix3 b s ⟨1024 + k.val, by omega⟩)) (fun k => (z : Vec Ideal S4x4096x4608 .f32) (ix3 b s ⟨2560 + k.val, by omega⟩)) (fun k => (z : Vec Ideal S4x4096x4608 .f32) (ix3 b s ⟨3584 + k.val, by omega⟩))
          (fun j => (y : Vec Ideal S4x4096x512 .f32) (ix3 b s j)) (fun i k => (a14 : Vec Ideal S1024x1024 .f32) (ix2 i k)) (fun i k => (a15 : Vec Ideal S512x1024 .f32) (ix2 i k)) (fun k => (a16 : Vec Ideal S1024x1024 .f32) (ix2 k l)) := by
  unfold mixOut gelu geluFactor Ideal.logistic
  pointwise [fr]
  have hc : ∀ x : EReal, x * x * x = x * (x * x) := fun x => mul_assoc x x x
  have hi : ∀ k : Fin 1024, (⟨2560 + (1024 + k.val), by omega⟩ : Fin 4608) = ⟨3584 + k.val, by omega⟩ := fun k => Fin.ext (by show 2560 + (1024 + k.val) = 3584 + k.val; omega)
  simp only [hc, hi]

end Cert.MixerRefIdeal.HandRun
end
-- ==== Proof.MixerRefRun.lean ====
/- The run of the reference `MixerRefIdeal` over the standalone step of its loop: at contents that HOLD a state every value
   of one trip is that of the step, one trip keeps holding, what the operations before the loop leave holds the initial state,
   and the results are read off the state after the last trip. The text is that of the generated module of this
   name, with the stacked rows' step closed at the trip's lemma directly. -/
module

public import proofs.«01_k».proof.Proof.Gen.MixerRefIdeal.Run
public import proofs.«01_k».proof.Proof.Gen.MixerRefIdeal.Step

@[expose] public section

noncomputable section

namespace Cert.MixerRefIdeal.HandRun

open Idealize.ShloMosaic Idealize.ShloMosaic.TcCoe Idealize.SL.Sem Idealize.ShloMosaic.StableHlo
open Cert.MixerRefIdeal Cert.MixerRefIdeal.Gen Cert.MixerRefIdeal.Value
open Cert.MixerRefIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v46_3) = s.main_v46_3
  f_4 : V0 (Proc.devRef .tc main_v46_4) = s.main_v46_4
  f_0 : V0 (Proc.devRef .tc main_v46_0) = s.main_v46_0
  f_1 : V0 (Proc.devRef .tc main_v46_1) = s.main_v46_1
  n_2 : V0 (Proc.devRef .tc main_v46_2) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.MixerRefIdeal.Step.b0 j s := by
  unfold Cert.MixerRefIdeal.Step.b0
  rfl
set_option maxRecDepth 8192 in
theorem al_1 (h : Holds V0 s j) : (constantI S_ 32 0#32 : (Proc.devRef .tc main_while0b_call3_c_0 : DevRef τ sig).ty.Contents (Elt F)) = Cert.MixerRefIdeal.Step.b1 j s := by
  unfold Cert.MixerRefIdeal.Step.b1
  rfl
set_option maxRecDepth 8192 in
theorem al_2 (h : Holds V0 s j) : (Host.dynamicSlice S1x4x1024 (V0 (Proc.devRef .tc main_v46_0)) (fun k => (((![V0 (Proc.devRef .tc main_v46_2), constantI S_ 32 0#32, constantI S_ 32 0#32] : Fin 3 → (⟨S_, .i32⟩ : BufTy).Contents (Elt F))) k (Shape.Idx.first h_S_)).toInt) sliceFits_S4096x4x1024_S1x4x1024 : (Proc.devRef .tc main_while0b_call3_v0 : DevRef τ sig).ty.Contents (Elt F)) = Cert.MixerRefIdeal.Step.b2 j s := by
  unfold Cert.MixerRefIdeal.Step.b2
  rw [← al_0 h, ← al_1 h, h.f_0, h.n_2]
  try rfl
set_option maxRecDepth 8192 in
theorem al_3 (h : Holds V0 s j) : (shapeCast S4x1024 (Host.dynamicSlice S1x4x1024 (V0 (Proc.devRef .tc main_v46_0)) (fun k => (((![V0 (Proc.devRef .tc main_v46_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024 : (Proc.devRef .tc main_while0b_v215 : DevRef τ sig).ty.Contents (Elt F)) = Cert.MixerRefIdeal.Step.b3 j s := by
  unfold Cert.MixerRefIdeal.Step.b3
  rw [← al_2 h]
  try rfl
set_option maxRecDepth 8192 in
theorem al_4 (h : Holds V0 s j) : (constantI S_ 32 0#32 : (Proc.devRef .tc main_while0b_call4_c : DevRef τ sig).ty.Contents (Elt F)) = Cert.MixerRefIdeal.Step.b4 j s := by
  unfold Cert.MixerRefIdeal.Step.b4
  rfl
set_option maxRecDepth 8192 in
theorem al_5 (h : Holds V0 s j) : (constantI S_ 32 0#32 : (Proc.devRef .tc main_while0b_call4_c_0 : DevRef τ sig).ty.Contents (Elt F)) = Cert.MixerRefIdeal.Step.b5 j s := by
  unfold Cert.MixerRefIdeal.Step.b5
  rfl
set_option maxRecDepth 8192 in
theorem al_6 (h : Holds V0 s j) : (Host.dynamicSlice S1x4x1024 (V0 (Proc.devRef .tc main_v46_1)) (fun k => (((![V0 (Proc.devRef .tc main_v46_2), constantI S_ 32 0#32, constantI S_ 32 0#32] : Fin 3 → (⟨S_, .i32⟩ : BufTy).Contents (Elt F))) k (Shape.Idx.first h_S_)).toInt) sliceFits_S4096x4x1024_S1x4x1024 : (Proc.devRef .tc main_while0b_call4_v0 : DevRef τ sig).ty.Contents (Elt F)) = Cert.MixerRefIdeal.Step.b6 j s := by
  unfold Cert.MixerRefIdeal.Step.b6
  rw [← al_4 h, ← al_5 h, h.f_1, h.n_2]
  try rfl
set_option maxRecDepth 8192 in
theorem al_7 (h : Holds V0 s j) : (shapeCast S4x1024 (Host.dynamicSlice S1x4x1024 (V0 (Proc.devRef .tc main_v46_1)) (fun k => (((![V0 (Proc.devRef .tc main_v46_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024 : (Proc.devRef .tc main_while0b_v216 : DevRef τ sig).ty.Contents (Elt F)) = Cert.MixerRefIdeal.Step.b7 j s := by
  unfold Cert.MixerRefIdeal.Step.b7
  rw [← al_6 h]
  try rfl
set_option maxRecDepth 8192 in
theorem al_8 (h : Holds V0 s j) : (mulf (shapeCast S4x1024 (Host.dynamicSlice S1x4x1024 (V0 (Proc.devRef .tc main_v46_0)) (fun k => (((![V0 (Proc.devRef .tc main_v46_2), constantI S_ 32 0#32, constantI S_ 32 0#32] : Fin 3 → (⟨S_, .i32⟩ : BufTy).Contents (Elt F))) k (Shape.Idx.first h_S_)).toInt) sliceFits_S4096x4x1024_S1x4x1024) shapeCasts_S1x4x1024_S4x1024) (V0 (Proc.devRef .tc main_v46_3)) : (Proc.devRef .tc main_while0b_v217 : DevRef τ sig).ty.Contents (Elt F)) = Cert.MixerRefIdeal.Step.b8 j s := by
  unfold Cert.MixerRefIdeal.Step.b8
  rw [← al_3 h, h.f_3]
  try rfl
set_option maxRecDepth 8192 in
theorem al_9 (h : Holds V0 s j) : (res_main_while0b_v218 V0 : (Proc.devRef .tc main_while0b_v218 : DevRef τ sig).ty.Contents (Elt F)) = Cert.MixerRefIdeal.Step.b9 j s := by
  unfold res_main_while0b_v218 Cert.MixerRefIdeal.Step.b9
  rw [← al_8 h, ← al_7 h]
  try rfl
set_option maxRecDepth 8192 in
theorem al_10 (h : Holds V0 s j) : (broadcastInDim S1x4x1024 ![1, 2] bcast_S4x1024_S1x4x1024_1_2 (res_main_while0b_v218 V0) : (Proc.devRef .tc main_while0b_call5_v0 : DevRef τ sig).ty.Contents (Elt F)) = Cert.MixerRefIdeal.Step.b10 j s := by
  unfold Cert.MixerRefIdeal.Step.b10
  rw [← al_9 h]
  try rfl
set_option maxRecDepth 8192 in
theorem al_11 (h : Holds V0 s j) : (constantI S_ 32 0#32 : (Proc.devRef .tc main_while0b_call5_c : DevRef τ sig).ty.Contents (Elt F)) = Cert.MixerRefIdeal.Step.b11 j s := by
  unfold Cert.MixerRefIdeal.Step.b11
  rfl
set_option maxRecDepth 8192 in
theorem al_12 (h : Holds V0 s j) : (constantI S_ 32 0#32 : (Proc.devRef .tc main_while0b_call5_c_0 : DevRef τ sig).ty.Contents (Elt F)) = Cert.MixerRefIdeal.Step.b12 j s := by
  unfold Cert.MixerRefIdeal.Step.b12
  rfl
set_option maxRecDepth 8192 in
theorem al_13 (h : Holds V0 s j) : (Host.dynamicUpdateSlice (V0 (Proc.devRef .tc main_v46_4)) (broadcastInDim S1x4x1024 ![1, 2] bcast_S4x1024_S1x4x1024_1_2 (res_main_while0b_v218 V0)) (fun k => (((![V0 (Proc.devRef .tc main_v46_2), constantI S_ 32 0#32, constantI S_ 32 0#32] : Fin 3 → (⟨S_, .i32⟩ : BufTy).Contents (Elt F))) k (Shape.Idx.first h_S_)).toInt) updateFits_S4096x4x1024_S1x4x1024 : (Proc.devRef .tc main_while0b_v219 : DevRef τ sig).ty.Contents (Elt F)) = Cert.MixerRefIdeal.Step.b13 j s := by
  unfold Cert.MixerRefIdeal.Step.b13
  rw [← al_10 h, ← al_11 h, ← al_12 h, h.f_4, h.n_2]
  try rfl

/-! One trip's step of the carried values is `step`, field by field; a counter steps to the next number. -/

theorem step_3 (h : Holds V0 s j) : step_main_v46_3 V0 = (step j s).main_v46_3 := by
  unfold step_main_v46_3 Cert.MixerRefIdeal.Step.step
  show id (res_main_while0b_v218 V0) = _
  rw [al_9 h]
  try rfl
theorem step_4 (h : Holds V0 s j) : step_main_v46_4 V0 = (step j s).main_v46_4 := by
  unfold step_main_v46_4 Cert.MixerRefIdeal.Step.step
  exact al_13 h
theorem step_2 (h : Holds V0 s j) : step_main_v46_2 V0 = constantI S_ 32 (BitVec.ofNat 32 (j + 1)) := by
  unfold step_main_v46_2
  rw [h.n_2]
  funext i
  show BitVec.ofNat 32 j + 1#32 = BitVec.ofNat 32 (j + 1)
  simp only [BitVec.ofNat_add]

set_option maxRecDepth 8192 in
theorem out_main_v213_holds (h : Holds V0 s j) {x_main_arg0 : (⟨S4x4096x1024, .f32⟩ : BufTy).Contents (Elt F)} (h_main_arg0 : V0 (Proc.devRef .tc main_arg0) = x_main_arg0) {x_main_arg2 : (⟨S4x4096x1024, .f32⟩ : BufTy).Contents (Elt F)} (h_main_arg2 : V0 (Proc.devRef .tc main_arg2) = x_main_arg2) {x_main_arg3 : (⟨S8x6x1024, .f32⟩ : BufTy).Contents (Elt F)} (h_main_arg3 : V0 (Proc.devRef .tc main_arg3) = x_main_arg3) {x_main_arg4 : (⟨S1024, .f32⟩ : BufTy).Contents (Elt F)} (h_main_arg4 : V0 (Proc.devRef .tc main_arg4) = x_main_arg4) {x_main_arg5 : (⟨S1024x4608, .f32⟩ : BufTy).Contents (Elt F)} (h_main_arg5 : V0 (Proc.devRef .tc main_arg5) = x_main_arg5) {x_main_arg12 : (⟨S4x128x128, .f32⟩ : BufTy).Contents (Elt F)} (h_main_arg12 : V0 (Proc.devRef .tc main_arg12) = x_main_arg12) {x_main_arg13 : (⟨S512, .f32⟩ : BufTy).Contents (Elt F)} (h_main_arg13 : V0 (Proc.devRef .tc main_arg13) = x_main_arg13) {x_main_arg14 : (⟨S1024x1024, .f32⟩ : BufTy).Contents (Elt F)} (h_main_arg14 : V0 (Proc.devRef .tc main_arg14) = x_main_arg14) {x_main_arg15 : (⟨S512x1024, .f32⟩ : BufTy).Contents (Elt F)} (h_main_arg15 : V0 (Proc.devRef .tc main_arg15) = x_main_arg15) {x_main_arg16 : (⟨S1024x1024, .f32⟩ : BufTy).Contents (Elt F)} (h_main_arg16 : V0 (Proc.devRef .tc main_arg16) = x_main_arg16) : out_main_v213 V0 = Cert.MixerRefIdeal.Step.R_main_v213 s x_main_arg0 x_main_arg2 x_main_arg3 x_main_arg4 x_main_arg5 x_main_arg12 x_main_arg13 x_main_arg14 x_main_arg15 x_main_arg16 := by
  unfold out_main_v213 Cert.MixerRefIdeal.Step.R_main_v213
  rw [h_main_arg0, h_main_arg2, h_main_arg3, h_main_arg4, h_main_arg5, h_main_arg12, h_main_arg13, h_main_arg14, h_main_arg15, h_main_arg16, h.f_4]
  try rfl

set_option maxRecDepth 8192 in
theorem out_main_v214_holds (h : Holds V0 s j) : out_main_v214 V0 = Cert.MixerRefIdeal.Step.R_main_v214 s := by
  unfold out_main_v214 Cert.MixerRefIdeal.Step.R_main_v214
  rw [h.f_4]
  try rfl

/-- One trip keeps the valuation holding: `step` of the state, the same set-up values, the next number. -/
theorem holds_step (h : Holds V0 s j) : Holds (STEP V0) (step j s) (j + 1) where
  f_3 := (STEP_main_v46_3 V0).trans (step_3 h)
  f_4 := (STEP_main_v46_4 V0).trans (step_4 h)
  n_2 := (STEP_main_v46_2 V0).trans (step_2 h)
  f_0 := (STEP_main_v46_0 V0).trans h.f_0
  f_1 := (STEP_main_v46_1 V0).trans h.f_1

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MixerRefIdeal` terminates with each result at its field of state
    number 4096 of any per-core sequence of states that starts at `initState` and goes on by `step`. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v213) = Cert.MixerRefIdeal.Step.R_main_v213 (it c 4096) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v214) = Cert.MixerRefIdeal.Step.R_main_v214 (it c 4096) :=
  (θ_run defs _ _).mono (fun _ h c =>
    have hk := holds_iter m c (it c) (h0 c) (hs c) 4096
    ⟨(h c).1.trans (out_main_v213_holds hk (iter_main_arg0 m c 4096) (iter_main_arg2 m c 4096) (iter_main_arg3 m c 4096) (iter_main_arg4 m c 4096) (iter_main_arg5 m c 4096) (iter_main_arg12 m c 4096) (iter_main_arg13 m c 4096) (iter_main_arg14 m c 4096) (iter_main_arg15 m c 4096) (iter_main_arg16 m c 4096)),
      (h c).2.1.trans (out_main_v214_holds hk)⟩) (Value.run m ρ)

end Cert.MixerRefIdeal.HandRun

end
-- ==== Proof.MixerRefValue.lean ====
module

public import proofs.«01_k».proof.Proof.MixerRefTail
public import proofs.«01_k».proof.Proof.MixerRefRun
public import Idealize.ShloMosaic.Lib.Pointwise
public import Idealize.ShloMosaic.Lib.DynamicIndex
public import Idealize.ShloMosaic.Lib.WordCmp
public import Idealize.ShloMosaic.Lib.Pipeline.ValueKit

/-! The branch-merge reference read as the shared row mathematics: what it computes before its loop, one trip, the state
after any number of trips, and its two results. -/

@[expose] public section
set_option maxRecDepth 16384
noncomputable section
namespace Cert.MixerRefIdeal.HandRun
open Cert.MixerRefIdeal Cert.MixerRefIdeal.Gen Cert.MixerRefIdeal.Step Cert.Rows Idealize.ShloMosaic Idealize.ShloMosaic.TcCoe Idealize.SL.Sem

variable (a0 : (⟨S4x4096x1024, .f32⟩ : BufTy).Contents (Elt Ideal)) (a1 : (⟨S4x4096x1024, .f32⟩ : BufTy).Contents (Elt Ideal)) (a2 : (⟨S4x4096x1024, .f32⟩ : BufTy).Contents (Elt Ideal)) (a3 : (⟨S8x6x1024, .f32⟩ : BufTy).Contents (Elt Ideal)) (a4 : (⟨S1024, .f32⟩ : BufTy).Contents (Elt Ideal)) (a5 : (⟨S1024x4608, .f32⟩ : BufTy).Contents (Elt Ideal)) (a6 : (⟨S16x64x64, .f32⟩ : BufTy).Contents (Elt Ideal)) (a7 : (⟨S1024, .f32⟩ : BufTy).Contents (Elt Ideal)) (a8 : (⟨S16x64x64, .f32⟩ : BufTy).Contents (Elt Ideal)) (a9 : (⟨S1024, .f32⟩ : BufTy).Contents (Elt Ideal)) (a10 : (⟨S1024, .f32⟩ : BufTy).Contents (Elt Ideal)) (a11 : (⟨S4x1x1024, .f32⟩ : BufTy).Contents (Elt Ideal)) (a12 : (⟨S4x128x128, .f32⟩ : BufTy).Contents (Elt Ideal)) (a13 : (⟨S512, .f32⟩ : BufTy).Contents (Elt Ideal)) (a14 : (⟨S1024x1024, .f32⟩ : BufTy).Contents (Elt Ideal)) (a15 : (⟨S512x1024, .f32⟩ : BufTy).Contents (Elt Ideal)) (a16 : (⟨S1024x1024, .f32⟩ : BufTy).Contents (Elt Ideal))

/-- The inputs of batch entry `b`. -/
def inp (b : Fin 4) : MixIn where
  X s l := (a0 : Vec Ideal S4x4096x1024 .f32) (ix3 b s l)
  uc s l := (a1 : Vec Ideal S4x4096x1024 .f32) (ix3 b s l)
  hf s l := (a2 : Vec Ideal S4x4096x1024 .f32) (ix3 b s l)
  M k l := (a3 : Vec Ideal S8x6x1024 .f32) (ix3 ⟨b.val, by omega⟩ k l)
  G l := (a4 : Vec Ideal S1024 .f32) (ix1 l)
  W k l := (a5 : Vec Ideal S1024x4608 .f32) (ix2 k l)
  wr h k l := (a6 : Vec Ideal S16x64x64 .f32) (ix3 h k l)
  br l := (a7 : Vec Ideal S1024 .f32) (ix1 l)
  wi h k l := (a8 : Vec Ideal S16x64x64 .f32) (ix3 h k l)
  bi l := (a9 : Vec Ideal S1024 .f32) (ix1 l)
  lam l := (a10 : Vec Ideal S1024 .f32) (ix1 l)
  h0 l := (a11 : Vec Ideal S4x1x1024 .f32) (ix3 b 0 l)
  pw q i d := (a12 : Vec Ideal S4x128x128 .f32) (ix3 q i d)
  ps j := (a13 : Vec Ideal S512 .f32) (ix1 j)
  wlo i k := (a14 : Vec Ideal S1024x1024 .f32) (ix2 i k)
  wpo i k := (a15 : Vec Ideal S512x1024 .f32) (ix2 i k)
  wo i k := (a16 : Vec Ideal S1024x1024 .f32) (ix2 i k)

/-- The gate over the decay. -/
theorem gr_at (b : Fin 4) (s : Fin 4096) (l : Fin 1024) : (A_main_v12 a1 a6 a7 a8 a9 a10 a11 : Vec Ideal S4x4096x1024 .f32) (ix3 b s l) = (inp a0 a1 a2 a3 a4 a5 a6 a7 a8 a9 a10 a11 a12 a13 a14 a15 a16 b).GR s l := by
  unfold MixIn.GR gate inp FrontIn.mate FrontIn.head FrontIn.place
  pointwise [A_main_v0, A_main_v1, A_main_v2, A_main_v3, A_main_v4, A_main_v5, A_main_v6, A_main_v7, A_main_v8, A_main_v10, A_main_v12, K_main_cst, K_main_v9, K_main_cst_0, K_main_v11]
  unfold Ideal.logistic
  simp only [mul_comm (a6 _), Nat.mul_comm _ 64]

/-- The gate over the input. -/
theorem gi_at (b : Fin 4) (s : Fin 4096) (l : Fin 1024) : (A_main_v24 a1 a6 a7 a8 a9 a10 a11 : Vec Ideal S4x4096x1024 .f32) (ix3 b s l) = (inp a0 a1 a2 a3 a4 a5 a6 a7 a8 a9 a10 a11 a12 a13 a14 a15 a16 b).GI s l := by
  unfold MixIn.GI gate inp FrontIn.mate FrontIn.head FrontIn.place
  pointwise [A_main_v0, A_main_v13, A_main_v14, A_main_v15, A_main_v16, A_main_v17, A_main_v18, A_main_v19, A_main_v20, A_main_v22, A_main_v24, K_main_cst_1, K_main_v21, K_main_cst_2, K_main_v23]
  unfold Ideal.logistic
  simp only [mul_comm (a8 _), Nat.mul_comm _ 64]

/-- The soft threshold. -/
theorem soft_at (l : Fin 1024) : (A_main_v28 a1 a6 a7 a8 a9 a10 a11 : Vec Ideal S1024 .f32) (ix1 l) = soft ((a10 : Vec Ideal S1024 .f32) (ix1 l)) := by
  pointwise [A_main_v27, A_main_v28, A_main_call0_v1, A_main_call0_v3, A_main_call0_v4, A_main_call0_v6, A_main_call0_v7, A_main_call0_v8, A_main_call0_v9, A_main_call0_v10, A_main_call0_v11, K_main_call0_v0, K_main_call0_v2, K_main_call0_v5, K_main_call0_cst]
  exact if_neg (fun h => h rfl)

/-- The recurrence's factor. -/
theorem fa_at (b : Fin 4) (s : Fin 4096) (l : Fin 1024) : (A_main_v32 a1 a6 a7 a8 a9 a10 a11 : Vec Ideal S4x4096x1024 .f32) (ix3 b s l) = (inp a0 a1 a2 a3 a4 a5 a6 a7 a8 a9 a10 a11 a12 a13 a14 a15 a16 b).FA s l := by
  unfold MixIn.FA decay
  rw [← log_decay, ← gr_at]
  have hs := soft_at a1 a6 a7 a8 a9 a10 a11 l
  unfold inp
  pointwise [A_main_v26, A_main_v29, A_main_v30, A_main_v31, A_main_v32, K_main_cst_3, K_main_v25, hs]
  done

/-- The recurrence's input. -/
theorem fb_at (b : Fin 4) (s : Fin 4096) (l : Fin 1024) : (A_main_v39 a1 a6 a7 a8 a9 a10 a11 : Vec Ideal S4x4096x1024 .f32) (ix3 b s l) = (inp a0 a1 a2 a3 a4 a5 a6 a7 a8 a9 a10 a11 a12 a13 a14 a15 a16 b).FB s l := by
  unfold MixIn.FB drive
  rw [← factor_eq ((inp a0 a1 a2 a3 a4 a5 a6 a7 a8 a9 a10 a11 a12 a13 a14 a15 a16 b).GR s l) _ (logistic_nonneg _) (soft_nonneg _), ← log_decay, ← gr_at, ← gi_at]
  have hs := soft_at a1 a6 a7 a8 a9 a10 a11 l
  unfold inp
  pointwise [A_main_v26, A_main_v29, A_main_v30, A_main_v31, A_main_v34, A_main_v35, A_main_v36, A_main_v37, A_main_v38, A_main_v39, K_main_cst_3, K_main_v25, K_main_cst_4, K_main_v33, hs]
  done

/-- The new state of a trip. -/
theorem b9_at (j : ℕ) (hj : j < 4096) (st : State Ideal) (b : Fin 4) (l : Fin 1024) :
    (b9 j st : Vec Ideal S4x1024 .f32) (ix2 b l) = (st.main_v46_0 : Vec Ideal S4096x4x1024 .f32) (ix3 ⟨j, hj⟩ b l) * (st.main_v46_3 : Vec Ideal S4x1024 .f32) (ix2 b l)
      + (st.main_v46_1 : Vec Ideal S4096x4x1024 .f32) (ix3 ⟨j, hj⟩ b l) := by
  have hs : S4096x4x1024.Slices ![j, 0, 0] S1x4x1024 := ⟨rfl, fun a => by
    match a with
    | ⟨0, _⟩ => show j + 1 ≤ 4096; omega
    | ⟨1, _⟩ => show 0 + 4 ≤ 4; omega
    | ⟨2, _⟩ => show 0 + 1024 ≤ 1024; omega⟩
  have hz : ∀ a : Fin 3, (((![(constantI S_ 32 (BitVec.ofNat 32 j)), constantI S_ 32 0#32, constantI S_ 32 0#32] : Fin 3 → (⟨S_, .i32⟩ : BufTy).Contents (Elt Ideal)) a) (Shape.Idx.first h_S_)).toInt = ((![j, 0, 0] : Fin 3 → ℕ) a : Int) := fun a => by
    match a with
    | ⟨0, _⟩ => exact toInt_ofNat_of_lt (k := j) (by omega)
    | ⟨1, _⟩ => rfl
    | ⟨2, _⟩ => rfl
  have e2 : b2 j st = extractStridedSlice S1x4x1024 ![j, 0, 0] st.main_v46_0 hs := WordCmp.dynamicSlice_eq_extract _ _ _ _ _ hs hz
  have e6 : b6 j st = extractStridedSlice S1x4x1024 ![j, 0, 0] st.main_v46_1 hs := WordCmp.dynamicSlice_eq_extract _ _ _ _ _ hs hz
  pointwise [b9, b8, b7, b3, e2, e6]

/-- The stacked rows after a trip. -/
theorem b13_at (j : ℕ) (hj : j < 4096) (st : State Ideal) (n : Fin 4096) (b : Fin 4) (l : Fin 1024) :
    (b13 j st : Vec Ideal S4096x4x1024 .f32) (ix3 n b l) = if n.val = j then (b9 j st : Vec Ideal S4x1024 .f32) (ix2 b l) else (st.main_v46_4 : Vec Ideal S4096x4x1024 .f32) (ix3 n b l) := by
  have hs : S4096x4x1024.Slices ![j, 0, 0] S1x4x1024 := ⟨rfl, fun a => by
    match a with
    | ⟨0, _⟩ => show j + 1 ≤ 4096; omega
    | ⟨1, _⟩ => show 0 + 4 ≤ 4; omega
    | ⟨2, _⟩ => show 0 + 1024 ≤ 1024; omega⟩
  have hz : ∀ a : Fin 3, (((![(constantI S_ 32 (BitVec.ofNat 32 j)), constantI S_ 32 0#32, constantI S_ 32 0#32] : Fin 3 → (⟨S_, .i32⟩ : BufTy).Contents (Elt Ideal)) a) (Shape.Idx.first h_S_)).toInt = ((![j, 0, 0] : Fin 3 → ℕ) a : Int) := fun a => by
    match a with
    | ⟨0, _⟩ => exact toInt_ofNat_of_lt (k := j) (by omega)
    | ⟨1, _⟩ => rfl
    | ⟨2, _⟩ => rfl
  have e : b13 j st = updateSlice st.main_v46_4 (b10 j st) ![j, 0, 0] hs := WordCmp.dynamicUpdateSlice_eq_update _ _ _ _ _ hs hz
  pointwise [e, b10]
  by_cases h : n.val = j
  · rw [if_pos h, dif_pos ⟨by omega, by omega⟩]
  · rw [if_neg h, dif_neg (fun e => h (by omega))]

/-- The states of the loop. -/
def states : ℕ → State Ideal
  | 0 => init a1 a6 a7 a8 a9 a10 a11
  | n + 1 => step n (states n)

theorem states_a : ∀ n, (states a1 a6 a7 a8 a9 a10 a11 n).main_v46_0 = A_main_v43 a1 a6 a7 a8 a9 a10 a11
  | 0 => rfl
  | n + 1 => states_a n

theorem states_b : ∀ n, (states a1 a6 a7 a8 a9 a10 a11 n).main_v46_1 = A_main_v44 a1 a6 a7 a8 a9 a10 a11
  | 0 => rfl
  | n + 1 => states_b n

/-- The reversed and swapped factor and input. -/
theorem fa_swap (n : Fin 4096) (b : Fin 4) (l : Fin 1024) : (A_main_v43 a1 a6 a7 a8 a9 a10 a11 : Vec Ideal S4096x4x1024 .f32) (ix3 n b l) = (inp a0 a1 a2 a3 a4 a5 a6 a7 a8 a9 a10 a11 a12 a13 a14 a15 a16 b).FA (MixIn.tok n.val) l := by
  rw [← fa_at]
  pointwise [A_main_v41, A_main_v43]
  refine congrArg (A_main_v32 a1 a6 a7 a8 a9 a10 a11 : Vec Ideal S4x4096x1024 .f32) ?_
  show ix3 b n.rev l = ix3 b (MixIn.tok n.val) l
  exact congrArg (ix3 b · l) (Fin.ext (by rw [Fin.val_rev]; show 4096 - (n.val + 1) = 4095 - n.val; omega))
theorem fb_swap (n : Fin 4096) (b : Fin 4) (l : Fin 1024) : (A_main_v44 a1 a6 a7 a8 a9 a10 a11 : Vec Ideal S4096x4x1024 .f32) (ix3 n b l) = (inp a0 a1 a2 a3 a4 a5 a6 a7 a8 a9 a10 a11 a12 a13 a14 a15 a16 b).FB (MixIn.tok n.val) l := by
  rw [← fb_at]
  pointwise [A_main_v42, A_main_v44]
  refine congrArg (A_main_v39 a1 a6 a7 a8 a9 a10 a11 : Vec Ideal S4x4096x1024 .f32) ?_
  show ix3 b n.rev l = ix3 b (MixIn.tok n.val) l
  exact congrArg (ix3 b · l) (Fin.ext (by rw [Fin.val_rev]; show 4096 - (n.val + 1) = 4095 - n.val; omega))

/-- The carried state after `n` trips. -/
theorem states_h (b : Fin 4) (l : Fin 1024) : ∀ n, n ≤ 4096 → ((states a1 a6 a7 a8 a9 a10 a11 n).main_v46_3 : Vec Ideal S4x1024 .f32) (ix2 b l) = (inp a0 a1 a2 a3 a4 a5 a6 a7 a8 a9 a10 a11 a12 a13 a14 a15 a16 b).H n l
  | 0, _ => by
    show (A_main_v40 a1 a6 a7 a8 a9 a10 a11 : Vec Ideal S4x1024 .f32) (ix2 b l) = (inp a0 a1 a2 a3 a4 a5 a6 a7 a8 a9 a10 a11 a12 a13 a14 a15 a16 b).h0 l
    unfold inp
    pointwise [A_main_v40]
  | n + 1, hn => by
    refine (b9_at n (by omega) (states a1 a6 a7 a8 a9 a10 a11 n) b l).trans ?_
    rw [states_a, states_b, fa_swap a0 a1 a2 a3 a4 a5 a6 a7 a8 a9 a10 a11 a12 a13 a14 a15 a16, fb_swap a0 a1 a2 a3 a4 a5 a6 a7 a8 a9 a10 a11 a12 a13 a14 a15 a16, states_h b l n (by omega)]
    rfl

/-- The stacked rows after `n` trips. -/
theorem states_hs (b : Fin 4) (l : Fin 1024) (k : Fin 4096) : ∀ n, n ≤ 4096 → k.val < n →
    ((states a1 a6 a7 a8 a9 a10 a11 n).main_v46_4 : Vec Ideal S4096x4x1024 .f32) (ix3 k b l) = (inp a0 a1 a2 a3 a4 a5 a6 a7 a8 a9 a10 a11 a12 a13 a14 a15 a16 b).H (k.val + 1) l
  | 0, _, h => absurd h (Nat.not_lt_zero _)
  | n + 1, hn, h => by
    refine (b13_at n (by omega) (states a1 a6 a7 a8 a9 a10 a11 n) k b l).trans ?_
    by_cases e : k.val = n
    · rw [if_pos e, e]
      exact states_h a0 a1 a2 a3 a4 a5 a6 a7 a8 a9 a10 a11 a12 a13 a14 a15 a16 b l (n + 1) hn
    · rw [if_neg e]
      exact states_hs b l k n (by omega) (by omega)

/-! ## The results -/

theorem z_inp (b : Fin 4) (s : Fin 4096) (j : Fin 4608) : (zr a0 a3 a4 a5 : Vec Ideal S4x4096x4608 .f32) (ix3 b s j) = (inp a0 a1 a2 a3 a4 a5 a6 a7 a8 a9 a10 a11 a12 a13 a14 a15 a16 b).Z s j :=
  zr_at a0 a3 a4 a5 b s j

theorem hs_inp (b : Fin 4) (s : Fin 4096) (l : Fin 1024) : (hr (states a1 a6 a7 a8 a9 a10 a11 4096).main_v46_4 a2 : Vec Ideal S4x4096x1024 .f32) (ix3 b s l) = (inp a0 a1 a2 a3 a4 a5 a6 a7 a8 a9 a10 a11 a12 a13 a14 a15 a16 b).HS s l := by
  rw [hr_at, states_hs a0 a1 a2 a3 a4 a5 a6 a7 a8 a9 a10 a11 a12 a13 a14 a15 a16 b l ⟨4095 - s.val, by omega⟩ 4096 le_rfl (by show 4095 - s.val < 4096; omega)]
  unfold MixIn.HS
  have e : (⟨4095 - s.val, by omega⟩ : Fin 4096).val + 1 = 4096 - s.val := by show 4095 - s.val + 1 = _; omega
  rw [e]
  rfl

/-- The row of groups, at a group. -/
theorem y_inp (b : Fin 4) (s : Fin 4096) (j : Fin 512) :
    (yr (g0r (zr a0 a3 a4 a5) (cnt 2#32 1#32) a12) (g1r (zr a0 a3 a4 a5) (cnt 4#32 2#32) a12) (g2r (zr a0 a3 a4 a5) (cnt 8#32 4#32) a12) (g3r (zr a0 a3 a4 a5) (cnt 16#32 8#32) a12) a13 : Vec Ideal S4x4096x512 .f32) (ix3 b s j) = (inp a0 a1 a2 a3 a4 a5 a6 a7 a8 a9 a10 a11 a12 a13 a14 a15 a16 b).Y s j := by
  have hg : ∀ (q : Fin 4) (y c : Fin 64) (d : Fin 128), ((![g0r (zr a0 a3 a4 a5) (cnt 2#32 1#32) a12, g1r (zr a0 a3 a4 a5) (cnt 4#32 2#32) a12, g2r (zr a0 a3 a4 a5) (cnt 8#32 4#32) a12, g3r (zr a0 a3 a4 a5) (cnt 16#32 8#32) a12] q : (⟨S4x64x64x128, .f32⟩ : BufTy).Contents (Elt Ideal)) : Vec Ideal S4x64x64x128 .f32) (ix4 b y c d)
      = ∑ i : Fin 128, (Ideal.div (∑ k : Fin 64, if inWin q c.val k.val then (zr a0 a3 a4 a5 : Vec Ideal S4x4096x4608 .f32) (ix3 b ⟨64 * y.val + k.val, by omega⟩ ⟨2048 + (chan q i).val, by omega⟩) else 0) ((count q c.val : ℝ) : EReal)
          - (zr a0 a3 a4 a5 : Vec Ideal S4x4096x4608 .f32) (ix3 b ⟨64 * y.val + c.val, by omega⟩ ⟨2048 + (chan q i).val, by omega⟩)) * (a12 : Vec Ideal S4x128x128 .f32) (ix3 q i d) := fun q y c d =>
    match q with
    | 0 => by rw [← cnt_at0 c]; exact g0r_at (zr a0 a3 a4 a5) _ a12 b y c d
    | 1 => by rw [← cnt_at1 c]; exact g1r_at (zr a0 a3 a4 a5) _ a12 b y c d
    | 2 => by rw [← cnt_at2 c]; exact g2r_at (zr a0 a3 a4 a5) _ a12 b y c d
    | 3 => by rw [← cnt_at3 c]; exact g3r_at (zr a0 a3 a4 a5) _ a12 b y c d
  rw [yr_at, hg]
  simp only [z_inp a0 a1 a2 a3 a4 a5 a6 a7 a8 a9 a10 a11 a12 a13 a14 a15 a16]
  unfold MixIn.Y poolOut MixIn.S MixIn.P
  have e : (⟨64 * (s.val / 64) + s.val % 64, by omega⟩ : Fin 4096) = s := Fin.ext (Nat.div_add_mod s.val 64)
  simp only [e]
  rfl

theorem out_res (b : Fin 4) (s : Fin 4096) (l : Fin 1024) :
    (R_main_v213 (states a1 a6 a7 a8 a9 a10 a11 4096) a0 a2 a3 a4 a5 a12 a13 a14 a15 a16 : Vec Ideal S4x4096x1024 .f32) (ix3 b s l) = (inp a0 a1 a2 a3 a4 a5 a6 a7 a8 a9 a10 a11 a12 a13 a14 a15 a16 b).out s l := by
  rw [R_eq, fr_at]
  simp only [z_inp a0 a1 a2 a3 a4 a5 a6 a7 a8 a9 a10 a11 a12 a13 a14 a15 a16, hs_inp a0 a1 a2 a3 a4 a5 a6 a7 a8 a9 a10 a11 a12 a13 a14 a15 a16, y_inp a0 a1 a2 a3 a4 a5 a6 a7 a8 a9 a10 a11 a12 a13 a14 a15 a16]
  rfl

theorem last_res (b : Fin 4) (l : Fin 1024) :
    (R_main_v214 (states a1 a6 a7 a8 a9 a10 a11 4096) : Vec Ideal S4x1x1024 .f32) (ix3 b 0 l) = (inp a0 a1 a2 a3 a4 a5 a6 a7 a8 a9 a10 a11 a12 a13 a14 a15 a16 b).H 4096 l := by
  rw [← states_hs a0 a1 a2 a3 a4 a5 a6 a7 a8 a9 a10 a11 a12 a13 a14 a15 a16 b l ⟨4095, by omega⟩ 4096 le_rfl (by show 4095 < 4096; omega)]
  pointwise [R_main_v214]
  exact congrArg ((states a1 a6 a7 a8 a9 a10 a11 4096).main_v46_4 : Vec Ideal S4096x4x1024 .f32) (show ix3 4095 b l = ix3 ⟨4095, by omega⟩ b l from rfl)

/-! ## The run -/

variable (m : (ℓ : Loc nD τ sig) → Buf (Elt Ideal) ℓ) (ρ : Dev nD → PrngReg)

/-- A core's inputs, and its states. -/
abbrev inpM (c : Dev nD) (b : Fin 4) : MixIn := inp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) b
abbrev statesM (c : Dev nD) : ℕ → State Ideal := states (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- The run, at the states. -/
theorem run : θ_run (defs (F := Ideal)) (onTc (τ := τ) (main (F := Ideal))) ⟨m, fun _ => 0, ρ⟩ (fun r => ∀ c : Dev nD,
      r.2.mem ((c.tc : Thread nD τ).loc main_v213) = R_main_v213 (statesM m c 4096) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v214) = R_main_v214 (statesM m c 4096)) :=
  run_iter m ρ (statesM m) (fun _ => rfl) (fun _ _ => rfl)

end Cert.MixerRefIdeal.HandRun
end
-- ==== Proof.MixerAlg.lean ====
module

public import proofs.«01_k».proof.Proof.MixerFinal
public import proofs.«01_k».proof.Proof.MixerRefValue
public import proofs.«01_k».proof.Defs
public import Idealize.ShloMosaic.Lib.Claim

/-! The branch-merge pair's value claim. -/

@[expose] public section
set_option maxRecDepth 16384
noncomputable section
namespace Cert.MixerIdeal.Hand
open Cert.Rows Idealize.ShloMosaic Idealize.ShloMosaic.TcCoe Idealize.SL.Sem

/-- The shapes of the precondition's comparisons fit. -/
theorem pre_facts : Cert.Pre_finite.Facts where
  bcast_S_S4x4096x1024 := by decide
  bcast_S_S8x6x1024 := by decide
  bcast_S_S1024 := by decide
  bcast_S_S1024x4608 := by decide

/-- A magnitude below infinity is a real number's. -/
theorem num_of_lt (x : EReal) (h : FloatOps.cmpf (F := Ideal) (φ := .f32) .olt (FloatOps.absf (F := Ideal) (φ := .f32) x) (FloatOps.ofBits (F := Ideal) .f32 0x7F800000#32) = 1#1) : Num x := by
  induction x with
  | bot => exact absurd h (by simp [FloatOps.cmpf, FloatOps.absf, Ideal.cmp, Ideal.ofBits, Ideal.ieee])
  | top => exact absurd h (by simp [FloatOps.cmpf, FloatOps.absf, Ideal.cmp, Ideal.ofBits, Ideal.ieee])
  | coe r => exact ⟨r, rfl⟩

variable (m : (ℓ : Loc Cert.MixerIdeal.nD Cert.MixerIdeal.τ Cert.MixerIdeal.sig) → Buf (Elt Ideal) ℓ)

/-- The precondition makes a batch entry's rows, modulation, gain and weights real. -/
theorem real_of_pre (h : Cert.Pre_MixerIdeal_finite (hPre_finite := pre_facts) m) (c : Dev Cert.MixerIdeal.nD) (b : Fin 4) : Real4 (inp m c b) := by
  obtain ⟨h0, h3, h4, h5⟩ := h c
  refine ⟨fun s l => num_of_lt _ ?_, fun k l => num_of_lt _ ?_, fun l => num_of_lt _ ?_, fun k j => num_of_lt _ ?_⟩
  · exact congrFun h0 (ix3 b s l)
  · exact congrFun h3 (ix3 ⟨b.val, by omega⟩ k l)
  · exact congrFun h4 (ix1 l)
  · exact congrFun h5 (ix2 k j)

/-- The branch-merge call and its reference end with the same two arrays. -/
theorem algebraic : Cert.algebraic_MixerIdeal_MixerRefIdeal_pre_finite (hPre_finite := pre_facts) := by
  pair_intro
  · run_from run m g (real_of_pre m hpre)
  · have hi : ∀ (c : Dev Cert.MixerRefIdeal.nD) (b : Fin 4), Cert.MixerRefIdeal.HandRun.inpM m' c b = inp m c b := by
      intro c b
      obtain ⟨a0, a1, a2, a3, a4, a5, a6, a7, a8, a9, a10, a11, a12, a13, a14, a15, a16⟩ := hagree c
      unfold Cert.MixerRefIdeal.HandRun.inpM
      rw [a0, a1, a2, a3, a4, a5, a6, a7, a8, a9, a10, a11, a12, a13, a14, a15, a16]
      rfl
    refine (θ_run _ _ _).mono (fun r h c => ⟨(h.1 c).1.trans ?_, (h.1 c).2.trans ?_, (h.2 c).2.2⟩) (θ_run_and (Cert.MixerRefIdeal.HandRun.run m' g') (Cert.MixerRefIdeal.Value.run m' g'))
    · funext j
      idx_vars j
      exact (Cert.MixerRefIdeal.HandRun.out_res _ _ _ _ _ _ _ _ _ _ _ _ _ _ _ _ _ _ _ _).trans (congrArg (fun I : MixIn => I.out _ _) (hi c _))
    · funext j
      idx_vars j
      obtain rfl : j1 = (0 : Fin 1) := Subsingleton.elim _ _
      exact (Cert.MixerRefIdeal.HandRun.last_res (m' ((c.tc : Thread Cert.MixerRefIdeal.nD Cert.MixerRefIdeal.τ).loc Cert.MixerRefIdeal.main_arg0)) _ (m' ((c.tc : Thread Cert.MixerRefIdeal.nD Cert.MixerRefIdeal.τ).loc Cert.MixerRefIdeal.main_arg2)) (m' ((c.tc : Thread Cert.MixerRefIdeal.nD Cert.MixerRefIdeal.τ).loc Cert.MixerRefIdeal.main_arg3)) (m' ((c.tc : Thread Cert.MixerRefIdeal.nD Cert.MixerRefIdeal.τ).loc Cert.MixerRefIdeal.main_arg4)) (m' ((c.tc : Thread Cert.MixerRefIdeal.nD Cert.MixerRefIdeal.τ).loc Cert.MixerRefIdeal.main_arg5)) _ _ _ _ _ _
        (m' ((c.tc : Thread Cert.MixerRefIdeal.nD Cert.MixerRefIdeal.τ).loc Cert.MixerRefIdeal.main_arg12)) (m' ((c.tc : Thread Cert.MixerRefIdeal.nD Cert.MixerRefIdeal.τ).loc Cert.MixerRefIdeal.main_arg13)) (m' ((c.tc : Thread Cert.MixerRefIdeal.nD Cert.MixerRefIdeal.τ).loc Cert.MixerRefIdeal.main_arg14)) (m' ((c.tc : Thread Cert.MixerRefIdeal.nD Cert.MixerRefIdeal.τ).loc Cert.MixerRefIdeal.main_arg15)) (m' ((c.tc : Thread Cert.MixerRefIdeal.nD Cert.MixerRefIdeal.τ).loc Cert.MixerRefIdeal.main_arg16)) _ _).trans
        (congrArg (fun I : MixIn => I.H _ _) (hi c _))

end Cert.MixerIdeal.Hand
end
-- ==== Proof.lean ====
module

public import proofs.«01_k».proof.Defs
public import proofs.«01_k».proof.Proof.Gen.Front
public import proofs.«01_k».proof.Proof.Gen.FrontIdeal
public import proofs.«01_k».proof.Proof.Gen.FrontRefIdeal
public import proofs.«01_k».proof.Proof.FrontBodyBits
public import proofs.«01_k».proof.Proof.FrontAlg
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.MlpAlg
public import proofs.«01_k».proof.Proof.Gen.Mixer.Loops
public import proofs.«01_k».proof.Proof.Gen.MixerIdeal.Loops
public import proofs.«01_k».proof.Proof.Gen.Mixer.Frame
public import proofs.«01_k».proof.Proof.Gen.MixerIdeal.Frame
public import proofs.«01_k».proof.Proof.Gen.MixerRefIdeal
public import proofs.«01_k».proof.Proof.Gen.MixerRefIdeal.Step
public import proofs.«01_k».proof.Proof.Gen.MixerRefIdeal.Run
public import proofs.«01_k».proof.Proof.MixerBodyBits
public import proofs.«01_k».proof.Proof.MixerAlg
public import Idealize.ShloMosaic.Adequacy
public import Idealize.ShloMosaic.Init
public import Idealize.ShloMosaic.Lib.Claim

@[expose] public section

noncomputable section

namespace Cert.Proof

open Idealize.ShloMosaic Idealize.SL.Sem

/-- The recurrence's reference ends and leaves its arguments as they were. -/
theorem frame_frontRef : Cert.quiescent_FrontRefIdeal (hFrontRefIdeal := Cert.FrontRefIdeal.Gen.facts) := by
  intro m g _
  refine (θ_run _ _ _).mono (fun r h => ⟨fun c => ?_, sem_eq_zero_of_no_sems (by decide) r.2⟩) (Cert.FrontRefIdeal.HandRun.run m g)
  exact (h c).2.2.2

/-- The feed-forward reference ends and leaves its arguments as they were. -/
theorem frame_mlpRef : Cert.quiescent_MlpRefIdeal (hMlpRefIdeal := Cert.MlpRefIdeal.Gen.facts) := by
  intro m g _
  refine (θ_run _ _ _).mono (fun r h => ⟨fun c => ?_, sem_eq_zero_of_no_sems (by decide) r.2⟩) (Cert.MlpRefIdeal.Value.run m g)
  exact (h c).2

/-- The branch merge's reference ends and leaves its arguments as they were. -/
theorem frame_mixerRef : Cert.quiescent_MixerRefIdeal (hMixerRefIdeal := Cert.MixerRefIdeal.Gen.facts) := by
  intro m g _
  refine (θ_run _ _ _).mono (fun r h => ⟨fun c => ?_, sem_eq_zero_of_no_sems (by decide) r.2⟩) (Cert.MixerRefIdeal.Value.run m g)
  exact (h c).2.2

/-- Everything the certificate claims. -/
theorem claim : Cert.Claim := ⟨Cert.Front.Gen.facts, Cert.FrontIdeal.Gen.facts, Cert.FrontRefIdeal.Gen.facts,
  Cert.Mlp.Gen.facts, Cert.MlpIdeal.Gen.facts, Cert.MlpRefIdeal.Gen.facts,
  Cert.Mixer.Gen.facts, Cert.MixerIdeal.Gen.facts, Cert.MixerRefIdeal.Gen.facts, Cert.MixerIdeal.Hand.pre_facts,
  fun m ρ _ => Cert.Front.Hand.frame m ρ, fun m ρ _ => Cert.FrontIdeal.Hand.frame m ρ, frame_frontRef,
  fun m ρ _ => Cert.Mlp.Gen.frame m ρ, fun m ρ _ => Cert.MlpIdeal.Gen.frame m ρ, frame_mlpRef,
  fun m ρ _ => Cert.Mixer.Hand.frame m ρ, fun m ρ _ => Cert.MixerIdeal.Hand.frame m ρ,
  fun m ρ _ => Cert.MixerIdeal.Hand.frame m ρ, frame_mixerRef, fun m g _ => frame_mixerRef m g trivial,
  trivial, Cert.FrontIdeal.Hand.algebraic, trivial, Cert.MlpIdeal.Hand.algebraic,
  trivial, Cert.MixerIdeal.Hand.algebraic⟩

end Cert.Proof

end
